-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x32x1024x12 : Shape := ⟨4, ![8, 32, 1024, 12]⟩
abbrev S1024x1024 : Shape := ⟨2, ![1024, 1024]⟩
abbrev S32x64 : Shape := ⟨2, ![32, 64]⟩
abbrev S32 : Shape := ⟨1, ![32]⟩
abbrev S1024x32 : Shape := ⟨2, ![1024, 32]⟩
abbrev S1024 : Shape := ⟨1, ![1024]⟩
abbrev S2048x1024 : Shape := ⟨2, ![2048, 1024]⟩
abbrev S2048 : Shape := ⟨1, ![2048]⟩
abbrev S1024x2048 : Shape := ⟨2, ![1024, 2048]⟩
abbrev S8x1024x32x12 : Shape := ⟨4, ![8, 1024, 32, 12]⟩
abbrev S8x1024x384 : Shape := ⟨3, ![8, 1024, 384]⟩
abbrev S32x32 : Shape := ⟨2, ![32, 32]⟩
abbrev S32x12x32 : Shape := ⟨3, ![32, 12, 32]⟩
abbrev S384x32 : Shape := ⟨2, ![384, 32]⟩
abbrev S_ : Shape := ⟨0, ![]⟩
abbrev S1 : Shape := ⟨1, ![1]⟩
abbrev S2 : Shape := ⟨1, ![2]⟩
abbrev S1x1 : Shape := ⟨2, ![1, 1]⟩
abbrev S1x1024x384 : Shape := ⟨3, ![1, 1024, 384]⟩
abbrev S256x1024 : Shape := ⟨2, ![256, 1024]⟩
abbrev S1024x384 : Shape := ⟨2, ![1024, 384]⟩
abbrev S1x32 : Shape := ⟨2, ![1, 32]⟩
abbrev S1x1024 : Shape := ⟨2, ![1, 1024]⟩
abbrev S256x2048 : Shape := ⟨2, ![256, 2048]⟩
abbrev S1x2048 : Shape := ⟨2, ![1, 2048]⟩
abbrev S256 : Shape := ⟨1, ![256]⟩
abbrev S256x1 : Shape := ⟨2, ![256, 1]⟩

abbrev nBuf : Space → Nat
  | .hbm => 308
  | .vmem => 21
  | .smem => 0
  | _ => 0

abbrev hbmTy0_0 (i : Nat) : BufTy := match i % 128 with
  | 0 => ⟨S8x32x1024x12, .f32⟩
  | 1 => ⟨S1024x1024, .f32⟩
  | 2 => ⟨S32x64, .f32⟩
  | 3 => ⟨S32, .f32⟩
  | 4 => ⟨S1024x32, .f32⟩
  | 5 => ⟨S1024, .f32⟩
  | 6 => ⟨S2048x1024, .f32⟩
  | 7 => ⟨S2048, .f32⟩
  | 8 => ⟨S1024x2048, .f32⟩
  | 9 => ⟨S1024, .f32⟩
  | 10 => ⟨S8x1024x32x12, .f32⟩
  | 11 => ⟨S8x1024x384, .f32⟩
  | 12 => ⟨S8x1024x384, .bf16⟩
  | 13 => ⟨S32x32, .f32⟩
  | 14 => ⟨S32x32, .f32⟩
  | 15 => ⟨S32x12x32, .f32⟩
  | 16 => ⟨S384x32, .f32⟩
  | 17 => ⟨S384x32, .bf16⟩
  | 18 => ⟨S32x32, .f32⟩
  | 19 => ⟨S32x32, .f32⟩
  | 20 => ⟨S32x12x32, .f32⟩
  | 21 => ⟨S384x32, .f32⟩
  | 22 => ⟨S384x32, .bf16⟩
  | 23 => ⟨S_, .i32⟩
  | 24 => ⟨S_, .i32⟩
  | 25 => ⟨S_, .i32⟩
  | 26 => ⟨S_, .i32⟩
  | 27 => ⟨S1, .i32⟩
  | 28 => ⟨S_, .i32⟩
  | 29 => ⟨S_, .i32⟩
  | 30 => ⟨S_, .i32⟩
  | 31 => ⟨S1, .i32⟩
  | 32 => ⟨S2, .i32⟩
  | 33 => ⟨S_, .f32⟩
  | 34 => ⟨S_, .f32⟩
  | 35 => ⟨S_, .f32⟩
  | 36 => ⟨S_, .f32⟩
  | 37 => ⟨S1x1, .f32⟩
  | 38 => ⟨S1x1, .f32⟩
  | 39 => ⟨S1, .i32⟩
  | 40 => ⟨S_, .i32⟩
  | 41 => ⟨S1, .i32⟩
  | 42 => ⟨S_, .i32⟩
  | 43 => ⟨S1024x1024, .i64⟩
  | 44 => ⟨S1024x1024, .i64⟩
  | 45 => ⟨S_, .i64⟩
  | 46 => ⟨S1024x1024, .i64⟩
  | 47 => ⟨S1024x1024, .i64⟩
  | 48 => ⟨S_, .i64⟩
  | 49 => ⟨S1024x1024, .i64⟩
  | 50 => ⟨S1024x1024, .i64⟩
  | 51 => ⟨S1024x1024, .i64⟩
  | 52 => ⟨S_, .i64⟩
  | 53 => ⟨S1024x1024, .i64⟩
  | 54 => ⟨S1024x1024, .i64⟩
  | 55 => ⟨S1024x1024, .i32⟩
  | 56 => ⟨S1024x1024, .i32⟩
  | 57 => ⟨S_, .i32⟩
  | 58 => ⟨S_, .i32⟩
  | 59 => ⟨S_, .i32⟩
  | 60 => ⟨S1024x1024, .i32⟩
  | 61 => ⟨S1024x1024, .i32⟩
  | 62 => ⟨S1024x1024, .i32⟩
  | 63 => ⟨S1024x1024, .i32⟩
  | 64 => ⟨S1024x1024, .i32⟩
  | 65 => ⟨S_, .i32⟩
  | 66 => ⟨S1024x1024, .i32⟩
  | 67 => ⟨S1024x1024, .i32⟩
  | 68 => ⟨S_, .i32⟩
  | 69 => ⟨S1024x1024, .i32⟩
  | 70 => ⟨S1024x1024, .i32⟩
  | 71 => ⟨S1024x1024, .i32⟩
  | 72 => ⟨S1024x1024, .i32⟩
  | 73 => ⟨S1024x1024, .i32⟩
  | 74 => ⟨S_, .i32⟩
  | 75 => ⟨S1024x1024, .i32⟩
  | 76 => ⟨S1024x1024, .i32⟩
  | 77 => ⟨S_, .i32⟩
  | 78 => ⟨S1024x1024, .i32⟩
  | 79 => ⟨S1024x1024, .i32⟩
  | 80 => ⟨S1024x1024, .i32⟩
  | 81 => ⟨S1024x1024, .i32⟩
  | 82 => ⟨S1024x1024, .i32⟩
  | 83 => ⟨S_, .i32⟩
  | 84 => ⟨S1024x1024, .i32⟩
  | 85 => ⟨S1024x1024, .i32⟩
  | 86 => ⟨S_, .i32⟩
  | 87 => ⟨S1024x1024, .i32⟩
  | 88 => ⟨S1024x1024, .i32⟩
  | 89 => ⟨S1024x1024, .i32⟩
  | 90 => ⟨S1024x1024, .i32⟩
  | 91 => ⟨S1024x1024, .i32⟩
  | 92 => ⟨S_, .i32⟩
  | 93 => ⟨S1024x1024, .i32⟩
  | 94 => ⟨S1024x1024, .i32⟩
  | 95 => ⟨S_, .i32⟩
  | 96 => ⟨S1024x1024, .i32⟩
  | 97 => ⟨S1024x1024, .i32⟩
  | 98 => ⟨S1024x1024, .i32⟩
  | 99 => ⟨S1024x1024, .i32⟩
  | 100 => ⟨S1024x1024, .i32⟩
  | 101 => ⟨S1024x1024, .i32⟩
  | 102 => ⟨S1024x1024, .i32⟩
  | 103 => ⟨S1024x1024, .i32⟩
  | 104 => ⟨S_, .i32⟩
  | 105 => ⟨S1024x1024, .i32⟩
  | 106 => ⟨S1024x1024, .i32⟩
  | 107 => ⟨S1024x1024, .i32⟩
  | 108 => ⟨S_, .i32⟩
  | 109 => ⟨S1024x1024, .i32⟩
  | 110 => ⟨S1024x1024, .i32⟩
  | 111 => ⟨S_, .i32⟩
  | 112 => ⟨S1024x1024, .i32⟩
  | 113 => ⟨S1024x1024, .i32⟩
  | 114 => ⟨S1024x1024, .i32⟩
  | 115 => ⟨S1024x1024, .i32⟩
  | 116 => ⟨S1024x1024, .i32⟩
  | 117 => ⟨S_, .i32⟩
  | 118 => ⟨S1024x1024, .i32⟩
  | 119 => ⟨S1024x1024, .i32⟩
  | 120 => ⟨S_, .i32⟩
  | 121 => ⟨S1024x1024, .i32⟩
  | 122 => ⟨S1024x1024, .i32⟩
  | 123 => ⟨S1024x1024, .i32⟩
  | 124 => ⟨S1024x1024, .i32⟩
  | 125 => ⟨S1024x1024, .i32⟩
  | 126 => ⟨S_, .i32⟩
  | 127 => ⟨S1024x1024, .i32⟩
  | _ => ⟨S8x32x1024x12, .f32⟩

abbrev hbmTy0_1 (i : Nat) : BufTy := match i % 128 with
  | 0 => ⟨S1024x1024, .i32⟩
  | 1 => ⟨S_, .i32⟩
  | 2 => ⟨S1024x1024, .i32⟩
  | 3 => ⟨S1024x1024, .i32⟩
  | 4 => ⟨S1024x1024, .i32⟩
  | 5 => ⟨S1024x1024, .i32⟩
  | 6 => ⟨S1024x1024, .i32⟩
  | 7 => ⟨S_, .i32⟩
  | 8 => ⟨S1024x1024, .i32⟩
  | 9 => ⟨S1024x1024, .i32⟩
  | 10 => ⟨S_, .i32⟩
  | 11 => ⟨S1024x1024, .i32⟩
  | 12 => ⟨S1024x1024, .i32⟩
  | 13 => ⟨S1024x1024, .i32⟩
  | 14 => ⟨S1024x1024, .i32⟩
  | 15 => ⟨S1024x1024, .i32⟩
  | 16 => ⟨S1024x1024, .i32⟩
  | 17 => ⟨S1024x1024, .i32⟩
  | 18 => ⟨S1024x1024, .i32⟩
  | 19 => ⟨S_, .i32⟩
  | 20 => ⟨S1024x1024, .i32⟩
  | 21 => ⟨S1024x1024, .i32⟩
  | 22 => ⟨S1024x1024, .i32⟩
  | 23 => ⟨S_, .i32⟩
  | 24 => ⟨S1024x1024, .i32⟩
  | 25 => ⟨S1024x1024, .i32⟩
  | 26 => ⟨S_, .i32⟩
  | 27 => ⟨S1024x1024, .i32⟩
  | 28 => ⟨S1024x1024, .i32⟩
  | 29 => ⟨S1024x1024, .i32⟩
  | 30 => ⟨S1024x1024, .i32⟩
  | 31 => ⟨S1024x1024, .i32⟩
  | 32 => ⟨S_, .i32⟩
  | 33 => ⟨S1024x1024, .i32⟩
  | 34 => ⟨S1024x1024, .i32⟩
  | 35 => ⟨S_, .i32⟩
  | 36 => ⟨S1024x1024, .i32⟩
  | 37 => ⟨S1024x1024, .i32⟩
  | 38 => ⟨S1024x1024, .i32⟩
  | 39 => ⟨S1024x1024, .i32⟩
  | 40 => ⟨S1024x1024, .i32⟩
  | 41 => ⟨S_, .i32⟩
  | 42 => ⟨S1024x1024, .i32⟩
  | 43 => ⟨S1024x1024, .i32⟩
  | 44 => ⟨S_, .i32⟩
  | 45 => ⟨S1024x1024, .i32⟩
  | 46 => ⟨S1024x1024, .i32⟩
  | 47 => ⟨S1024x1024, .i32⟩
  | 48 => ⟨S1024x1024, .i32⟩
  | 49 => ⟨S1024x1024, .i32⟩
  | 50 => ⟨S_, .i32⟩
  | 51 => ⟨S1024x1024, .i32⟩
  | 52 => ⟨S1024x1024, .i32⟩
  | 53 => ⟨S_, .i32⟩
  | 54 => ⟨S1024x1024, .i32⟩
  | 55 => ⟨S1024x1024, .i32⟩
  | 56 => ⟨S1024x1024, .i32⟩
  | 57 => ⟨S1024x1024, .i32⟩
  | 58 => ⟨S1024x1024, .i32⟩
  | 59 => ⟨S1024x1024, .i32⟩
  | 60 => ⟨S1024x1024, .i32⟩
  | 61 => ⟨S1024x1024, .i32⟩
  | 62 => ⟨S_, .i32⟩
  | 63 => ⟨S1024x1024, .i32⟩
  | 64 => ⟨S1024x1024, .i32⟩
  | 65 => ⟨S1024x1024, .i32⟩
  | 66 => ⟨S_, .i32⟩
  | 67 => ⟨S1024x1024, .i32⟩
  | 68 => ⟨S1024x1024, .i32⟩
  | 69 => ⟨S_, .i32⟩
  | 70 => ⟨S1024x1024, .i32⟩
  | 71 => ⟨S1024x1024, .i32⟩
  | 72 => ⟨S1024x1024, .i32⟩
  | 73 => ⟨S1024x1024, .i32⟩
  | 74 => ⟨S1024x1024, .i32⟩
  | 75 => ⟨S_, .i32⟩
  | 76 => ⟨S1024x1024, .i32⟩
  | 77 => ⟨S1024x1024, .i32⟩
  | 78 => ⟨S_, .i32⟩
  | 79 => ⟨S1024x1024, .i32⟩
  | 80 => ⟨S1024x1024, .i32⟩
  | 81 => ⟨S1024x1024, .i32⟩
  | 82 => ⟨S1024x1024, .i32⟩
  | 83 => ⟨S1024x1024, .i32⟩
  | 84 => ⟨S_, .i32⟩
  | 85 => ⟨S1024x1024, .i32⟩
  | 86 => ⟨S1024x1024, .i32⟩
  | 87 => ⟨S_, .i32⟩
  | 88 => ⟨S1024x1024, .i32⟩
  | 89 => ⟨S1024x1024, .i32⟩
  | 90 => ⟨S1024x1024, .i32⟩
  | 91 => ⟨S1024x1024, .i32⟩
  | 92 => ⟨S1024x1024, .i32⟩
  | 93 => ⟨S_, .i32⟩
  | 94 => ⟨S1024x1024, .i32⟩
  | 95 => ⟨S1024x1024, .i32⟩
  | 96 => ⟨S_, .i32⟩
  | 97 => ⟨S1024x1024, .i32⟩
  | 98 => ⟨S1024x1024, .i32⟩
  | 99 => ⟨S1024x1024, .i32⟩
  | 100 => ⟨S1024x1024, .i32⟩
  | 101 => ⟨S1024x1024, .i32⟩
  | 102 => ⟨S1024x1024, .i32⟩
  | 103 => ⟨S1024x1024, .i32⟩
  | 104 => ⟨S1024x1024, .i32⟩
  | 105 => ⟨S_, .i32⟩
  | 106 => ⟨S1024x1024, .i32⟩
  | 107 => ⟨S1024x1024, .i32⟩
  | 108 => ⟨S1024x1024, .i32⟩
  | 109 => ⟨S_, .i32⟩
  | 110 => ⟨S1024x1024, .i32⟩
  | 111 => ⟨S1024x1024, .i32⟩
  | 112 => ⟨S_, .i32⟩
  | 113 => ⟨S1024x1024, .i32⟩
  | 114 => ⟨S1024x1024, .i32⟩
  | 115 => ⟨S1024x1024, .i32⟩
  | 116 => ⟨S1024x1024, .i32⟩
  | 117 => ⟨S1024x1024, .i32⟩
  | 118 => ⟨S_, .i32⟩
  | 119 => ⟨S1024x1024, .i32⟩
  | 120 => ⟨S1024x1024, .i32⟩
  | 121 => ⟨S_, .i32⟩
  | 122 => ⟨S1024x1024, .i32⟩
  | 123 => ⟨S1024x1024, .i32⟩
  | 124 => ⟨S1024x1024, .i32⟩
  | 125 => ⟨S1024x1024, .i32⟩
  | 126 => ⟨S1024x1024, .i32⟩
  | 127 => ⟨S_, .i32⟩
  | _ => ⟨S8x32x1024x12, .f32⟩

abbrev hbmTy0_2 (i : Nat) : BufTy := match i % 128 with
  | 0 => ⟨S1024x1024, .i32⟩
  | 1 => ⟨S1024x1024, .i32⟩
  | 2 => ⟨S_, .i32⟩
  | 3 => ⟨S1024x1024, .i32⟩
  | 4 => ⟨S1024x1024, .i32⟩
  | 5 => ⟨S1024x1024, .i32⟩
  | 6 => ⟨S1024x1024, .i32⟩
  | 7 => ⟨S1024x1024, .i32⟩
  | 8 => ⟨S_, .i32⟩
  | 9 => ⟨S1024x1024, .i32⟩
  | 10 => ⟨S1024x1024, .i32⟩
  | 11 => ⟨S_, .i32⟩
  | 12 => ⟨S1024x1024, .i32⟩
  | 13 => ⟨S1024x1024, .i32⟩
  | 14 => ⟨S1024x1024, .i32⟩
  | 15 => ⟨S1024x1024, .i32⟩
  | 16 => ⟨S1024x1024, .i32⟩
  | 17 => ⟨S1024x1024, .i32⟩
  | 18 => ⟨S1024x1024, .i32⟩
  | 19 => ⟨S1024x1024, .i32⟩
  | 20 => ⟨S_, .i32⟩
  | 21 => ⟨S1024x1024, .i32⟩
  | 22 => ⟨S1024x1024, .i32⟩
  | 23 => ⟨S1024x1024, .i32⟩
  | 24 => ⟨S_, .i32⟩
  | 25 => ⟨S1024x1024, .i32⟩
  | 26 => ⟨S1024x1024, .i32⟩
  | 27 => ⟨S_, .i32⟩
  | 28 => ⟨S1024x1024, .i32⟩
  | 29 => ⟨S1024x1024, .i32⟩
  | 30 => ⟨S1024x1024, .f32⟩
  | 31 => ⟨S_, .f32⟩
  | 32 => ⟨S1024x1024, .f32⟩
  | 33 => ⟨S1024x1024, .f32⟩
  | 34 => ⟨S1x1, .f32⟩
  | 35 => ⟨S1024x1024, .f32⟩
  | 36 => ⟨S1024x1024, .f32⟩
  | 37 => ⟨S1024x1024, .f32⟩
  | 38 => ⟨S1024x1024, .f32⟩
  | 39 => ⟨S1024x1024, .f32⟩
  | 40 => ⟨S1024x1024, .f32⟩
  | 41 => ⟨S_, .f32⟩
  | 42 => ⟨S1024x1024, .f32⟩
  | 43 => ⟨S1024x1024, .f32⟩
  | 44 => ⟨S1024x1024, .f32⟩
  | 45 => ⟨S1024x1024, .f32⟩
  | 46 => ⟨S_, .f32⟩
  | 47 => ⟨S1024x1024, .f32⟩
  | 48 => ⟨S1024x1024, .f32⟩
  | 49 => ⟨S1024x1024, .f32⟩
  | 50 => ⟨S1024x1024, .f32⟩
  | 51 => ⟨S1024x1024, .f32⟩
  | _ => ⟨S8x32x1024x12, .f32⟩

abbrev hbmTy (i : Nat) : BufTy := match i / 128 with
  | 0 => hbmTy0_0 i
  | 1 => hbmTy0_1 i
  | 2 => hbmTy0_2 i
  | _ => ⟨S8x32x1024x12, .f32⟩

abbrev bufTy : (tb : Table) → Fin (tcTables nBuf tb) → BufTy
  | .hbm, ⟨i, _⟩ => hbmTy i
  | .local _ .vmem, ⟨0, _⟩ => ⟨S1x1024x384, .bf16⟩
  | .local _ .vmem, ⟨1, _⟩ => ⟨S1x1024x384, .bf16⟩
  | .local _ .vmem, ⟨2, _⟩ => ⟨S1024x1024, .f32⟩
  | .local _ .vmem, ⟨3, _⟩ => ⟨S384x32, .bf16⟩
  | .local _ .vmem, ⟨4, _⟩ => ⟨S384x32, .bf16⟩
  | .local _ .vmem, ⟨5, _⟩ => ⟨S1024x32, .f32⟩
  | .local _ .vmem, ⟨6, _⟩ => ⟨S1024, .f32⟩
  | .local _ .vmem, ⟨7, _⟩ => ⟨S32, .f32⟩
  | .local _ .vmem, ⟨8, _⟩ => ⟨S2048x1024, .f32⟩
  | .local _ .vmem, ⟨9, _⟩ => ⟨S2048, .f32⟩
  | .local _ .vmem, ⟨10, _⟩ => ⟨S1024x2048, .f32⟩
  | .local _ .vmem, ⟨11, _⟩ => ⟨S1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S1024x32, .f32⟩
  | .local _ .vmem, ⟨17, _⟩ => ⟨S1024x1024, .bf16⟩
  | .local _ .vmem, ⟨18, _⟩ => ⟨S1024x1024, .bf16⟩
  | .local _ .vmem, ⟨19, _⟩ => ⟨S2048x1024, .bf16⟩
  | .local _ .vmem, ⟨20, _⟩ => ⟨S1024x2048, .bf16⟩
  | _, _ => ⟨S8x32x1024x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_c_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_v9 : Ref sig .tc := ⟨.hbm, 44, rfl⟩
abbrev main_call0_c : Ref sig .tc := ⟨.hbm, 45, rfl⟩
abbrev main_call0_v10 : Ref sig .tc := ⟨.hbm, 46, rfl⟩
abbrev main_call0_v11 : Ref sig .tc := ⟨.hbm, 47, rfl⟩
abbrev main_call0_c_0 : Ref sig .tc := ⟨.hbm, 48, rfl⟩
abbrev main_call0_v12 : Ref sig .tc := ⟨.hbm, 49, rfl⟩
abbrev main_call0_v13 : Ref sig .tc := ⟨.hbm, 50, rfl⟩
abbrev main_call0_v14 : Ref sig .tc := ⟨.hbm, 51, rfl⟩
abbrev main_call0_c_1 : Ref sig .tc := ⟨.hbm, 52, rfl⟩
abbrev main_call0_v15 : Ref sig .tc := ⟨.hbm, 53, rfl⟩
abbrev main_call0_v16 : Ref sig .tc := ⟨.hbm, 54, rfl⟩
abbrev main_call0_v17 : Ref sig .tc := ⟨.hbm, 55, rfl⟩
abbrev main_call0_v18 : Ref sig .tc := ⟨.hbm, 56, rfl⟩
abbrev main_call0_call0_v0 : Ref sig .tc := ⟨.hbm, 57, rfl⟩
abbrev main_call0_call0_c : Ref sig .tc := ⟨.hbm, 58, rfl⟩
abbrev main_call0_call0_v1 : Ref sig .tc := ⟨.hbm, 59, rfl⟩
abbrev main_call0_call0_v2 : Ref sig .tc := ⟨.hbm, 60, rfl⟩
abbrev main_call0_call0_v3 : Ref sig .tc := ⟨.hbm, 61, rfl⟩
abbrev main_call0_call0_v4 : Ref sig .tc := ⟨.hbm, 62, rfl⟩
abbrev main_call0_call0_v5 : Ref sig .tc := ⟨.hbm, 63, rfl⟩
abbrev main_call0_call0_v6 : Ref sig .tc := ⟨.hbm, 64, rfl⟩
abbrev main_call0_call0_c_0 : Ref sig .tc := ⟨.hbm, 65, rfl⟩
abbrev main_call0_call0_v7 : Ref sig .tc := ⟨.hbm, 66, rfl⟩
abbrev main_call0_call0_v8 : Ref sig .tc := ⟨.hbm, 67, rfl⟩
abbrev main_call0_call0_c_1 : Ref sig .tc := ⟨.hbm, 68, rfl⟩
abbrev main_call0_call0_v9 : Ref sig .tc := ⟨.hbm, 69, rfl⟩
abbrev main_call0_call0_v10 : Ref sig .tc := ⟨.hbm, 70, rfl⟩
abbrev main_call0_call0_v11 : Ref sig .tc := ⟨.hbm, 71, rfl⟩
abbrev main_call0_call0_v12 : Ref sig .tc := ⟨.hbm, 72, rfl⟩
abbrev main_call0_call0_v13 : Ref sig .tc := ⟨.hbm, 73, rfl⟩
abbrev main_call0_call0_c_2 : Ref sig .tc := ⟨.hbm, 74, rfl⟩
abbrev main_call0_call0_v14 : Ref sig .tc := ⟨.hbm, 75, rfl⟩
abbrev main_call0_call0_v15 : Ref sig .tc := ⟨.hbm, 76, rfl⟩
abbrev main_call0_call0_c_3 : Ref sig .tc := ⟨.hbm, 77, rfl⟩
abbrev main_call0_call0_v16 : Ref sig .tc := ⟨.hbm, 78, rfl⟩
abbrev main_call0_call0_v17 : Ref sig .tc := ⟨.hbm, 79, rfl⟩
abbrev main_call0_call0_v18 : Ref sig .tc := ⟨.hbm, 80, rfl⟩
abbrev main_call0_call0_v19 : Ref sig .tc := ⟨.hbm, 81, rfl⟩
abbrev main_call0_call0_v20 : Ref sig .tc := ⟨.hbm, 82, rfl⟩
abbrev main_call0_call0_c_4 : Ref sig .tc := ⟨.hbm, 83, rfl⟩
abbrev main_call0_call0_v21 : Ref sig .tc := ⟨.hbm, 84, rfl⟩
abbrev main_call0_call0_v22 : Ref sig .tc := ⟨.hbm, 85, rfl⟩
abbrev main_call0_call0_c_5 : Ref sig .tc := ⟨.hbm, 86, rfl⟩
abbrev main_call0_call0_v23 : Ref sig .tc := ⟨.hbm, 87, rfl⟩
abbrev main_call0_call0_v24 : Ref sig .tc := ⟨.hbm, 88, rfl⟩
abbrev main_call0_call0_v25 : Ref sig .tc := ⟨.hbm, 89, rfl⟩
abbrev main_call0_call0_v26 : Ref sig .tc := ⟨.hbm, 90, rfl⟩
abbrev main_call0_call0_v27 : Ref sig .tc := ⟨.hbm, 91, rfl⟩
abbrev main_call0_call0_c_6 : Ref sig .tc := ⟨.hbm, 92, rfl⟩
abbrev main_call0_call0_v28 : Ref sig .tc := ⟨.hbm, 93, rfl⟩
abbrev main_call0_call0_v29 : Ref sig .tc := ⟨.hbm, 94, rfl⟩
abbrev main_call0_call0_c_7 : Ref sig .tc := ⟨.hbm, 95, rfl⟩
abbrev main_call0_call0_v30 : Ref sig .tc := ⟨.hbm, 96, rfl⟩
abbrev main_call0_call0_v31 : Ref sig .tc := ⟨.hbm, 97, rfl⟩
abbrev main_call0_call0_v32 : Ref sig .tc := ⟨.hbm, 98, rfl⟩
abbrev main_call0_call0_v33 : Ref sig .tc := ⟨.hbm, 99, rfl⟩
abbrev main_call0_call0_v34 : Ref sig .tc := ⟨.hbm, 100, rfl⟩
abbrev main_call0_call0_v35 : Ref sig .tc := ⟨.hbm, 101, rfl⟩
abbrev main_call0_call0_v36 : Ref sig .tc := ⟨.hbm, 102, rfl⟩
abbrev main_call0_call0_v37 : Ref sig .tc := ⟨.hbm, 103, rfl⟩
abbrev main_call0_call0_c_8 : Ref sig .tc := ⟨.hbm, 104, rfl⟩
abbrev main_call0_call0_v38 : Ref sig .tc := ⟨.hbm, 105, rfl⟩
abbrev main_call0_call0_v39 : Ref sig .tc := ⟨.hbm, 106, rfl⟩
abbrev main_call0_call0_v40 : Ref sig .tc := ⟨.hbm, 107, rfl⟩
abbrev main_call0_call0_c_9 : Ref sig .tc := ⟨.hbm, 108, rfl⟩
abbrev main_call0_call0_v41 : Ref sig .tc := ⟨.hbm, 109, rfl⟩
abbrev main_call0_call0_v42 : Ref sig .tc := ⟨.hbm, 110, rfl⟩
abbrev main_call0_call0_c_10 : Ref sig .tc := ⟨.hbm, 111, rfl⟩
abbrev main_call0_call0_v43 : Ref sig .tc := ⟨.hbm, 112, rfl⟩
abbrev main_call0_call0_v44 : Ref sig .tc := ⟨.hbm, 113, rfl⟩
abbrev main_call0_call0_v45 : Ref sig .tc := ⟨.hbm, 114, rfl⟩
abbrev main_call0_call0_v46 : Ref sig .tc := ⟨.hbm, 115, rfl⟩
abbrev main_call0_call0_v47 : Ref sig .tc := ⟨.hbm, 116, rfl⟩
abbrev main_call0_call0_c_11 : Ref sig .tc := ⟨.hbm, 117, rfl⟩
abbrev main_call0_call0_v48 : Ref sig .tc := ⟨.hbm, 118, rfl⟩
abbrev main_call0_call0_v49 : Ref sig .tc := ⟨.hbm, 119, rfl⟩
abbrev main_call0_call0_c_12 : Ref sig .tc := ⟨.hbm, 120, rfl⟩
abbrev main_call0_call0_v50 : Ref sig .tc := ⟨.hbm, 121, rfl⟩
abbrev main_call0_call0_v51 : Ref sig .tc := ⟨.hbm, 122, rfl⟩
abbrev main_call0_call0_v52 : Ref sig .tc := ⟨.hbm, 123, rfl⟩
abbrev main_call0_call0_v53 : Ref sig .tc := ⟨.hbm, 124, rfl⟩
abbrev main_call0_call0_v54 : Ref sig .tc := ⟨.hbm, 125, rfl⟩
abbrev main_call0_call0_c_13 : Ref sig .tc := ⟨.hbm, 126, rfl⟩
abbrev main_call0_call0_v55 : Ref sig .tc := ⟨.hbm, 127, rfl⟩
abbrev main_call0_call0_v56 : Ref sig .tc := ⟨.hbm, 128, rfl⟩
abbrev main_call0_call0_c_14 : Ref sig .tc := ⟨.hbm, 129, rfl⟩
abbrev main_call0_call0_v57 : Ref sig .tc := ⟨.hbm, 130, rfl⟩
abbrev main_call0_call0_v58 : Ref sig .tc := ⟨.hbm, 131, rfl⟩
abbrev main_call0_call0_v59 : Ref sig .tc := ⟨.hbm, 132, rfl⟩
abbrev main_call0_call0_v60 : Ref sig .tc := ⟨.hbm, 133, rfl⟩
abbrev main_call0_call0_v61 : Ref sig .tc := ⟨.hbm, 134, rfl⟩
abbrev main_call0_call0_c_15 : Ref sig .tc := ⟨.hbm, 135, rfl⟩
abbrev main_call0_call0_v62 : Ref sig .tc := ⟨.hbm, 136, rfl⟩
abbrev main_call0_call0_v63 : Ref sig .tc := ⟨.hbm, 137, rfl⟩
abbrev main_call0_call0_c_16 : Ref sig .tc := ⟨.hbm, 138, rfl⟩
abbrev main_call0_call0_v64 : Ref sig .tc := ⟨.hbm, 139, rfl⟩
abbrev main_call0_call0_v65 : Ref sig .tc := ⟨.hbm, 140, rfl⟩
abbrev main_call0_call0_v66 : Ref sig .tc := ⟨.hbm, 141, rfl⟩
abbrev main_call0_call0_v67 : Ref sig .tc := ⟨.hbm, 142, rfl⟩
abbrev main_call0_call0_v68 : Ref sig .tc := ⟨.hbm, 143, rfl⟩
abbrev main_call0_call0_v69 : Ref sig .tc := ⟨.hbm, 144, rfl⟩
abbrev main_call0_call0_v70 : Ref sig .tc := ⟨.hbm, 145, rfl⟩
abbrev main_call0_call0_v71 : Ref sig .tc := ⟨.hbm, 146, rfl⟩
abbrev main_call0_call0_c_17 : Ref sig .tc := ⟨.hbm, 147, rfl⟩
abbrev main_call0_call0_v72 : Ref sig .tc := ⟨.hbm, 148, rfl⟩
abbrev main_call0_call0_v73 : Ref sig .tc := ⟨.hbm, 149, rfl⟩
abbrev main_call0_call0_v74 : Ref sig .tc := ⟨.hbm, 150, rfl⟩
abbrev main_call0_call0_c_18 : Ref sig .tc := ⟨.hbm, 151, rfl⟩
abbrev main_call0_call0_v75 : Ref sig .tc := ⟨.hbm, 152, rfl⟩
abbrev main_call0_call0_v76 : Ref sig .tc := ⟨.hbm, 153, rfl⟩
abbrev main_call0_call0_c_19 : Ref sig .tc := ⟨.hbm, 154, rfl⟩
abbrev main_call0_call0_v77 : Ref sig .tc := ⟨.hbm, 155, rfl⟩
abbrev main_call0_call0_v78 : Ref sig .tc := ⟨.hbm, 156, rfl⟩
abbrev main_call0_call0_v79 : Ref sig .tc := ⟨.hbm, 157, rfl⟩
abbrev main_call0_call0_v80 : Ref sig .tc := ⟨.hbm, 158, rfl⟩
abbrev main_call0_call0_v81 : Ref sig .tc := ⟨.hbm, 159, rfl⟩
abbrev main_call0_call0_c_20 : Ref sig .tc := ⟨.hbm, 160, rfl⟩
abbrev main_call0_call0_v82 : Ref sig .tc := ⟨.hbm, 161, rfl⟩
abbrev main_call0_call0_v83 : Ref sig .tc := ⟨.hbm, 162, rfl⟩
abbrev main_call0_call0_c_21 : Ref sig .tc := ⟨.hbm, 163, rfl⟩
abbrev main_call0_call0_v84 : Ref sig .tc := ⟨.hbm, 164, rfl⟩
abbrev main_call0_call0_v85 : Ref sig .tc := ⟨.hbm, 165, rfl⟩
abbrev main_call0_call0_v86 : Ref sig .tc := ⟨.hbm, 166, rfl⟩
abbrev main_call0_call0_v87 : Ref sig .tc := ⟨.hbm, 167, rfl⟩
abbrev main_call0_call0_v88 : Ref sig .tc := ⟨.hbm, 168, rfl⟩
abbrev main_call0_call0_c_22 : Ref sig .tc := ⟨.hbm, 169, rfl⟩
abbrev main_call0_call0_v89 : Ref sig .tc := ⟨.hbm, 170, rfl⟩
abbrev main_call0_call0_v90 : Ref sig .tc := ⟨.hbm, 171, rfl⟩
abbrev main_call0_call0_c_23 : Ref sig .tc := ⟨.hbm, 172, rfl⟩
abbrev main_call0_call0_v91 : Ref sig .tc := ⟨.hbm, 173, rfl⟩
abbrev main_call0_call0_v92 : Ref sig .tc := ⟨.hbm, 174, rfl⟩
abbrev main_call0_call0_v93 : Ref sig .tc := ⟨.hbm, 175, rfl⟩
abbrev main_call0_call0_v94 : Ref sig .tc := ⟨.hbm, 176, rfl⟩
abbrev main_call0_call0_v95 : Ref sig .tc := ⟨.hbm, 177, rfl⟩
abbrev main_call0_call0_c_24 : Ref sig .tc := ⟨.hbm, 178, rfl⟩
abbrev main_call0_call0_v96 : Ref sig .tc := ⟨.hbm, 179, rfl⟩
abbrev main_call0_call0_v97 : Ref sig .tc := ⟨.hbm, 180, rfl⟩
abbrev main_call0_call0_c_25 : Ref sig .tc := ⟨.hbm, 181, rfl⟩
abbrev main_call0_call0_v98 : Ref sig .tc := ⟨.hbm, 182, rfl⟩
abbrev main_call0_call0_v99 : Ref sig .tc := ⟨.hbm, 183, rfl⟩
abbrev main_call0_call0_v100 : Ref sig .tc := ⟨.hbm, 184, rfl⟩
abbrev main_call0_call0_v101 : Ref sig .tc := ⟨.hbm, 185, rfl⟩
abbrev main_call0_call0_v102 : Ref sig .tc := ⟨.hbm, 186, rfl⟩
abbrev main_call0_call0_v103 : Ref sig .tc := ⟨.hbm, 187, rfl⟩
abbrev main_call0_call0_v104 : Ref sig .tc := ⟨.hbm, 188, rfl⟩
abbrev main_call0_call0_v105 : Ref sig .tc := ⟨.hbm, 189, rfl⟩
abbrev main_call0_call0_c_26 : Ref sig .tc := ⟨.hbm, 190, rfl⟩
abbrev main_call0_call0_v106 : Ref sig .tc := ⟨.hbm, 191, rfl⟩
abbrev main_call0_call0_v107 : Ref sig .tc := ⟨.hbm, 192, rfl⟩
abbrev main_call0_call0_v108 : Ref sig .tc := ⟨.hbm, 193, rfl⟩
abbrev main_call0_call0_c_27 : Ref sig .tc := ⟨.hbm, 194, rfl⟩
abbrev main_call0_call0_v109 : Ref sig .tc := ⟨.hbm, 195, rfl⟩
abbrev main_call0_call0_v110 : Ref sig .tc := ⟨.hbm, 196, rfl⟩
abbrev main_call0_call0_c_28 : Ref sig .tc := ⟨.hbm, 197, rfl⟩
abbrev main_call0_call0_v111 : Ref sig .tc := ⟨.hbm, 198, rfl⟩
abbrev main_call0_call0_v112 : Ref sig .tc := ⟨.hbm, 199, rfl⟩
abbrev main_call0_call0_v113 : Ref sig .tc := ⟨.hbm, 200, rfl⟩
abbrev main_call0_call0_v114 : Ref sig .tc := ⟨.hbm, 201, rfl⟩
abbrev main_call0_call0_v115 : Ref sig .tc := ⟨.hbm, 202, rfl⟩
abbrev main_call0_call0_c_29 : Ref sig .tc := ⟨.hbm, 203, rfl⟩
abbrev main_call0_call0_v116 : Ref sig .tc := ⟨.hbm, 204, rfl⟩
abbrev main_call0_call0_v117 : Ref sig .tc := ⟨.hbm, 205, rfl⟩
abbrev main_call0_call0_c_30 : Ref sig .tc := ⟨.hbm, 206, rfl⟩
abbrev main_call0_call0_v118 : Ref sig .tc := ⟨.hbm, 207, rfl⟩
abbrev main_call0_call0_v119 : Ref sig .tc := ⟨.hbm, 208, rfl⟩
abbrev main_call0_call0_v120 : Ref sig .tc := ⟨.hbm, 209, rfl⟩
abbrev main_call0_call0_v121 : Ref sig .tc := ⟨.hbm, 210, rfl⟩
abbrev main_call0_call0_v122 : Ref sig .tc := ⟨.hbm, 211, rfl⟩
abbrev main_call0_call0_c_31 : Ref sig .tc := ⟨.hbm, 212, rfl⟩
abbrev main_call0_call0_v123 : Ref sig .tc := ⟨.hbm, 213, rfl⟩
abbrev main_call0_call0_v124 : Ref sig .tc := ⟨.hbm, 214, rfl⟩
abbrev main_call0_call0_c_32 : Ref sig .tc := ⟨.hbm, 215, rfl⟩
abbrev main_call0_call0_v125 : Ref sig .tc := ⟨.hbm, 216, rfl⟩
abbrev main_call0_call0_v126 : Ref sig .tc := ⟨.hbm, 217, rfl⟩
abbrev main_call0_call0_v127 : Ref sig .tc := ⟨.hbm, 218, rfl⟩
abbrev main_call0_call0_v128 : Ref sig .tc := ⟨.hbm, 219, rfl⟩
abbrev main_call0_call0_v129 : Ref sig .tc := ⟨.hbm, 220, rfl⟩
abbrev main_call0_call0_c_33 : Ref sig .tc := ⟨.hbm, 221, rfl⟩
abbrev main_call0_call0_v130 : Ref sig .tc := ⟨.hbm, 222, rfl⟩
abbrev main_call0_call0_v131 : Ref sig .tc := ⟨.hbm, 223, rfl⟩
abbrev main_call0_call0_c_34 : Ref sig .tc := ⟨.hbm, 224, rfl⟩
abbrev main_call0_call0_v132 : Ref sig .tc := ⟨.hbm, 225, rfl⟩
abbrev main_call0_call0_v133 : Ref sig .tc := ⟨.hbm, 226, rfl⟩
abbrev main_call0_call0_v134 : Ref sig .tc := ⟨.hbm, 227, rfl⟩
abbrev main_call0_call0_v135 : Ref sig .tc := ⟨.hbm, 228, rfl⟩
abbrev main_call0_call0_v136 : Ref sig .tc := ⟨.hbm, 229, rfl⟩
abbrev main_call0_call0_v137 : Ref sig .tc := ⟨.hbm, 230, rfl⟩
abbrev main_call0_call0_v138 : Ref sig .tc := ⟨.hbm, 231, rfl⟩
abbrev main_call0_call0_v139 : Ref sig .tc := ⟨.hbm, 232, rfl⟩
abbrev main_call0_call0_c_35 : Ref sig .tc := ⟨.hbm, 233, rfl⟩
abbrev main_call0_call0_v140 : Ref sig .tc := ⟨.hbm, 234, rfl⟩
abbrev main_call0_call0_v141 : Ref sig .tc := ⟨.hbm, 235, rfl⟩
abbrev main_call0_call0_v142 : Ref sig .tc := ⟨.hbm, 236, rfl⟩
abbrev main_call0_call0_c_36 : Ref sig .tc := ⟨.hbm, 237, rfl⟩
abbrev main_call0_call0_v143 : Ref sig .tc := ⟨.hbm, 238, rfl⟩
abbrev main_call0_call0_v144 : Ref sig .tc := ⟨.hbm, 239, rfl⟩
abbrev main_call0_call0_c_37 : Ref sig .tc := ⟨.hbm, 240, rfl⟩
abbrev main_call0_call0_v145 : Ref sig .tc := ⟨.hbm, 241, rfl⟩
abbrev main_call0_call0_v146 : Ref sig .tc := ⟨.hbm, 242, rfl⟩
abbrev main_call0_call0_v147 : Ref sig .tc := ⟨.hbm, 243, rfl⟩
abbrev main_call0_call0_v148 : Ref sig .tc := ⟨.hbm, 244, rfl⟩
abbrev main_call0_call0_v149 : Ref sig .tc := ⟨.hbm, 245, rfl⟩
abbrev main_call0_call0_c_38 : Ref sig .tc := ⟨.hbm, 246, rfl⟩
abbrev main_call0_call0_v150 : Ref sig .tc := ⟨.hbm, 247, rfl⟩
abbrev main_call0_call0_v151 : Ref sig .tc := ⟨.hbm, 248, rfl⟩
abbrev main_call0_call0_c_39 : Ref sig .tc := ⟨.hbm, 249, rfl⟩
abbrev main_call0_call0_v152 : Ref sig .tc := ⟨.hbm, 250, rfl⟩
abbrev main_call0_call0_v153 : Ref sig .tc := ⟨.hbm, 251, rfl⟩
abbrev main_call0_call0_v154 : Ref sig .tc := ⟨.hbm, 252, rfl⟩
abbrev main_call0_call0_v155 : Ref sig .tc := ⟨.hbm, 253, rfl⟩
abbrev main_call0_call0_v156 : Ref sig .tc := ⟨.hbm, 254, rfl⟩
abbrev main_call0_call0_c_40 : Ref sig .tc := ⟨.hbm, 255, rfl⟩
abbrev main_call0_call0_v157 : Ref sig .tc := ⟨.hbm, 256, rfl⟩
abbrev main_call0_call0_v158 : Ref sig .tc := ⟨.hbm, 257, rfl⟩
abbrev main_call0_call0_c_41 : Ref sig .tc := ⟨.hbm, 258, rfl⟩
abbrev main_call0_call0_v159 : Ref sig .tc := ⟨.hbm, 259, rfl⟩
abbrev main_call0_call0_v160 : Ref sig .tc := ⟨.hbm, 260, rfl⟩
abbrev main_call0_call0_v161 : Ref sig .tc := ⟨.hbm, 261, rfl⟩
abbrev main_call0_call0_v162 : Ref sig .tc := ⟨.hbm, 262, rfl⟩
abbrev main_call0_call0_v163 : Ref sig .tc := ⟨.hbm, 263, rfl⟩
abbrev main_call0_call0_c_42 : Ref sig .tc := ⟨.hbm, 264, rfl⟩
abbrev main_call0_call0_v164 : Ref sig .tc := ⟨.hbm, 265, rfl⟩
abbrev main_call0_call0_v165 : Ref sig .tc := ⟨.hbm, 266, rfl⟩
abbrev main_call0_call0_c_43 : Ref sig .tc := ⟨.hbm, 267, rfl⟩
abbrev main_call0_call0_v166 : Ref sig .tc := ⟨.hbm, 268, rfl⟩
abbrev main_call0_call0_v167 : Ref sig .tc := ⟨.hbm, 269, rfl⟩
abbrev main_call0_call0_v168 : Ref sig .tc := ⟨.hbm, 270, rfl⟩
abbrev main_call0_call0_v169 : Ref sig .tc := ⟨.hbm, 271, rfl⟩
abbrev main_call0_call0_v170 : Ref sig .tc := ⟨.hbm, 272, rfl⟩
abbrev main_call0_v19_0 : Ref sig .tc := ⟨.hbm, 273, rfl⟩
abbrev main_call0_call0_v172 : Ref sig .tc := ⟨.hbm, 274, rfl⟩
abbrev main_call0_call0_v173 : Ref sig .tc := ⟨.hbm, 275, rfl⟩
abbrev main_call0_call0_c_44 : Ref sig .tc := ⟨.hbm, 276, rfl⟩
abbrev main_call0_call0_v174 : Ref sig .tc := ⟨.hbm, 277, rfl⟩
abbrev main_call0_v19_1 : Ref sig .tc := ⟨.hbm, 278, rfl⟩
abbrev main_call0_v20 : Ref sig .tc := ⟨.hbm, 279, rfl⟩
abbrev main_call0_c_2 : Ref sig .tc := ⟨.hbm, 280, rfl⟩
abbrev main_call0_v21 : Ref sig .tc := ⟨.hbm, 281, rfl⟩
abbrev main_call0_v22 : Ref sig .tc := ⟨.hbm, 282, rfl⟩
abbrev main_call0_c_3 : Ref sig .tc := ⟨.hbm, 283, rfl⟩
abbrev main_call0_v23 : Ref sig .tc := ⟨.hbm, 284, rfl⟩
abbrev main_call0_v24 : Ref sig .tc := ⟨.hbm, 285, rfl⟩
abbrev main_call0_v25 : Ref sig .tc := ⟨.hbm, 286, rfl⟩
abbrev main_call0_cst : Ref sig .tc := ⟨.hbm, 287, rfl⟩
abbrev main_call0_v26 : Ref sig .tc := ⟨.hbm, 288, rfl⟩
abbrev main_call0_v27 : Ref sig .tc := ⟨.hbm, 289, rfl⟩
abbrev main_call0_v28 : Ref sig .tc := ⟨.hbm, 290, rfl⟩
abbrev main_call0_v29 : Ref sig .tc := ⟨.hbm, 291, rfl⟩
abbrev main_call0_v30 : Ref sig .tc := ⟨.hbm, 292, rfl⟩
abbrev main_call0_v31 : Ref sig .tc := ⟨.hbm, 293, rfl⟩
abbrev main_call0_v32 : Ref sig .tc := ⟨.hbm, 294, rfl⟩
abbrev main_call0_v33 : Ref sig .tc := ⟨.hbm, 295, rfl⟩
abbrev main_v20 : Ref sig .tc := ⟨.hbm, 296, rfl⟩
abbrev main_cst_3 : Ref sig .tc := ⟨.hbm, 297, rfl⟩
abbrev main_v21 : Ref sig .tc := ⟨.hbm, 298, rfl⟩
abbrev main_v22 : Ref sig .tc := ⟨.hbm, 299, rfl⟩
abbrev main_v23 : Ref sig .tc := ⟨.hbm, 300, rfl⟩
abbrev main_v24 : Ref sig .tc := ⟨.hbm, 301, rfl⟩
abbrev main_cst_4 : Ref sig .tc := ⟨.hbm, 302, rfl⟩
abbrev main_v25 : Ref sig .tc := ⟨.hbm, 303, rfl⟩
abbrev main_v26 : Ref sig .tc := ⟨.hbm, 304, rfl⟩
abbrev main_v27 : Ref sig .tc := ⟨.hbm, 305, rfl⟩
abbrev main_v28 : Ref sig .tc := ⟨.hbm, 306, rfl⟩
abbrev main_v29 : Ref sig .tc := ⟨.hbm, 307, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![12], ![false]⟩

def k0_cond4 (i : grid0.Coords) : BitVec 1 :=
  let arg0 : BitVec 32 := BitVec.ofNat 32 (i 0).val
  let c8_i32_3 : BitVec 32 := 8#32
  let v9 : BitVec 1 := Scalar.cmpi .sge arg0 c8_i32_3
  let v10 : BitVec 32 := Scalar.extui v9
  let c0_i32_4 : BitVec 32 := 0#32
  let v11 : BitVec 1 := Scalar.cmpi .ne v10 c0_i32_4
  v11

def k0_off1 (i : grid0.Coords) : Fin 2 → Nat :=
  let arg0 : BitVec 32 := BitVec.ofNat 32 (i 0).val
  let c8_i32_5 : BitVec 32 := 8#32
  let v12 : BitVec 32 := Scalar.subi arg0 c8_i32_5
  let c256_i32 : BitVec 32 := 256#32
  let v13 : BitVec 32 := Scalar.muli v12 c256_i32
  let v14 : Index := Scalar.indexCast v13
  let c0 : Index := 0#32
  ![v14.toNat, 0]
def cc0_transform_0 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_12 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S1x1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S384x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S8x32x1024x12 : Shape := ⟨4, ![8, 32, 1024, 12]⟩
abbrev S1024x1024 : Shape := ⟨2, ![1024, 1024]⟩
abbrev S32x64 : Shape := ⟨2, ![32, 64]⟩
abbrev S32 : Shape := ⟨1, ![32]⟩
abbrev S1024x32 : Shape := ⟨2, ![1024, 32]⟩
abbrev S1024 : Shape := ⟨1, ![1024]⟩
abbrev S2048x1024 : Shape := ⟨2, ![2048, 1024]⟩
abbrev S2048 : Shape := ⟨1, ![2048]⟩
abbrev S1024x2048 : Shape := ⟨2, ![1024, 2048]⟩
abbrev S1024x8x32x12 : Shape := ⟨4, ![1024, 8, 32, 12]⟩
abbrev S8x64x1024x12 : Shape := ⟨4, ![8, 64, 1024, 12]⟩
abbrev S32x8x1024x12 : Shape := ⟨4, ![32, 8, 1024, 12]⟩
abbrev S1x32x1x1 : Shape := ⟨4, ![1, 32, 1, 1]⟩
abbrev S_ : Shape := ⟨0, ![]⟩
abbrev S32x1024x12 : Shape := ⟨3, ![32, 1024, 12]⟩
abbrev S32x1024 : Shape := ⟨2, ![32, 1024]⟩
abbrev S1x1024 : Shape := ⟨2, ![1, 1024]⟩
abbrev S1x2048 : Shape := ⟨2, ![1, 2048]⟩
abbrev S1024x1 : Shape := ⟨2, ![1024, 1]⟩
abbrev S1 : Shape := ⟨1, ![1]⟩
abbrev S2 : Shape := ⟨1, ![2]⟩
abbrev S1x1 : Shape := ⟨2, ![1, 1]⟩

abbrev nBuf : Space → Nat
  | .hbm => 380
  | .vmem => 0
  | .smem => 0
  | _ => 0

abbrev hbmTy0_0 (i : Nat) : BufTy := match i % 128 with
  | 0 => ⟨S8x32x1024x12, .f32⟩
  | 1 => ⟨S1024x1024, .f32⟩
  | 2 => ⟨S32x64, .f32⟩
  | 3 => ⟨S32, .f32⟩
  | 4 => ⟨S1024x32, .f32⟩
  | 5 => ⟨S1024, .f32⟩
  | 6 => ⟨S2048x1024, .f32⟩
  | 7 => ⟨S2048, .f32⟩
  | 8 => ⟨S1024x2048, .f32⟩
  | 9 => ⟨S1024, .f32⟩
  | 10 => ⟨S1024x8x32x12, .f32⟩
  | 11 => ⟨S8x32x1024x12, .f32⟩
  | 12 => ⟨S8x64x1024x12, .f32⟩
  | 13 => ⟨S32x8x1024x12, .f32⟩
  | 14 => ⟨S8x32x1024x12, .f32⟩
  | 15 => ⟨S1x32x1x1, .f32⟩
  | 16 => ⟨S8x32x1024x12, .f32⟩
  | 17 => ⟨S8x32x1024x12, .f32⟩
  | 18 => ⟨S_, .f32⟩
  | 19 => ⟨S32x1024x12, .f32⟩
  | 20 => ⟨S_, .f32⟩
  | 21 => ⟨S32x1024, .f32⟩
  | 22 => ⟨S1024x32, .f32⟩
  | 23 => ⟨S32x1024, .f32⟩
  | 24 => ⟨S1024x1024, .f32⟩
  | 25 => ⟨S1x1024, .f32⟩
  | 26 => ⟨S1024x1024, .f32⟩
  | 27 => ⟨S1024x1024, .f32⟩
  | 28 => ⟨S1024x1024, .f32⟩
  | 29 => ⟨S1024x2048, .f32⟩
  | 30 => ⟨S1024x2048, .f32⟩
  | 31 => ⟨S1x2048, .f32⟩
  | 32 => ⟨S1024x2048, .f32⟩
  | 33 => ⟨S1024x2048, .f32⟩
  | 34 => ⟨S1024x2048, .f32⟩
  | 35 => ⟨S2048x1024, .f32⟩
  | 36 => ⟨S1024x1024, .f32⟩
  | 37 => ⟨S1x1024, .f32⟩
  | 38 => ⟨S1024x1024, .f32⟩
  | 39 => ⟨S1024x1024, .f32⟩
  | 40 => ⟨S1024x1024, .f32⟩
  | 41 => ⟨S_, .f32⟩
  | 42 => ⟨S1024, .f32⟩
  | 43 => ⟨S_, .f32⟩
  | 44 => ⟨S1024, .f32⟩
  | 45 => ⟨S1024, .f32⟩
  | 46 => ⟨S1024x1, .f32⟩
  | 47 => ⟨S1024x1024, .f32⟩
  | 48 => ⟨S1024x1024, .f32⟩
  | 49 => ⟨S1024x1024, .f32⟩
  | 50 => ⟨S_, .f32⟩
  | 51 => ⟨S1024, .f32⟩
  | 52 => ⟨S1024x1, .f32⟩
  | 53 => ⟨S1024x1, .f32⟩
  | 54 => ⟨S1024x1024, .f32⟩
  | 55 => ⟨S1024x1024, .f32⟩
  | 56 => ⟨S_, .i32⟩
  | 57 => ⟨S_, .i32⟩
  | 58 => ⟨S_, .i32⟩
  | 59 => ⟨S_, .i32⟩
  | 60 => ⟨S1, .i32⟩
  | 61 => ⟨S_, .i32⟩
  | 62 => ⟨S_, .i32⟩
  | 63 => ⟨S_, .i32⟩
  | 64 => ⟨S1, .i32⟩
  | 65 => ⟨S2, .i32⟩
  | 66 => ⟨S_, .f32⟩
  | 67 => ⟨S_, .f32⟩
  | 68 => ⟨S_, .f32⟩
  | 69 => ⟨S_, .f32⟩
  | 70 => ⟨S1x1, .f32⟩
  | 71 => ⟨S1x1, .f32⟩
  | 72 => ⟨S1, .i32⟩
  | 73 => ⟨S_, .i32⟩
  | 74 => ⟨S1, .i32⟩
  | 75 => ⟨S_, .i32⟩
  | 76 => ⟨S1024x1024, .i64⟩
  | 77 => ⟨S1024x1024, .i64⟩
  | 78 => ⟨S_, .i64⟩
  | 79 => ⟨S1024x1024, .i64⟩
  | 80 => ⟨S1024x1024, .i64⟩
  | 81 => ⟨S_, .i64⟩
  | 82 => ⟨S1024x1024, .i64⟩
  | 83 => ⟨S1024x1024, .i64⟩
  | 84 => ⟨S1024x1024, .i64⟩
  | 85 => ⟨S_, .i64⟩
  | 86 => ⟨S1024x1024, .i64⟩
  | 87 => ⟨S1024x1024, .i64⟩
  | 88 => ⟨S1024x1024, .i32⟩
  | 89 => ⟨S1024x1024, .i32⟩
  | 90 => ⟨S_, .i32⟩
  | 91 => ⟨S_, .i32⟩
  | 92 => ⟨S_, .i32⟩
  | 93 => ⟨S1024x1024, .i32⟩
  | 94 => ⟨S1024x1024, .i32⟩
  | 95 => ⟨S1024x1024, .i32⟩
  | 96 => ⟨S1024x1024, .i32⟩
  | 97 => ⟨S1024x1024, .i32⟩
  | 98 => ⟨S_, .i32⟩
  | 99 => ⟨S1024x1024, .i32⟩
  | 100 => ⟨S1024x1024, .i32⟩
  | 101 => ⟨S_, .i32⟩
  | 102 => ⟨S1024x1024, .i32⟩
  | 103 => ⟨S1024x1024, .i32⟩
  | 104 => ⟨S1024x1024, .i32⟩
  | 105 => ⟨S1024x1024, .i32⟩
  | 106 => ⟨S1024x1024, .i32⟩
  | 107 => ⟨S_, .i32⟩
  | 108 => ⟨S1024x1024, .i32⟩
  | 109 => ⟨S1024x1024, .i32⟩
  | 110 => ⟨S_, .i32⟩
  | 111 => ⟨S1024x1024, .i32⟩
  | 112 => ⟨S1024x1024, .i32⟩
  | 113 => ⟨S1024x1024, .i32⟩
  | 114 => ⟨S1024x1024, .i32⟩
  | 115 => ⟨S1024x1024, .i32⟩
  | 116 => ⟨S_, .i32⟩
  | 117 => ⟨S1024x1024, .i32⟩
  | 118 => ⟨S1024x1024, .i32⟩
  | 119 => ⟨S_, .i32⟩
  | 120 => ⟨S1024x1024, .i32⟩
  | 121 => ⟨S1024x1024, .i32⟩
  | 122 => ⟨S1024x1024, .i32⟩
  | 123 => ⟨S1024x1024, .i32⟩
  | 124 => ⟨S1024x1024, .i32⟩
  | 125 => ⟨S_, .i32⟩
  | 126 => ⟨S1024x1024, .i32⟩
  | 127 => ⟨S1024x1024, .i32⟩
  | _ => ⟨S8x32x1024x12, .f32⟩

abbrev hbmTy0_1 (i : Nat) : BufTy := match i % 128 with
  | 0 => ⟨S_, .i32⟩
  | 1 => ⟨S1024x1024, .i32⟩
  | 2 => ⟨S1024x1024, .i32⟩
  | 3 => ⟨S1024x1024, .i32⟩
  | 4 => ⟨S1024x1024, .i32⟩
  | 5 => ⟨S1024x1024, .i32⟩
  | 6 => ⟨S1024x1024, .i32⟩
  | 7 => ⟨S1024x1024, .i32⟩
  | 8 => ⟨S1024x1024, .i32⟩
  | 9 => ⟨S_, .i32⟩
  | 10 => ⟨S1024x1024, .i32⟩
  | 11 => ⟨S1024x1024, .i32⟩
  | 12 => ⟨S1024x1024, .i32⟩
  | 13 => ⟨S_, .i32⟩
  | 14 => ⟨S1024x1024, .i32⟩
  | 15 => ⟨S1024x1024, .i32⟩
  | 16 => ⟨S_, .i32⟩
  | 17 => ⟨S1024x1024, .i32⟩
  | 18 => ⟨S1024x1024, .i32⟩
  | 19 => ⟨S1024x1024, .i32⟩
  | 20 => ⟨S1024x1024, .i32⟩
  | 21 => ⟨S1024x1024, .i32⟩
  | 22 => ⟨S_, .i32⟩
  | 23 => ⟨S1024x1024, .i32⟩
  | 24 => ⟨S1024x1024, .i32⟩
  | 25 => ⟨S_, .i32⟩
  | 26 => ⟨S1024x1024, .i32⟩
  | 27 => ⟨S1024x1024, .i32⟩
  | 28 => ⟨S1024x1024, .i32⟩
  | 29 => ⟨S1024x1024, .i32⟩
  | 30 => ⟨S1024x1024, .i32⟩
  | 31 => ⟨S_, .i32⟩
  | 32 => ⟨S1024x1024, .i32⟩
  | 33 => ⟨S1024x1024, .i32⟩
  | 34 => ⟨S_, .i32⟩
  | 35 => ⟨S1024x1024, .i32⟩
  | 36 => ⟨S1024x1024, .i32⟩
  | 37 => ⟨S1024x1024, .i32⟩
  | 38 => ⟨S1024x1024, .i32⟩
  | 39 => ⟨S1024x1024, .i32⟩
  | 40 => ⟨S_, .i32⟩
  | 41 => ⟨S1024x1024, .i32⟩
  | 42 => ⟨S1024x1024, .i32⟩
  | 43 => ⟨S_, .i32⟩
  | 44 => ⟨S1024x1024, .i32⟩
  | 45 => ⟨S1024x1024, .i32⟩
  | 46 => ⟨S1024x1024, .i32⟩
  | 47 => ⟨S1024x1024, .i32⟩
  | 48 => ⟨S1024x1024, .i32⟩
  | 49 => ⟨S1024x1024, .i32⟩
  | 50 => ⟨S1024x1024, .i32⟩
  | 51 => ⟨S1024x1024, .i32⟩
  | 52 => ⟨S_, .i32⟩
  | 53 => ⟨S1024x1024, .i32⟩
  | 54 => ⟨S1024x1024, .i32⟩
  | 55 => ⟨S1024x1024, .i32⟩
  | 56 => ⟨S_, .i32⟩
  | 57 => ⟨S1024x1024, .i32⟩
  | 58 => ⟨S1024x1024, .i32⟩
  | 59 => ⟨S_, .i32⟩
  | 60 => ⟨S1024x1024, .i32⟩
  | 61 => ⟨S1024x1024, .i32⟩
  | 62 => ⟨S1024x1024, .i32⟩
  | 63 => ⟨S1024x1024, .i32⟩
  | 64 => ⟨S1024x1024, .i32⟩
  | 65 => ⟨S_, .i32⟩
  | 66 => ⟨S1024x1024, .i32⟩
  | 67 => ⟨S1024x1024, .i32⟩
  | 68 => ⟨S_, .i32⟩
  | 69 => ⟨S1024x1024, .i32⟩
  | 70 => ⟨S1024x1024, .i32⟩
  | 71 => ⟨S1024x1024, .i32⟩
  | 72 => ⟨S1024x1024, .i32⟩
  | 73 => ⟨S1024x1024, .i32⟩
  | 74 => ⟨S_, .i32⟩
  | 75 => ⟨S1024x1024, .i32⟩
  | 76 => ⟨S1024x1024, .i32⟩
  | 77 => ⟨S_, .i32⟩
  | 78 => ⟨S1024x1024, .i32⟩
  | 79 => ⟨S1024x1024, .i32⟩
  | 80 => ⟨S1024x1024, .i32⟩
  | 81 => ⟨S1024x1024, .i32⟩
  | 82 => ⟨S1024x1024, .i32⟩
  | 83 => ⟨S_, .i32⟩
  | 84 => ⟨S1024x1024, .i32⟩
  | 85 => ⟨S1024x1024, .i32⟩
  | 86 => ⟨S_, .i32⟩
  | 87 => ⟨S1024x1024, .i32⟩
  | 88 => ⟨S1024x1024, .i32⟩
  | 89 => ⟨S1024x1024, .i32⟩
  | 90 => ⟨S1024x1024, .i32⟩
  | 91 => ⟨S1024x1024, .i32⟩
  | 92 => ⟨S1024x1024, .i32⟩
  | 93 => ⟨S1024x1024, .i32⟩
  | 94 => ⟨S1024x1024, .i32⟩
  | 95 => ⟨S_, .i32⟩
  | 96 => ⟨S1024x1024, .i32⟩
  | 97 => ⟨S1024x1024, .i32⟩
  | 98 => ⟨S1024x1024, .i32⟩
  | 99 => ⟨S_, .i32⟩
  | 100 => ⟨S1024x1024, .i32⟩
  | 101 => ⟨S1024x1024, .i32⟩
  | 102 => ⟨S_, .i32⟩
  | 103 => ⟨S1024x1024, .i32⟩
  | 104 => ⟨S1024x1024, .i32⟩
  | 105 => ⟨S1024x1024, .i32⟩
  | 106 => ⟨S1024x1024, .i32⟩
  | 107 => ⟨S1024x1024, .i32⟩
  | 108 => ⟨S_, .i32⟩
  | 109 => ⟨S1024x1024, .i32⟩
  | 110 => ⟨S1024x1024, .i32⟩
  | 111 => ⟨S_, .i32⟩
  | 112 => ⟨S1024x1024, .i32⟩
  | 113 => ⟨S1024x1024, .i32⟩
  | 114 => ⟨S1024x1024, .i32⟩
  | 115 => ⟨S1024x1024, .i32⟩
  | 116 => ⟨S1024x1024, .i32⟩
  | 117 => ⟨S_, .i32⟩
  | 118 => ⟨S1024x1024, .i32⟩
  | 119 => ⟨S1024x1024, .i32⟩
  | 120 => ⟨S_, .i32⟩
  | 121 => ⟨S1024x1024, .i32⟩
  | 122 => ⟨S1024x1024, .i32⟩
  | 123 => ⟨S1024x1024, .i32⟩
  | 124 => ⟨S1024x1024, .i32⟩
  | 125 => ⟨S1024x1024, .i32⟩
  | 126 => ⟨S_, .i32⟩
  | 127 => ⟨S1024x1024, .i32⟩
  | _ => ⟨S8x32x1024x12, .f32⟩

abbrev hbmTy0_2 (i : Nat) : BufTy := match i % 128 with
  | 0 => ⟨S1024x1024, .i32⟩
  | 1 => ⟨S_, .i32⟩
  | 2 => ⟨S1024x1024, .i32⟩
  | 3 => ⟨S1024x1024, .i32⟩
  | 4 => ⟨S1024x1024, .i32⟩
  | 5 => ⟨S1024x1024, .i32⟩
  | 6 => ⟨S1024x1024, .i32⟩
  | 7 => ⟨S1024x1024, .i32⟩
  | 8 => ⟨S1024x1024, .i32⟩
  | 9 => ⟨S1024x1024, .i32⟩
  | 10 => ⟨S_, .i32⟩
  | 11 => ⟨S1024x1024, .i32⟩
  | 12 => ⟨S1024x1024, .i32⟩
  | 13 => ⟨S1024x1024, .i32⟩
  | 14 => ⟨S_, .i32⟩
  | 15 => ⟨S1024x1024, .i32⟩
  | 16 => ⟨S1024x1024, .i32⟩
  | 17 => ⟨S_, .i32⟩
  | 18 => ⟨S1024x1024, .i32⟩
  | 19 => ⟨S1024x1024, .i32⟩
  | 20 => ⟨S1024x1024, .i32⟩
  | 21 => ⟨S1024x1024, .i32⟩
  | 22 => ⟨S1024x1024, .i32⟩
  | 23 => ⟨S_, .i32⟩
  | 24 => ⟨S1024x1024, .i32⟩
  | 25 => ⟨S1024x1024, .i32⟩
  | 26 => ⟨S_, .i32⟩
  | 27 => ⟨S1024x1024, .i32⟩
  | 28 => ⟨S1024x1024, .i32⟩
  | 29 => ⟨S1024x1024, .i32⟩
  | 30 => ⟨S1024x1024, .i32⟩
  | 31 => ⟨S1024x1024, .i32⟩
  | 32 => ⟨S_, .i32⟩
  | 33 => ⟨S1024x1024, .i32⟩
  | 34 => ⟨S1024x1024, .i32⟩
  | 35 => ⟨S_, .i32⟩
  | 36 => ⟨S1024x1024, .i32⟩
  | 37 => ⟨S1024x1024, .i32⟩
  | 38 => ⟨S1024x1024, .i32⟩
  | 39 => ⟨S1024x1024, .i32⟩
  | 40 => ⟨S1024x1024, .i32⟩
  | 41 => ⟨S_, .i32⟩
  | 42 => ⟨S1024x1024, .i32⟩
  | 43 => ⟨S1024x1024, .i32⟩
  | 44 => ⟨S_, .i32⟩
  | 45 => ⟨S1024x1024, .i32⟩
  | 46 => ⟨S1024x1024, .i32⟩
  | 47 => ⟨S1024x1024, .i32⟩
  | 48 => ⟨S1024x1024, .i32⟩
  | 49 => ⟨S1024x1024, .i32⟩
  | 50 => ⟨S1024x1024, .i32⟩
  | 51 => ⟨S1024x1024, .i32⟩
  | 52 => ⟨S1024x1024, .i32⟩
  | 53 => ⟨S_, .i32⟩
  | 54 => ⟨S1024x1024, .i32⟩
  | 55 => ⟨S1024x1024, .i32⟩
  | 56 => ⟨S1024x1024, .i32⟩
  | 57 => ⟨S_, .i32⟩
  | 58 => ⟨S1024x1024, .i32⟩
  | 59 => ⟨S1024x1024, .i32⟩
  | 60 => ⟨S_, .i32⟩
  | 61 => ⟨S1024x1024, .i32⟩
  | 62 => ⟨S1024x1024, .i32⟩
  | 63 => ⟨S1024x1024, .f32⟩
  | 64 => ⟨S_, .f32⟩
  | 65 => ⟨S1024x1024, .f32⟩
  | 66 => ⟨S1024x1024, .f32⟩
  | 67 => ⟨S1x1, .f32⟩
  | 68 => ⟨S1024x1024, .f32⟩
  | 69 => ⟨S1024x1024, .f32⟩
  | 70 => ⟨S1024x1024, .f32⟩
  | 71 => ⟨S1024x1024, .f32⟩
  | 72 => ⟨S1024x1024, .f32⟩
  | 73 => ⟨S1024x1024, .f32⟩
  | 74 => ⟨S_, .f32⟩
  | 75 => ⟨S1024x1024, .f32⟩
  | 76 => ⟨S1024x1024, .f32⟩
  | 77 => ⟨S1024x1024, .f32⟩
  | 78 => ⟨S1024x1024, .f32⟩
  | 79 => ⟨S_, .f32⟩
  | 80 => ⟨S1024x1024, .f32⟩
  | 81 => ⟨S1024x1024, .f32⟩
  | 82 => ⟨S1024x1024, .f32⟩
  | 83 => ⟨S1024x1024, .f32⟩
  | 84 => ⟨S1024x1024, .f32⟩
  | 85 => ⟨S_, .f32⟩
  | 86 => ⟨S1024x1024, .f32⟩
  | 87 => ⟨S1024x1024, .f32⟩
  | 88 => ⟨S_, .f32⟩
  | 89 => ⟨S1024, .f32⟩
  | 90 => ⟨S_, .f32⟩
  | 91 => ⟨S1024, .f32⟩
  | 92 => ⟨S1024, .f32⟩
  | 93 => ⟨S1024x1, .f32⟩
  | 94 => ⟨S1024x1024, .f32⟩
  | 95 => ⟨S1024x1024, .f32⟩
  | 96 => ⟨S1024x1024, .f32⟩
  | 97 => ⟨S_, .f32⟩
  | 98 => ⟨S1024, .f32⟩
  | 99 => ⟨S1024x1, .f32⟩
  | 100 => ⟨S1024x1024, .f32⟩
  | 101 => ⟨S1024x1024, .f32⟩
  | 102 => ⟨S1024x1024, .i32⟩
  | 103 => ⟨S_, .f32⟩
  | 104 => ⟨S_, .i32⟩
  | 105 => ⟨S1024, .f32⟩
  | 106 => ⟨S1024, .i32⟩
  | 107 => ⟨S1024x1, .i32⟩
  | 108 => ⟨S1x1024, .i32⟩
  | 109 => ⟨S1024x1024, .i32⟩
  | 110 => ⟨S1024x1024, .i32⟩
  | 111 => ⟨S1024x1024, .i1⟩
  | 112 => ⟨S1024x1024, .f32⟩
  | 113 => ⟨S1024x1024, .f32⟩
  | 114 => ⟨S1024x1024, .f32⟩
  | 115 => ⟨S1024x1024, .i32⟩
  | 116 => ⟨S1024x1024, .i32⟩
  | 117 => ⟨S_, .i32⟩
  | 118 => ⟨S1024x1024, .i32⟩
  | 119 => ⟨S1024x1024, .i32⟩
  | 120 => ⟨S1024x1024, .i1⟩
  | 121 => ⟨S_, .f32⟩
  | 122 => ⟨S1024x1024, .f32⟩
  | 123 => ⟨S1024x1024, .f32⟩
  | _ => ⟨S8x32x1024x12, .f32⟩

abbrev hbmTy (i : Nat) : BufTy := match i / 128 with
  | 0 => hbmTy0_0 i
  | 1 => hbmTy0_1 i
  | 2 => hbmTy0_2 i
  | _ => ⟨S8x32x1024x12, .f32⟩

abbrev bufTy : (tb : Table) → Fin (tcTables nBuf tb) → BufTy
  | .hbm, ⟨i, _⟩ => hbmTy i
  | _, _ => ⟨S8x32x1024x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call0_cst : Ref sig .tc := ⟨.hbm, 41, rfl⟩
abbrev main_call0_v0 : Ref sig .tc := ⟨.hbm, 42, rfl⟩
abbrev main_call0_cst_0 : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_v5 : Ref sig .tc := ⟨.hbm, 48, rfl⟩
abbrev main_call0_v6 : Ref sig .tc := ⟨.hbm, 49, rfl⟩
abbrev main_call0_cst_1 : Ref sig .tc := ⟨.hbm, 50, rfl⟩
abbrev main_call0_v7 : Ref sig .tc := ⟨.hbm, 51, rfl⟩
abbrev main_call0_v8 : Ref sig .tc := ⟨.hbm, 52, rfl⟩
abbrev main_call0_v9 : Ref sig .tc := ⟨.hbm, 53, rfl⟩
abbrev main_call0_v10 : Ref sig .tc := ⟨.hbm, 54, rfl⟩
abbrev main_v29 : Ref sig .tc := ⟨.hbm, 55, rfl⟩
abbrev main_c : Ref sig .tc := ⟨.hbm, 56, rfl⟩
abbrev main_c_1 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_c_2 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_3 : Ref sig .tc := ⟨.hbm, 66, rfl⟩
abbrev main_cst_4 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_v5 : Ref sig .tc := ⟨.hbm, 73, rfl⟩
abbrev main_call1_v6 : Ref sig .tc := ⟨.hbm, 74, rfl⟩
abbrev main_call1_v7 : Ref sig .tc := ⟨.hbm, 75, rfl⟩
abbrev main_call1_v8 : Ref sig .tc := ⟨.hbm, 76, rfl⟩
abbrev main_call1_v9 : Ref sig .tc := ⟨.hbm, 77, rfl⟩
abbrev main_call1_c : Ref sig .tc := ⟨.hbm, 78, rfl⟩
abbrev main_call1_v10 : Ref sig .tc := ⟨.hbm, 79, rfl⟩
abbrev main_call1_v11 : Ref sig .tc := ⟨.hbm, 80, rfl⟩
abbrev main_call1_c_0 : Ref sig .tc := ⟨.hbm, 81, rfl⟩
abbrev main_call1_v12 : Ref sig .tc := ⟨.hbm, 82, rfl⟩
abbrev main_call1_v13 : Ref sig .tc := ⟨.hbm, 83, rfl⟩
abbrev main_call1_v14 : Ref sig .tc := ⟨.hbm, 84, rfl⟩
abbrev main_call1_c_1 : Ref sig .tc := ⟨.hbm, 85, rfl⟩
abbrev main_call1_v15 : Ref sig .tc := ⟨.hbm, 86, rfl⟩
abbrev main_call1_v16 : Ref sig .tc := ⟨.hbm, 87, rfl⟩
abbrev main_call1_v17 : Ref sig .tc := ⟨.hbm, 88, rfl⟩
abbrev main_call1_v18 : Ref sig .tc := ⟨.hbm, 89, rfl⟩
abbrev main_call1_call0_v0 : Ref sig .tc := ⟨.hbm, 90, rfl⟩
abbrev main_call1_call0_c : Ref sig .tc := ⟨.hbm, 91, rfl⟩
abbrev main_call1_call0_v1 : Ref sig .tc := ⟨.hbm, 92, rfl⟩
abbrev main_call1_call0_v2 : Ref sig .tc := ⟨.hbm, 93, rfl⟩
abbrev main_call1_call0_v3 : Ref sig .tc := ⟨.hbm, 94, rfl⟩
abbrev main_call1_call0_v4 : Ref sig .tc := ⟨.hbm, 95, rfl⟩
abbrev main_call1_call0_v5 : Ref sig .tc := ⟨.hbm, 96, rfl⟩
abbrev main_call1_call0_v6 : Ref sig .tc := ⟨.hbm, 97, rfl⟩
abbrev main_call1_call0_c_0 : Ref sig .tc := ⟨.hbm, 98, rfl⟩
abbrev main_call1_call0_v7 : Ref sig .tc := ⟨.hbm, 99, rfl⟩
abbrev main_call1_call0_v8 : Ref sig .tc := ⟨.hbm, 100, rfl⟩
abbrev main_call1_call0_c_1 : Ref sig .tc := ⟨.hbm, 101, rfl⟩
abbrev main_call1_call0_v9 : Ref sig .tc := ⟨.hbm, 102, rfl⟩
abbrev main_call1_call0_v10 : Ref sig .tc := ⟨.hbm, 103, rfl⟩
abbrev main_call1_call0_v11 : Ref sig .tc := ⟨.hbm, 104, rfl⟩
abbrev main_call1_call0_v12 : Ref sig .tc := ⟨.hbm, 105, rfl⟩
abbrev main_call1_call0_v13 : Ref sig .tc := ⟨.hbm, 106, rfl⟩
abbrev main_call1_call0_c_2 : Ref sig .tc := ⟨.hbm, 107, rfl⟩
abbrev main_call1_call0_v14 : Ref sig .tc := ⟨.hbm, 108, rfl⟩
abbrev main_call1_call0_v15 : Ref sig .tc := ⟨.hbm, 109, rfl⟩
abbrev main_call1_call0_c_3 : Ref sig .tc := ⟨.hbm, 110, rfl⟩
abbrev main_call1_call0_v16 : Ref sig .tc := ⟨.hbm, 111, rfl⟩
abbrev main_call1_call0_v17 : Ref sig .tc := ⟨.hbm, 112, rfl⟩
abbrev main_call1_call0_v18 : Ref sig .tc := ⟨.hbm, 113, rfl⟩
abbrev main_call1_call0_v19 : Ref sig .tc := ⟨.hbm, 114, rfl⟩
abbrev main_call1_call0_v20 : Ref sig .tc := ⟨.hbm, 115, rfl⟩
abbrev main_call1_call0_c_4 : Ref sig .tc := ⟨.hbm, 116, rfl⟩
abbrev main_call1_call0_v21 : Ref sig .tc := ⟨.hbm, 117, rfl⟩
abbrev main_call1_call0_v22 : Ref sig .tc := ⟨.hbm, 118, rfl⟩
abbrev main_call1_call0_c_5 : Ref sig .tc := ⟨.hbm, 119, rfl⟩
abbrev main_call1_call0_v23 : Ref sig .tc := ⟨.hbm, 120, rfl⟩
abbrev main_call1_call0_v24 : Ref sig .tc := ⟨.hbm, 121, rfl⟩
abbrev main_call1_call0_v25 : Ref sig .tc := ⟨.hbm, 122, rfl⟩
abbrev main_call1_call0_v26 : Ref sig .tc := ⟨.hbm, 123, rfl⟩
abbrev main_call1_call0_v27 : Ref sig .tc := ⟨.hbm, 124, rfl⟩
abbrev main_call1_call0_c_6 : Ref sig .tc := ⟨.hbm, 125, rfl⟩
abbrev main_call1_call0_v28 : Ref sig .tc := ⟨.hbm, 126, rfl⟩
abbrev main_call1_call0_v29 : Ref sig .tc := ⟨.hbm, 127, rfl⟩
abbrev main_call1_call0_c_7 : Ref sig .tc := ⟨.hbm, 128, rfl⟩
abbrev main_call1_call0_v30 : Ref sig .tc := ⟨.hbm, 129, rfl⟩
abbrev main_call1_call0_v31 : Ref sig .tc := ⟨.hbm, 130, rfl⟩
abbrev main_call1_call0_v32 : Ref sig .tc := ⟨.hbm, 131, rfl⟩
abbrev main_call1_call0_v33 : Ref sig .tc := ⟨.hbm, 132, rfl⟩
abbrev main_call1_call0_v34 : Ref sig .tc := ⟨.hbm, 133, rfl⟩
abbrev main_call1_call0_v35 : Ref sig .tc := ⟨.hbm, 134, rfl⟩
abbrev main_call1_call0_v36 : Ref sig .tc := ⟨.hbm, 135, rfl⟩
abbrev main_call1_call0_v37 : Ref sig .tc := ⟨.hbm, 136, rfl⟩
abbrev main_call1_call0_c_8 : Ref sig .tc := ⟨.hbm, 137, rfl⟩
abbrev main_call1_call0_v38 : Ref sig .tc := ⟨.hbm, 138, rfl⟩
abbrev main_call1_call0_v39 : Ref sig .tc := ⟨.hbm, 139, rfl⟩
abbrev main_call1_call0_v40 : Ref sig .tc := ⟨.hbm, 140, rfl⟩
abbrev main_call1_call0_c_9 : Ref sig .tc := ⟨.hbm, 141, rfl⟩
abbrev main_call1_call0_v41 : Ref sig .tc := ⟨.hbm, 142, rfl⟩
abbrev main_call1_call0_v42 : Ref sig .tc := ⟨.hbm, 143, rfl⟩
abbrev main_call1_call0_c_10 : Ref sig .tc := ⟨.hbm, 144, rfl⟩
abbrev main_call1_call0_v43 : Ref sig .tc := ⟨.hbm, 145, rfl⟩
abbrev main_call1_call0_v44 : Ref sig .tc := ⟨.hbm, 146, rfl⟩
abbrev main_call1_call0_v45 : Ref sig .tc := ⟨.hbm, 147, rfl⟩
abbrev main_call1_call0_v46 : Ref sig .tc := ⟨.hbm, 148, rfl⟩
abbrev main_call1_call0_v47 : Ref sig .tc := ⟨.hbm, 149, rfl⟩
abbrev main_call1_call0_c_11 : Ref sig .tc := ⟨.hbm, 150, rfl⟩
abbrev main_call1_call0_v48 : Ref sig .tc := ⟨.hbm, 151, rfl⟩
abbrev main_call1_call0_v49 : Ref sig .tc := ⟨.hbm, 152, rfl⟩
abbrev main_call1_call0_c_12 : Ref sig .tc := ⟨.hbm, 153, rfl⟩
abbrev main_call1_call0_v50 : Ref sig .tc := ⟨.hbm, 154, rfl⟩
abbrev main_call1_call0_v51 : Ref sig .tc := ⟨.hbm, 155, rfl⟩
abbrev main_call1_call0_v52 : Ref sig .tc := ⟨.hbm, 156, rfl⟩
abbrev main_call1_call0_v53 : Ref sig .tc := ⟨.hbm, 157, rfl⟩
abbrev main_call1_call0_v54 : Ref sig .tc := ⟨.hbm, 158, rfl⟩
abbrev main_call1_call0_c_13 : Ref sig .tc := ⟨.hbm, 159, rfl⟩
abbrev main_call1_call0_v55 : Ref sig .tc := ⟨.hbm, 160, rfl⟩
abbrev main_call1_call0_v56 : Ref sig .tc := ⟨.hbm, 161, rfl⟩
abbrev main_call1_call0_c_14 : Ref sig .tc := ⟨.hbm, 162, rfl⟩
abbrev main_call1_call0_v57 : Ref sig .tc := ⟨.hbm, 163, rfl⟩
abbrev main_call1_call0_v58 : Ref sig .tc := ⟨.hbm, 164, rfl⟩
abbrev main_call1_call0_v59 : Ref sig .tc := ⟨.hbm, 165, rfl⟩
abbrev main_call1_call0_v60 : Ref sig .tc := ⟨.hbm, 166, rfl⟩
abbrev main_call1_call0_v61 : Ref sig .tc := ⟨.hbm, 167, rfl⟩
abbrev main_call1_call0_c_15 : Ref sig .tc := ⟨.hbm, 168, rfl⟩
abbrev main_call1_call0_v62 : Ref sig .tc := ⟨.hbm, 169, rfl⟩
abbrev main_call1_call0_v63 : Ref sig .tc := ⟨.hbm, 170, rfl⟩
abbrev main_call1_call0_c_16 : Ref sig .tc := ⟨.hbm, 171, rfl⟩
abbrev main_call1_call0_v64 : Ref sig .tc := ⟨.hbm, 172, rfl⟩
abbrev main_call1_call0_v65 : Ref sig .tc := ⟨.hbm, 173, rfl⟩
abbrev main_call1_call0_v66 : Ref sig .tc := ⟨.hbm, 174, rfl⟩
abbrev main_call1_call0_v67 : Ref sig .tc := ⟨.hbm, 175, rfl⟩
abbrev main_call1_call0_v68 : Ref sig .tc := ⟨.hbm, 176, rfl⟩
abbrev main_call1_call0_v69 : Ref sig .tc := ⟨.hbm, 177, rfl⟩
abbrev main_call1_call0_v70 : Ref sig .tc := ⟨.hbm, 178, rfl⟩
abbrev main_call1_call0_v71 : Ref sig .tc := ⟨.hbm, 179, rfl⟩
abbrev main_call1_call0_c_17 : Ref sig .tc := ⟨.hbm, 180, rfl⟩
abbrev main_call1_call0_v72 : Ref sig .tc := ⟨.hbm, 181, rfl⟩
abbrev main_call1_call0_v73 : Ref sig .tc := ⟨.hbm, 182, rfl⟩
abbrev main_call1_call0_v74 : Ref sig .tc := ⟨.hbm, 183, rfl⟩
abbrev main_call1_call0_c_18 : Ref sig .tc := ⟨.hbm, 184, rfl⟩
abbrev main_call1_call0_v75 : Ref sig .tc := ⟨.hbm, 185, rfl⟩
abbrev main_call1_call0_v76 : Ref sig .tc := ⟨.hbm, 186, rfl⟩
abbrev main_call1_call0_c_19 : Ref sig .tc := ⟨.hbm, 187, rfl⟩
abbrev main_call1_call0_v77 : Ref sig .tc := ⟨.hbm, 188, rfl⟩
abbrev main_call1_call0_v78 : Ref sig .tc := ⟨.hbm, 189, rfl⟩
abbrev main_call1_call0_v79 : Ref sig .tc := ⟨.hbm, 190, rfl⟩
abbrev main_call1_call0_v80 : Ref sig .tc := ⟨.hbm, 191, rfl⟩
abbrev main_call1_call0_v81 : Ref sig .tc := ⟨.hbm, 192, rfl⟩
abbrev main_call1_call0_c_20 : Ref sig .tc := ⟨.hbm, 193, rfl⟩
abbrev main_call1_call0_v82 : Ref sig .tc := ⟨.hbm, 194, rfl⟩
abbrev main_call1_call0_v83 : Ref sig .tc := ⟨.hbm, 195, rfl⟩
abbrev main_call1_call0_c_21 : Ref sig .tc := ⟨.hbm, 196, rfl⟩
abbrev main_call1_call0_v84 : Ref sig .tc := ⟨.hbm, 197, rfl⟩
abbrev main_call1_call0_v85 : Ref sig .tc := ⟨.hbm, 198, rfl⟩
abbrev main_call1_call0_v86 : Ref sig .tc := ⟨.hbm, 199, rfl⟩
abbrev main_call1_call0_v87 : Ref sig .tc := ⟨.hbm, 200, rfl⟩
abbrev main_call1_call0_v88 : Ref sig .tc := ⟨.hbm, 201, rfl⟩
abbrev main_call1_call0_c_22 : Ref sig .tc := ⟨.hbm, 202, rfl⟩
abbrev main_call1_call0_v89 : Ref sig .tc := ⟨.hbm, 203, rfl⟩
abbrev main_call1_call0_v90 : Ref sig .tc := ⟨.hbm, 204, rfl⟩
abbrev main_call1_call0_c_23 : Ref sig .tc := ⟨.hbm, 205, rfl⟩
abbrev main_call1_call0_v91 : Ref sig .tc := ⟨.hbm, 206, rfl⟩
abbrev main_call1_call0_v92 : Ref sig .tc := ⟨.hbm, 207, rfl⟩
abbrev main_call1_call0_v93 : Ref sig .tc := ⟨.hbm, 208, rfl⟩
abbrev main_call1_call0_v94 : Ref sig .tc := ⟨.hbm, 209, rfl⟩
abbrev main_call1_call0_v95 : Ref sig .tc := ⟨.hbm, 210, rfl⟩
abbrev main_call1_call0_c_24 : Ref sig .tc := ⟨.hbm, 211, rfl⟩
abbrev main_call1_call0_v96 : Ref sig .tc := ⟨.hbm, 212, rfl⟩
abbrev main_call1_call0_v97 : Ref sig .tc := ⟨.hbm, 213, rfl⟩
abbrev main_call1_call0_c_25 : Ref sig .tc := ⟨.hbm, 214, rfl⟩
abbrev main_call1_call0_v98 : Ref sig .tc := ⟨.hbm, 215, rfl⟩
abbrev main_call1_call0_v99 : Ref sig .tc := ⟨.hbm, 216, rfl⟩
abbrev main_call1_call0_v100 : Ref sig .tc := ⟨.hbm, 217, rfl⟩
abbrev main_call1_call0_v101 : Ref sig .tc := ⟨.hbm, 218, rfl⟩
abbrev main_call1_call0_v102 : Ref sig .tc := ⟨.hbm, 219, rfl⟩
abbrev main_call1_call0_v103 : Ref sig .tc := ⟨.hbm, 220, rfl⟩
abbrev main_call1_call0_v104 : Ref sig .tc := ⟨.hbm, 221, rfl⟩
abbrev main_call1_call0_v105 : Ref sig .tc := ⟨.hbm, 222, rfl⟩
abbrev main_call1_call0_c_26 : Ref sig .tc := ⟨.hbm, 223, rfl⟩
abbrev main_call1_call0_v106 : Ref sig .tc := ⟨.hbm, 224, rfl⟩
abbrev main_call1_call0_v107 : Ref sig .tc := ⟨.hbm, 225, rfl⟩
abbrev main_call1_call0_v108 : Ref sig .tc := ⟨.hbm, 226, rfl⟩
abbrev main_call1_call0_c_27 : Ref sig .tc := ⟨.hbm, 227, rfl⟩
abbrev main_call1_call0_v109 : Ref sig .tc := ⟨.hbm, 228, rfl⟩
abbrev main_call1_call0_v110 : Ref sig .tc := ⟨.hbm, 229, rfl⟩
abbrev main_call1_call0_c_28 : Ref sig .tc := ⟨.hbm, 230, rfl⟩
abbrev main_call1_call0_v111 : Ref sig .tc := ⟨.hbm, 231, rfl⟩
abbrev main_call1_call0_v112 : Ref sig .tc := ⟨.hbm, 232, rfl⟩
abbrev main_call1_call0_v113 : Ref sig .tc := ⟨.hbm, 233, rfl⟩
abbrev main_call1_call0_v114 : Ref sig .tc := ⟨.hbm, 234, rfl⟩
abbrev main_call1_call0_v115 : Ref sig .tc := ⟨.hbm, 235, rfl⟩
abbrev main_call1_call0_c_29 : Ref sig .tc := ⟨.hbm, 236, rfl⟩
abbrev main_call1_call0_v116 : Ref sig .tc := ⟨.hbm, 237, rfl⟩
abbrev main_call1_call0_v117 : Ref sig .tc := ⟨.hbm, 238, rfl⟩
abbrev main_call1_call0_c_30 : Ref sig .tc := ⟨.hbm, 239, rfl⟩
abbrev main_call1_call0_v118 : Ref sig .tc := ⟨.hbm, 240, rfl⟩
abbrev main_call1_call0_v119 : Ref sig .tc := ⟨.hbm, 241, rfl⟩
abbrev main_call1_call0_v120 : Ref sig .tc := ⟨.hbm, 242, rfl⟩
abbrev main_call1_call0_v121 : Ref sig .tc := ⟨.hbm, 243, rfl⟩
abbrev main_call1_call0_v122 : Ref sig .tc := ⟨.hbm, 244, rfl⟩
abbrev main_call1_call0_c_31 : Ref sig .tc := ⟨.hbm, 245, rfl⟩
abbrev main_call1_call0_v123 : Ref sig .tc := ⟨.hbm, 246, rfl⟩
abbrev main_call1_call0_v124 : Ref sig .tc := ⟨.hbm, 247, rfl⟩
abbrev main_call1_call0_c_32 : Ref sig .tc := ⟨.hbm, 248, rfl⟩
abbrev main_call1_call0_v125 : Ref sig .tc := ⟨.hbm, 249, rfl⟩
abbrev main_call1_call0_v126 : Ref sig .tc := ⟨.hbm, 250, rfl⟩
abbrev main_call1_call0_v127 : Ref sig .tc := ⟨.hbm, 251, rfl⟩
abbrev main_call1_call0_v128 : Ref sig .tc := ⟨.hbm, 252, rfl⟩
abbrev main_call1_call0_v129 : Ref sig .tc := ⟨.hbm, 253, rfl⟩
abbrev main_call1_call0_c_33 : Ref sig .tc := ⟨.hbm, 254, rfl⟩
abbrev main_call1_call0_v130 : Ref sig .tc := ⟨.hbm, 255, rfl⟩
abbrev main_call1_call0_v131 : Ref sig .tc := ⟨.hbm, 256, rfl⟩
abbrev main_call1_call0_c_34 : Ref sig .tc := ⟨.hbm, 257, rfl⟩
abbrev main_call1_call0_v132 : Ref sig .tc := ⟨.hbm, 258, rfl⟩
abbrev main_call1_call0_v133 : Ref sig .tc := ⟨.hbm, 259, rfl⟩
abbrev main_call1_call0_v134 : Ref sig .tc := ⟨.hbm, 260, rfl⟩
abbrev main_call1_call0_v135 : Ref sig .tc := ⟨.hbm, 261, rfl⟩
abbrev main_call1_call0_v136 : Ref sig .tc := ⟨.hbm, 262, rfl⟩
abbrev main_call1_call0_v137 : Ref sig .tc := ⟨.hbm, 263, rfl⟩
abbrev main_call1_call0_v138 : Ref sig .tc := ⟨.hbm, 264, rfl⟩
abbrev main_call1_call0_v139 : Ref sig .tc := ⟨.hbm, 265, rfl⟩
abbrev main_call1_call0_c_35 : Ref sig .tc := ⟨.hbm, 266, rfl⟩
abbrev main_call1_call0_v140 : Ref sig .tc := ⟨.hbm, 267, rfl⟩
abbrev main_call1_call0_v141 : Ref sig .tc := ⟨.hbm, 268, rfl⟩
abbrev main_call1_call0_v142 : Ref sig .tc := ⟨.hbm, 269, rfl⟩
abbrev main_call1_call0_c_36 : Ref sig .tc := ⟨.hbm, 270, rfl⟩
abbrev main_call1_call0_v143 : Ref sig .tc := ⟨.hbm, 271, rfl⟩
abbrev main_call1_call0_v144 : Ref sig .tc := ⟨.hbm, 272, rfl⟩
abbrev main_call1_call0_c_37 : Ref sig .tc := ⟨.hbm, 273, rfl⟩
abbrev main_call1_call0_v145 : Ref sig .tc := ⟨.hbm, 274, rfl⟩
abbrev main_call1_call0_v146 : Ref sig .tc := ⟨.hbm, 275, rfl⟩
abbrev main_call1_call0_v147 : Ref sig .tc := ⟨.hbm, 276, rfl⟩
abbrev main_call1_call0_v148 : Ref sig .tc := ⟨.hbm, 277, rfl⟩
abbrev main_call1_call0_v149 : Ref sig .tc := ⟨.hbm, 278, rfl⟩
abbrev main_call1_call0_c_38 : Ref sig .tc := ⟨.hbm, 279, rfl⟩
abbrev main_call1_call0_v150 : Ref sig .tc := ⟨.hbm, 280, rfl⟩
abbrev main_call1_call0_v151 : Ref sig .tc := ⟨.hbm, 281, rfl⟩
abbrev main_call1_call0_c_39 : Ref sig .tc := ⟨.hbm, 282, rfl⟩
abbrev main_call1_call0_v152 : Ref sig .tc := ⟨.hbm, 283, rfl⟩
abbrev main_call1_call0_v153 : Ref sig .tc := ⟨.hbm, 284, rfl⟩
abbrev main_call1_call0_v154 : Ref sig .tc := ⟨.hbm, 285, rfl⟩
abbrev main_call1_call0_v155 : Ref sig .tc := ⟨.hbm, 286, rfl⟩
abbrev main_call1_call0_v156 : Ref sig .tc := ⟨.hbm, 287, rfl⟩
abbrev main_call1_call0_c_40 : Ref sig .tc := ⟨.hbm, 288, rfl⟩
abbrev main_call1_call0_v157 : Ref sig .tc := ⟨.hbm, 289, rfl⟩
abbrev main_call1_call0_v158 : Ref sig .tc := ⟨.hbm, 290, rfl⟩
abbrev main_call1_call0_c_41 : Ref sig .tc := ⟨.hbm, 291, rfl⟩
abbrev main_call1_call0_v159 : Ref sig .tc := ⟨.hbm, 292, rfl⟩
abbrev main_call1_call0_v160 : Ref sig .tc := ⟨.hbm, 293, rfl⟩
abbrev main_call1_call0_v161 : Ref sig .tc := ⟨.hbm, 294, rfl⟩
abbrev main_call1_call0_v162 : Ref sig .tc := ⟨.hbm, 295, rfl⟩
abbrev main_call1_call0_v163 : Ref sig .tc := ⟨.hbm, 296, rfl⟩
abbrev main_call1_call0_c_42 : Ref sig .tc := ⟨.hbm, 297, rfl⟩
abbrev main_call1_call0_v164 : Ref sig .tc := ⟨.hbm, 298, rfl⟩
abbrev main_call1_call0_v165 : Ref sig .tc := ⟨.hbm, 299, rfl⟩
abbrev main_call1_call0_c_43 : Ref sig .tc := ⟨.hbm, 300, rfl⟩
abbrev main_call1_call0_v166 : Ref sig .tc := ⟨.hbm, 301, rfl⟩
abbrev main_call1_call0_v167 : Ref sig .tc := ⟨.hbm, 302, rfl⟩
abbrev main_call1_call0_v168 : Ref sig .tc := ⟨.hbm, 303, rfl⟩
abbrev main_call1_call0_v169 : Ref sig .tc := ⟨.hbm, 304, rfl⟩
abbrev main_call1_call0_v170 : Ref sig .tc := ⟨.hbm, 305, rfl⟩
abbrev main_call1_v19_0 : Ref sig .tc := ⟨.hbm, 306, rfl⟩
abbrev main_call1_call0_v172 : Ref sig .tc := ⟨.hbm, 307, rfl⟩
abbrev main_call1_call0_v173 : Ref sig .tc := ⟨.hbm, 308, rfl⟩
abbrev main_call1_call0_c_44 : Ref sig .tc := ⟨.hbm, 309, rfl⟩
abbrev main_call1_call0_v174 : Ref sig .tc := ⟨.hbm, 310, rfl⟩
abbrev main_call1_v19_1 : Ref sig .tc := ⟨.hbm, 311, rfl⟩
abbrev main_call1_v20 : Ref sig .tc := ⟨.hbm, 312, rfl⟩
abbrev main_call1_c_2 : Ref sig .tc := ⟨.hbm, 313, rfl⟩
abbrev main_call1_v21 : Ref sig .tc := ⟨.hbm, 314, rfl⟩
abbrev main_call1_v22 : Ref sig .tc := ⟨.hbm, 315, rfl⟩
abbrev main_call1_c_3 : Ref sig .tc := ⟨.hbm, 316, rfl⟩
abbrev main_call1_v23 : Ref sig .tc := ⟨.hbm, 317, rfl⟩
abbrev main_call1_v24 : Ref sig .tc := ⟨.hbm, 318, rfl⟩
abbrev main_call1_v25 : Ref sig .tc := ⟨.hbm, 319, rfl⟩
abbrev main_call1_cst : Ref sig .tc := ⟨.hbm, 320, rfl⟩
abbrev main_call1_v26 : Ref sig .tc := ⟨.hbm, 321, rfl⟩
abbrev main_call1_v27 : Ref sig .tc := ⟨.hbm, 322, rfl⟩
abbrev main_call1_v28 : Ref sig .tc := ⟨.hbm, 323, rfl⟩
abbrev main_call1_v29 : Ref sig .tc := ⟨.hbm, 324, rfl⟩
abbrev main_call1_v30 : Ref sig .tc := ⟨.hbm, 325, rfl⟩
abbrev main_call1_v31 : Ref sig .tc := ⟨.hbm, 326, rfl⟩
abbrev main_call1_v32 : Ref sig .tc := ⟨.hbm, 327, rfl⟩
abbrev main_call1_v33 : Ref sig .tc := ⟨.hbm, 328, rfl⟩
abbrev main_v37 : Ref sig .tc := ⟨.hbm, 329, rfl⟩
abbrev main_cst_5 : Ref sig .tc := ⟨.hbm, 330, rfl⟩
abbrev main_v38 : Ref sig .tc := ⟨.hbm, 331, rfl⟩
abbrev main_v39 : Ref sig .tc := ⟨.hbm, 332, rfl⟩
abbrev main_v40 : Ref sig .tc := ⟨.hbm, 333, rfl⟩
abbrev main_v41 : Ref sig .tc := ⟨.hbm, 334, rfl⟩
abbrev main_cst_6 : Ref sig .tc := ⟨.hbm, 335, rfl⟩
abbrev main_v42 : Ref sig .tc := ⟨.hbm, 336, rfl⟩
abbrev main_v43 : Ref sig .tc := ⟨.hbm, 337, rfl⟩
abbrev main_v44 : Ref sig .tc := ⟨.hbm, 338, rfl⟩
abbrev main_v45 : Ref sig .tc := ⟨.hbm, 339, rfl⟩
abbrev main_v46 : Ref sig .tc := ⟨.hbm, 340, rfl⟩
abbrev main_cst_7 : Ref sig .tc := ⟨.hbm, 341, rfl⟩
abbrev main_v47 : Ref sig .tc := ⟨.hbm, 342, rfl⟩
abbrev main_v48 : Ref sig .tc := ⟨.hbm, 343, rfl⟩
abbrev main_cst_8 : Ref sig .tc := ⟨.hbm, 344, rfl⟩
abbrev main_v49 : Ref sig .tc := ⟨.hbm, 345, rfl⟩
abbrev main_cst_9 : Ref sig .tc := ⟨.hbm, 346, rfl⟩
abbrev main_v50 : Ref sig .tc := ⟨.hbm, 347, rfl⟩
abbrev main_v51 : Ref sig .tc := ⟨.hbm, 348, rfl⟩
abbrev main_v52 : Ref sig .tc := ⟨.hbm, 349, rfl⟩
abbrev main_v53 : Ref sig .tc := ⟨.hbm, 350, rfl⟩
abbrev main_v54 : Ref sig .tc := ⟨.hbm, 351, rfl⟩
abbrev main_v55 : Ref sig .tc := ⟨.hbm, 352, rfl⟩
abbrev main_cst_10 : Ref sig .tc := ⟨.hbm, 353, rfl⟩
abbrev main_v56 : Ref sig .tc := ⟨.hbm, 354, rfl⟩
abbrev main_v57 : Ref sig .tc := ⟨.hbm, 355, rfl⟩
abbrev main_v58 : Ref sig .tc := ⟨.hbm, 356, rfl⟩
abbrev main_v59 : Ref sig .tc := ⟨.hbm, 357, rfl⟩
abbrev main_call2_v0 : Ref sig .tc := ⟨.hbm, 358, rfl⟩
abbrev main_call2_cst : Ref sig .tc := ⟨.hbm, 359, rfl⟩
abbrev main_call2_c : Ref sig .tc := ⟨.hbm, 360, rfl⟩
abbrev main_call2_v1_0 : Ref sig .tc := ⟨.hbm, 361, rfl⟩
abbrev main_v60 : Ref sig .tc := ⟨.hbm, 362, rfl⟩
abbrev main_call3_v0 : Ref sig .tc := ⟨.hbm, 363, rfl⟩
abbrev main_call3_v1 : Ref sig .tc := ⟨.hbm, 364, rfl⟩
abbrev main_call3_v2 : Ref sig .tc := ⟨.hbm, 365, rfl⟩
abbrev main_call3_v3 : Ref sig .tc := ⟨.hbm, 366, rfl⟩
abbrev main_call3_v4 : Ref sig .tc := ⟨.hbm, 367, rfl⟩
abbrev main_v61 : Ref sig .tc := ⟨.hbm, 368, rfl⟩
abbrev main_v62 : Ref sig .tc := ⟨.hbm, 369, rfl⟩
abbrev main_v63 : Ref sig .tc := ⟨.hbm, 370, rfl⟩
abbrev main_v64 : Ref sig .tc := ⟨.hbm, 371, rfl⟩
abbrev main_v65 : Ref sig .tc := ⟨.hbm, 372, rfl⟩
abbrev main_c_11 : Ref sig .tc := ⟨.hbm, 373, rfl⟩
abbrev main_v66 : Ref sig .tc := ⟨.hbm, 374, rfl⟩
abbrev main_v67 : Ref sig .tc := ⟨.hbm, 375, rfl⟩
abbrev main_v68 : Ref sig .tc := ⟨.hbm, 376, rfl⟩
abbrev main_cst_12 : Ref sig .tc := ⟨.hbm, 377, rfl⟩
abbrev main_call4_v0 : Ref sig .tc := ⟨.hbm, 378, rfl⟩
abbrev main_v69 : Ref sig .tc := ⟨.hbm, 379, rfl⟩

abbrev nD : Nat := 1
abbrev τ : Topo := Topo.v7x

variable {F : FTy → Type} [FloatOps F]
-- ==== Proof.SameText.lean ====
/- The kernel as printed and the idealised kernel have the same text: they are the same program. -/
module

public import proofs.«01_k».proof.Kernel
public import proofs.«01_k».proof.KernelIdeal
public import proofs.«01_k».proof.Proof.Gen.Kernel
public import proofs.«01_k».proof.Proof.Gen.KernelIdeal

@[expose] public section

set_option maxRecDepth 16384

noncomputable section

namespace Cert.Same

open Idealize.ShloMosaic Idealize.SL.Sem

variable {F : FTy → Type} [FloatOps F]

set_option maxHeartbeats 4000000 in
/-- The body is the same. -/
theorem body_same : (Cert.Kernel.cc0__fused (F := F)) = Cert.KernelIdeal.cc0__fused (F := F) := rfl

set_option maxHeartbeats 4000000 in
/-- The table of bodies is the same. -/
theorem table_same : (Cert.Kernel.defs₀ (F := F)) = Cert.KernelIdeal.defs₀ (F := F) := by
  funext p l a
  cases p with
  | tc =>
    obtain ⟨l, hl⟩ := l
    obtain rfl : l = 0 := by omega
    obtain ⟨t, s⟩ := a
    dsimp only [Cert.Kernel.defs₀, Cert.KernelIdeal.defs₀, Defs.onTc]
    rw [body_same]
    rfl
  | scScalar _ => rfl
  | scVector _ _ => rfl

/-- So is the table with the pipeline's loops added. -/
theorem defs_same : (Cert.Kernel.defs (F := F)) = Cert.KernelIdeal.defs (F := F) :=
  congrArg (Idealize.ShloMosaic.Pipeline.defs Cert.KernelIdeal.pcfgs) table_same

set_option maxHeartbeats 4000000 in
/-- The host program is the same. -/
theorem main_same : (Cert.Kernel.main (F := F)) = Cert.KernelIdeal.main (F := F) := rfl

end Cert.Same

end
-- ==== Proof.Body.lean ====
module

public import proofs.«01_k».proof.Proof.Gen.KernelIdeal.Frame
public import proofs.«01_k».proof.Proof.Gen.KernelIdeal.Skeleton
public import Idealize.ShloMosaic.Lib.Pipeline.Value

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point at which the body first runs. -/
abbrev isFirst (i : grid0.Coords) : Prop := (Scalar.cmpi .ne (Scalar.extui (Scalar.cmpi .eq (BitVec.ofNat 32 (i 0).val) 0#32)) 0#32) = 1#1
/-- The points that accumulate a batch. -/
abbrev isAcc (i : grid0.Coords) : Prop := (Scalar.cmpi .ne (Scalar.extui (Scalar.cmpi .slt (BitVec.ofNat 32 (i 0).val) 8#32)) 0#32) = 1#1
/-- The last of the points that accumulate. -/
abbrev isLastAcc (i : grid0.Coords) : Prop := (Scalar.cmpi .ne (Scalar.extui (Scalar.cmpi .eq (BitVec.ofNat 32 (i 0).val) 7#32)) 0#32) = 1#1
/-- The points that write a block of the result. -/
abbrev isOut (i : grid0.Coords) : Prop := k0_cond4 i = 1#1

/-- The block a writing point leaves: one where the mask the point computes holds, zero elsewhere. -/
def outBlock (i : grid0.Coords) (c4 : isOut i) (x9 : Vec F S2048 .f32) (x11 : Vec F S1024 .f32) (x12 : Vec F S256x1024 .f32)
    (x16 : Vec F S1024x1024 .bf16) (x17 : Vec F S2048x1024 .bf16) (x18 : Vec F S1024x2048 .bf16) : Vec F S256x1024 .f32 :=
  k0_pay7 (k0_pay8 (BitVec.ofNat 32 (i 0).val) (View.ld x16 (Rect.unit (s := S1024x1024) (k0_off1 i) S256x1024.size (k0_off1_inb i c4)))
    x17 x9 x18 x11 x12) k0_pay9 k0_pay10

/-- A whole buffer read after the stores the body made into it, the last of them over the whole of it, holds what that
    last store put there. -/
theorem read_last {sp : Space} {S : Shape} {e : EltTy} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩)]
  exact View.canon_cons_unit_zero h inb w L

/-- A load of the whole of a buffer reads what the buffer holds. -/
theorem load_whole {sp : Space} {S : Shape} {e : EltTy} (v : View sig .tc sp S e) (f : v.ty.Contents (Elt F)) {X : S.Idx → Elt F e}
    (hX : v.read (Elt F) f = X) {off : Fin S.rank → Nat} (h : off = fun _ => 0) (inb : ∀ a, off a + S.size a ≤ S.size a) :
    v.readAt (Elt F) (Rect.unit off S.size inb).toLoadRect f = X := by
  subst hX
  exact View.ld_unit_zero (Val := Elt F) h inb (v.read (Elt F) f)

/-- The zero offsets of two axes. -/
theorem zero2 : (![0, 0] : Fin 2 → Nat) = fun _ => 0 := by decide
/-- The zero offset of one axis. -/
theorem zero1 : (![0] : Fin 1 → Nat) = fun _ => 0 := by decide
/-- The zero offsets of three axes. -/
theorem zero3 : (![0, 0, 0] : Fin 3 → Nat) = fun _ => 0 := by decide

variable (arg1 : Memref sig .tc .vmem S1x1024x384 .bf16) (h1 : arg1.IsWhole) (arg2 : Memref sig .tc .vmem S1024x1024 .f32) (h2 : arg2.IsWhole)
  (arg3 : Memref sig .tc .vmem S384x32 .bf16) (h3 : arg3.IsWhole) (arg4 : Memref sig .tc .vmem S384x32 .bf16) (h4 : arg4.IsWhole)
  (arg5 : Memref sig .tc .vmem S1024x32 .f32) (h5 : arg5.IsWhole) (arg6 : Memref sig .tc .vmem S1024 .f32) (h6 : arg6.IsWhole)
  (arg7 : Memref sig .tc .vmem S32 .f32) (h7 : arg7.IsWhole) (arg8 : Memref sig .tc .vmem S2048x1024 .f32) (h8 : arg8.IsWhole)
  (arg9 : Memref sig .tc .vmem S2048 .f32) (h9 : arg9.IsWhole) (arg10 : Memref sig .tc .vmem S1024x2048 .f32) (h10 : arg10.IsWhole)
  (arg11 : Memref sig .tc .vmem S1024 .f32) (h11 : arg11.IsWhole) (arg12 : Memref sig .tc .vmem S256x1024 .f32) (h12 : arg12.IsWhole)
  (arg13 : Memref sig .tc .vmem S256x1024 .f32) (h13 : arg13.IsWhole) (arg14 : Memref sig .tc .vmem S1024x32 .f32) (h14 : arg14.IsWhole)
  (arg15 : Memref sig .tc .vmem S1024x1024 .bf16) (h15 : arg15.IsWhole) (arg16 : Memref sig .tc .vmem S1024x1024 .bf16) (h16 : arg16.IsWhole)
  (arg17 : Memref sig .tc .vmem S2048x1024 .bf16) (h17 : arg17.IsWhole) (arg18 : Memref sig .tc .vmem S1024x2048 .bf16) (h18 : arg18.IsWhole)
  (x1 : Vec F S1x1024x384 .bf16) (x2 : Vec F S1024x1024 .f32) (x3 : Vec F S384x32 .bf16) (x4 : Vec F S384x32 .bf16) (x5 : Vec F S1024x32 .f32)
  (x6 : Vec F S1024 .f32) (x7 : Vec F S32 .f32) (x8 : Vec F S2048x1024 .f32) (x9 : Vec F S2048 .f32) (x10 : Vec F S1024x2048 .f32)
  (x11 : Vec F S1024 .f32) (x12 : Vec F S256x1024 .f32) (x13 : Vec F S256x1024 .f32) (x14 : Vec F S1024x32 .f32) (x15 : Vec F S1024x1024 .bf16)
  (x16 : Vec F S1024x1024 .bf16) (x17 : Vec F S2048x1024 .bf16) (x18 : Vec F S1024x2048 .bf16)

/-- The buffers the body runs over, each at the contents named. -/
def held (c : Dev nD) : sProp 𝕄 :=
  iprop(owns (c : Thread nD τ) arg1 fullShare x1 ∗ owns (c : Thread nD τ) arg2 fullShare x2 ∗ owns (c : Thread nD τ) arg3 fullShare x3
    ∗ owns (c : Thread nD τ) arg4 fullShare x4 ∗ owns (c : Thread nD τ) arg5 fullShare x5 ∗ owns (c : Thread nD τ) arg6 fullShare x6
    ∗ owns (c : Thread nD τ) arg7 fullShare x7 ∗ owns (c : Thread nD τ) arg8 fullShare x8 ∗ owns (c : Thread nD τ) arg9 fullShare x9
    ∗ owns (c : Thread nD τ) arg10 fullShare x10 ∗ owns (c : Thread nD τ) arg11 fullShare x11 ∗ owns (c : Thread nD τ) arg12 fullShare x12
    ∗ owns (c : Thread nD τ) arg13 fullShare x13 ∗ owns (c : Thread nD τ) arg14 fullShare x14 ∗ owns (c : Thread nD τ) arg15 fullShare x15
    ∗ owns (c : Thread nD τ) arg16 fullShare x16 ∗ owns (c : Thread nD τ) arg17 fullShare x17 ∗ owns (c : Thread nD τ) arg18 fullShare x18)

variable {arg1 arg2 arg3 arg4 arg5 arg6 arg7 arg8 arg9 arg10 arg11 arg12 arg13 arg14 arg15 arg16 arg17 arg18} in
variable {x1 x2 x3 x4 x5 x6 x7 x8 x9 x10 x11 x12 x13 x14 x15 x16 x17 x18} in
/-- The buffers are held at contents named when each one's cells are and they read so. -/
theorem held_intro (c : Dev nD)
    {f1 : arg1.view.ty.Contents (Elt F)} (e1 : arg1.view.read (Elt F) f1 = x1)
    {f2 : arg2.view.ty.Contents (Elt F)} (e2 : arg2.view.read (Elt F) f2 = x2)
    {f3 : arg3.view.ty.Contents (Elt F)} (e3 : arg3.view.read (Elt F) f3 = x3)
    {f4 : arg4.view.ty.Contents (Elt F)} (e4 : arg4.view.read (Elt F) f4 = x4)
    {f5 : arg5.view.ty.Contents (Elt F)} (e5 : arg5.view.read (Elt F) f5 = x5)
    {f6 : arg6.view.ty.Contents (Elt F)} (e6 : arg6.view.read (Elt F) f6 = x6)
    {f7 : arg7.view.ty.Contents (Elt F)} (e7 : arg7.view.read (Elt F) f7 = x7)
    {f8 : arg8.view.ty.Contents (Elt F)} (e8 : arg8.view.read (Elt F) f8 = x8)
    {f9 : arg9.view.ty.Contents (Elt F)} (e9 : arg9.view.read (Elt F) f9 = x9)
    {f10 : arg10.view.ty.Contents (Elt F)} (e10 : arg10.view.read (Elt F) f10 = x10)
    {f11 : arg11.view.ty.Contents (Elt F)} (e11 : arg11.view.read (Elt F) f11 = x11)
    {f12 : arg12.view.ty.Contents (Elt F)} (e12 : arg12.view.read (Elt F) f12 = x12)
    {f13 : arg13.view.ty.Contents (Elt F)} (e13 : arg13.view.read (Elt F) f13 = x13)
    {f14 : arg14.view.ty.Contents (Elt F)} (e14 : arg14.view.read (Elt F) f14 = x14)
    {f15 : arg15.view.ty.Contents (Elt F)} (e15 : arg15.view.read (Elt F) f15 = x15)
    {f16 : arg16.view.ty.Contents (Elt F)} (e16 : arg16.view.read (Elt F) f16 = x16)
    {f17 : arg17.view.ty.Contents (Elt F)} (e17 : arg17.view.read (Elt F) f17 = x17)
    {f18 : arg18.view.ty.Contents (Elt F)} (e18 : arg18.view.read (Elt F) f18 = x18) :
    iprop(((((((((((((((((((arg1.view.loc (c : Thread nD τ) ↦[arg1.view.set]{fullShare} f1)
      ∗ (arg2.view.loc (c : Thread nD τ) ↦[arg2.view.set]{fullShare} f2))
      ∗ (arg3.view.loc (c : Thread nD τ) ↦[arg3.view.set]{fullShare} f3))
      ∗ (arg4.view.loc (c : Thread nD τ) ↦[arg4.view.set]{fullShare} f4))
      ∗ (arg5.view.loc (c : Thread nD τ) ↦[arg5.view.set]{fullShare} f5))
      ∗ (arg6.view.loc (c : Thread nD τ) ↦[arg6.view.set]{fullShare} f6))
      ∗ (arg7.view.loc (c : Thread nD τ) ↦[arg7.view.set]{fullShare} f7))
      ∗ (arg8.view.loc (c : Thread nD τ) ↦[arg8.view.set]{fullShare} f8))
      ∗ (arg9.view.loc (c : Thread nD τ) ↦[arg9.view.set]{fullShare} f9))
      ∗ (arg10.view.loc (c : Thread nD τ) ↦[arg10.view.set]{fullShare} f10))
      ∗ (arg11.view.loc (c : Thread nD τ) ↦[arg11.view.set]{fullShare} f11))
      ∗ (arg12.view.loc (c : Thread nD τ) ↦[arg12.view.set]{fullShare} f12))
      ∗ (arg13.view.loc (c : Thread nD τ) ↦[arg13.view.set]{fullShare} f13))
      ∗ (arg14.view.loc (c : Thread nD τ) ↦[arg14.view.set]{fullShare} f14))
      ∗ (arg15.view.loc (c : Thread nD τ) ↦[arg15.view.set]{fullShare} f15))
      ∗ (arg16.view.loc (c : Thread nD τ) ↦[arg16.view.set]{fullShare} f16))
      ∗ (arg17.view.loc (c : Thread nD τ) ↦[arg17.view.set]{fullShare} f17))
      ∗ (arg18.view.loc (c : Thread nD τ) ↦[arg18.view.set]{fullShare} f18)))
      ⊢ (held arg1 arg2 arg3 arg4 arg5 arg6 arg7 arg8 arg9 arg10 arg11 arg12 arg13 arg14 arg15 arg16 arg17 arg18
          x1 x2 x3 x4 x5 x6 x7 x8 x9 x10 x11 x12 x13 x14 x15 x16 x17 x18 c : sProp 𝕄) := by
  unfold held owns
  iintro ⟨⟨⟨⟨⟨⟨⟨⟨⟨⟨⟨⟨⟨⟨⟨⟨⟨H1, H2⟩, H3⟩, H4⟩, H5⟩, H6⟩, H7⟩, H8⟩, H9⟩, H10⟩, H11⟩, H12⟩, H13⟩, H14⟩, H15⟩, H16⟩, H17⟩, H18⟩
  isplitl [H1]
  · iexists _; isplitr; · ipureintro; exact e1
    iexact H1
  isplitl [H2]
  · iexists _; isplitr; · ipureintro; exact e2
    iexact H2
  isplitl [H3]
  · iexists _; isplitr; · ipureintro; exact e3
    iexact H3
  isplitl [H4]
  · iexists _; isplitr; · ipureintro; exact e4
    iexact H4
  isplitl [H5]
  · iexists _; isplitr; · ipureintro; exact e5
    iexact H5
  isplitl [H6]
  · iexists _; isplitr; · ipureintro; exact e6
    iexact H6
  isplitl [H7]
  · iexists _; isplitr; · ipureintro; exact e7
    iexact H7
  isplitl [H8]
  · iexists _; isplitr; · ipureintro; exact e8
    iexact H8
  isplitl [H9]
  · iexists _; isplitr; · ipureintro; exact e9
    iexact H9
  isplitl [H10]
  · iexists _; isplitr; · ipureintro; exact e10
    iexact H10
  isplitl [H11]
  · iexists _; isplitr; · ipureintro; exact e11
    iexact H11
  isplitl [H12]
  · iexists _; isplitr; · ipureintro; exact e12
    iexact H12
  isplitl [H13]
  · iexists _; isplitr; · ipureintro; exact e13
    iexact H13
  isplitl [H14]
  · iexists _; isplitr; · ipureintro; exact e14
    iexact H14
  isplitl [H15]
  · iexists _; isplitr; · ipureintro; exact e15
    iexact H15
  isplitl [H16]
  · iexists _; isplitr; · ipureintro; exact e16
    iexact H16
  isplitl [H17]
  · iexists _; isplitr; · ipureintro; exact e17
    iexact H17
  iexists _; isplitr; · ipureintro; exact e18
  iexact H18

set_option maxHeartbeats 1000000 in
/-- At a point that only accumulates: the accumulator takes the point's contribution, the rest stays. -/
theorem run_acc (c : Dev nD) (i : grid0.Coords) (c1 : ¬isFirst i) (c2 : isAcc i) (c3 : ¬isLastAcc i) (c4 : ¬isOut i)
    (E : Set ℕ) (K : PUnit → sProp 𝕄) :
    iprop(held arg1 arg2 arg3 arg4 arg5 arg6 arg7 arg8 arg9 arg10 arg11 arg12 arg13 arg14 arg15 arg16 arg17 arg18
          x1 x2 x3 x4 x5 x6 x7 x8 x9 x10 x11 x12 x13 x14 x15 x16 x17 x18 c
        ∗ (held arg1 arg2 arg3 arg4 arg5 arg6 arg7 arg8 arg9 arg10 arg11 arg12 arg13 arg14 arg15 arg16 arg17 arg18
            x1 x2 x3 x4 x5 x6 x7 x8 x9 x10 x11 x12 x13 (k0_pay5 x1 x15 x3 x4 x14) x15 x16 x17 x18 c -∗ K ⟨⟩))
      ⊢ wp frame (wpE (defs₀ (F := F)) Variants.none c none) E
          (cc0__fused i arg1 h1 arg2 h2 arg3 h3 arg4 h4 arg5 h5 arg6 h6 arg7 h7 arg8 h8 arg9 h9 arg10 h10 arg11 h11 arg12 h12
            arg13 h13 arg14 h14 arg15 h15 arg16 h16 arg17 h17 arg18 h18) K := by
  simp only [cc0__fused_eq_skeleton]; unfold cc0__fused_skel
  rw [held]; unfold owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩⟩, Hk⟩
  sl_exec (disch := first | sl_exact c1 | sl_exact c2 | sl_exact c3 | sl_exact c4)
  sl_step
  iapply Hk
  istop
  refine held_intro c e1 e2 e3 e4 e5 e6 e7 e8 e9
    e10 e11 e12 e13 ?_ e15 e16 e17 e18
  · rw [read_last _ _ zero2, load_whole _ _ e1 zero3, load_whole _ _ e3 zero2, load_whole _ _ e4 zero2, load_whole _ _ e14 zero2, load_whole _ _ e15 zero2]

set_option maxHeartbeats 1000000 in
/-- At the first point: the weights and the adjacency are copied into the scratch buffers, and the accumulator is the first contribution over zero. -/
theorem run_first (c : Dev nD) (i : grid0.Coords) (c1 : isFirst i) (c2 : isAcc i) (c3 : ¬isLastAcc i) (c4 : ¬isOut i)
    (E : Set ℕ) (K : PUnit → sProp 𝕄) :
    iprop(held arg1 arg2 arg3 arg4 arg5 arg6 arg7 arg8 arg9 arg10 arg11 arg12 arg13 arg14 arg15 arg16 arg17 arg18
          x1 x2 x3 x4 x5 x6 x7 x8 x9 x10 x11 x12 x13 x14 x15 x16 x17 x18 c
        ∗ (held arg1 arg2 arg3 arg4 arg5 arg6 arg7 arg8 arg9 arg10 arg11 arg12 arg13 arg14 arg15 arg16 arg17 arg18
            x1 x2 x3 x4 x5 x6 x7 x8 x9 x10 x11 x12 x13 (k0_pay5 x1 (k0_pay2 x2) x3 x4 k0_pay1) (k0_pay2 x2) x16 (k0_pay3 x8) (k0_pay4 x10) c -∗ K ⟨⟩))
      ⊢ wp frame (wpE (defs₀ (F := F)) Variants.none c none) E
          (cc0__fused i arg1 h1 arg2 h2 arg3 h3 arg4 h4 arg5 h5 arg6 h6 arg7 h7 arg8 h8 arg9 h9 arg10 h10 arg11 h11 arg12 h12
            arg13 h13 arg14 h14 arg15 h15 arg16 h16 arg17 h17 arg18 h18) K := by
  simp only [cc0__fused_eq_skeleton]; unfold cc0__fused_skel
  rw [held]; unfold owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩⟩, Hk⟩
  sl_exec (disch := first | sl_exact c1 | sl_exact c2 | sl_exact c3 | sl_exact c4)
  sl_step
  iapply Hk
  istop
  refine held_intro c e1 e2 e3 e4 e5 e6 e7 e8 e9
    e10 e11 e12 e13 ?_ ?_ e16 ?_ ?_
  · unfold run_first.sl.v14 run_first.sl.v23 run_first.sl.H14_1 run_first.sl.H15_1; rw [read_last _ _ zero2, load_whole _ _ e1 zero3, load_whole _ _ e3 zero2, load_whole _ _ e4 zero2, View.readCov_unit_zero _ zero2, View.readCov_unit_zero _ zero2, load_whole _ _ e2 zero2]
  · unfold run_first.sl.H15_1; rw [read_last _ _ zero2, load_whole _ _ e2 zero2]
  · rw [read_last _ _ zero2, load_whole _ _ e8 zero2]
  · rw [read_last _ _ zero2, load_whole _ _ e10 zero2]

set_option maxHeartbeats 1000000 in
/-- At the last point that accumulates: the accumulator takes its contribution, and the first layer's output is computed from it. -/
theorem run_last (c : Dev nD) (i : grid0.Coords) (c1 : ¬isFirst i) (c2 : isAcc i) (c3 : isLastAcc i) (c4 : ¬isOut i)
    (E : Set ℕ) (K : PUnit → sProp 𝕄) :
    iprop(held arg1 arg2 arg3 arg4 arg5 arg6 arg7 arg8 arg9 arg10 arg11 arg12 arg13 arg14 arg15 arg16 arg17 arg18
          x1 x2 x3 x4 x5 x6 x7 x8 x9 x10 x11 x12 x13 x14 x15 x16 x17 x18 c
        ∗ (held arg1 arg2 arg3 arg4 arg5 arg6 arg7 arg8 arg9 arg10 arg11 arg12 arg13 arg14 arg15 arg16 arg17 arg18
            x1 x2 x3 x4 x5 x6 x7 x8 x9 x10 x11 x12 x13 (k0_pay5 x1 x15 x3 x4 x14) x15 (k0_pay6 (k0_pay5 x1 x15 x3 x4 x14) x7 x5 x6) x17 x18 c -∗ K ⟨⟩))
      ⊢ wp frame (wpE (defs₀ (F := F)) Variants.none c none) E
          (cc0__fused i arg1 h1 arg2 h2 arg3 h3 arg4 h4 arg5 h5 arg6 h6 arg7 h7 arg8 h8 arg9 h9 arg10 h10 arg11 h11 arg12 h12
            arg13 h13 arg14 h14 arg15 h15 arg16 h16 arg17 h17 arg18 h18) K := by
  simp only [cc0__fused_eq_skeleton]; unfold cc0__fused_skel
  rw [held]; unfold owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩⟩, Hk⟩
  sl_exec (disch := first | sl_exact c1 | sl_exact c2 | sl_exact c3 | sl_exact c4)
  sl_step
  iapply Hk
  istop
  refine held_intro c e1 e2 e3 e4 e5 e6 e7 e8 e9
    e10 e11 e12 e13 ?_ e15 ?_ e17 e18
  · unfold run_last.sl.H14_1; rw [read_last _ _ zero2, load_whole _ _ e1 zero3, load_whole _ _ e3 zero2, load_whole _ _ e4 zero2, load_whole _ _ e14 zero2, load_whole _ _ e15 zero2]
  · unfold run_last.sl.v12 run_last.sl.H14_1; rw [read_last _ _ zero2, View.readCov_unit_zero _ zero2, load_whole _ _ e1 zero3, load_whole _ _ e3 zero2, load_whole _ _ e4 zero2, load_whole _ _ e14 zero2, load_whole _ _ e15 zero2, load_whole _ _ e7 zero1, load_whole _ _ e5 zero2, load_whole _ _ e6 zero1]

set_option maxHeartbeats 1000000 in
/-- At a point that writes: the block of the result, from the first layer's rows of that block. -/
theorem run_out (c : Dev nD) (i : grid0.Coords) (c1 : ¬isFirst i) (c2 : ¬isAcc i) (c3 : ¬isLastAcc i) (c4 : isOut i)
    (E : Set ℕ) (K : PUnit → sProp 𝕄) :
    iprop(held arg1 arg2 arg3 arg4 arg5 arg6 arg7 arg8 arg9 arg10 arg11 arg12 arg13 arg14 arg15 arg16 arg17 arg18
          x1 x2 x3 x4 x5 x6 x7 x8 x9 x10 x11 x12 x13 x14 x15 x16 x17 x18 c
        ∗ (held arg1 arg2 arg3 arg4 arg5 arg6 arg7 arg8 arg9 arg10 arg11 arg12 arg13 arg14 arg15 arg16 arg17 arg18
            x1 x2 x3 x4 x5 x6 x7 x8 x9 x10 x11 x12 (outBlock i c4 x9 x11 x12 x16 x17 x18) x14 x15 x16 x17 x18 c -∗ K ⟨⟩))
      ⊢ wp frame (wpE (defs₀ (F := F)) Variants.none c none) E
          (cc0__fused i arg1 h1 arg2 h2 arg3 h3 arg4 h4 arg5 h5 arg6 h6 arg7 h7 arg8 h8 arg9 h9 arg10 h10 arg11 h11 arg12 h12
            arg13 h13 arg14 h14 arg15 h15 arg16 h16 arg17 h17 arg18 h18) K := by
  simp only [cc0__fused_eq_skeleton]; unfold cc0__fused_skel
  rw [held]; unfold owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩⟩, Hk⟩
  sl_exec (disch := first | sl_exact c1 | sl_exact c2 | sl_exact c3 | sl_exact c4)
  sl_step
  iapply Hk
  istop
  refine held_intro c e1 e2 e3 e4 e5 e6 e7 e8 e9
    e10 e11 e12 ?_ e14 e15 e16 e17 e18
  · unfold run_out.sl.r; rw [read_last _ _ zero2, load_whole _ _ e9 zero1, load_whole _ _ e11 zero1, load_whole _ _ e12 zero2, load_whole _ _ e17 zero2, load_whole _ _ e18 zero2]; subst e16; rfl

end Cert.KernelIdeal.Body

end
-- ==== Proof.KernelRun.lean ====
module

public import proofs.«01_k».proof.Proof.Body
public import proofs.«01_k».proof.Proof.Gen.KernelIdeal.Frame
public import proofs.«01_k».proof.Proof.Gen.KernelIdeal.Skeleton
public import Idealize.ShloMosaic.Lib.Pipeline.Value
public import Idealize.ShloMosaic.Lib.Claim

@[expose] public section

set_option maxRecDepth 16384

noncomputable section

namespace Cert.KernelIdeal.Run

open Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which points do what -/

/-- The first point is point 0. -/
theorem isFirst_iff : ∀ t : Fin cfg0.N, isFirst (grid0.coords t) ↔ t.val = 0 :=
  (by decide +kernel : ∀ t : Fin grid0.N, isFirst (grid0.coords t) ↔ t.val = 0)
/-- The points before the eighth accumulate. -/
theorem isAcc_iff : ∀ t : Fin cfg0.N, isAcc (grid0.coords t) ↔ t.val < 8 :=
  (by decide +kernel : ∀ t : Fin grid0.N, isAcc (grid0.coords t) ↔ t.val < 8)
/-- Point 7 is the last to accumulate. -/
theorem isLastAcc_iff : ∀ t : Fin cfg0.N, isLastAcc (grid0.coords t) ↔ t.val = 7 :=
  (by decide +kernel : ∀ t : Fin grid0.N, isLastAcc (grid0.coords t) ↔ t.val = 7)
/-- The points from the eighth on write. -/
theorem isOut_iff : ∀ t : Fin cfg0.N, isOut (grid0.coords t) ↔ 8 ≤ t.val :=
  (by decide +kernel : ∀ t : Fin grid0.N, isOut (grid0.coords t) ↔ 8 ≤ t.val)
/-- The result's window is idle before the eighth point. -/
theorem idle_before : ∀ t : Fin cfg0.N, t.val < 8 → cfg0.idle 12 (grid0.coords t) = true :=
  (by decide +kernel : ∀ t : Fin cfg0.N, t.val < 8 → cfg0.idle 12 (grid0.coords t) = true)
/-- Nothing is written back before the eighth point. -/
theorem noflush_before : ∀ t : Fin cfg0.N, t.val < 8 → (cfg0.win 12).flush t = false :=
  (by decide +kernel : ∀ t : Fin cfg0.N, t.val < 8 → (cfg0.win 12).flush t = false)
/-- The result's window is live from the eighth point on. -/
theorem live_after : ∀ t : Fin cfg0.N, 8 ≤ t.val → cfg0.idle 12 (grid0.coords t) = false :=
  (by decide +kernel : ∀ t : Fin cfg0.N, 8 ≤ t.val → cfg0.idle 12 (grid0.coords t) = false)

/-! ## What the scratch buffers hold -/

/-- Point `n` of the grid. -/
def pt (n : ℕ) (h : n < 12) : Fin cfg0.N := ⟨n, lt_of_lt_of_eq h N_0.symm⟩

/-- The adjacency as the first point copies it. -/
def adjB (c : Dev nD) : Vec F S1024x1024 .bf16 := k0_pay2 (iblk m c 1 (pt 0 (by decide)))
/-- The second layer's weights as the first point copies them. -/
def w1B (c : Dev nD) : Vec F S2048x1024 .bf16 := k0_pay3 (iblk m c 7 (pt 0 (by decide)))
/-- The third layer's weights as the first point copies them. -/
def w2B (c : Dev nD) : Vec F S1024x2048 .bf16 := k0_pay4 (iblk m c 9 (pt 0 (by decide)))

/-- The accumulator after point `n`: over zero, the contributions of points `0` to `n`, none beyond the seventh. -/
def acc (c : Dev nD) : ℕ → Vec F S1024x32 .f32
  | 0 => k0_pay5 (iblk m c 0 (pt 0 (by decide))) (adjB m c) (iblk m c 2 (pt 0 (by decide))) (iblk m c 3 (pt 0 (by decide))) k0_pay1
  | n + 1 => if h : n + 1 < 8 then
      k0_pay5 (iblk m c 0 (pt (n + 1) (by omega))) (adjB m c) (iblk m c 2 (pt (n + 1) (by omega))) (iblk m c 3 (pt (n + 1) (by omega))) (acc c n)
    else acc c n

/-- The first layer's output, as point 7 leaves it. -/
def z1 (c : Dev nD) : Vec F S1024x1024 .bf16 :=
  k0_pay6 (acc m c 7) (iblk m c 6 (pt 7 (by decide))) (iblk m c 4 (pt 7 (by decide))) (iblk m c 5 (pt 7 (by decide)))

/-- The block point `t` leaves in the result's window: a writing point's own, and anything before. -/
def outAt (c : Dev nD) (t : Fin cfg0.N) : Vec F S256x1024 .f32 :=
  if h : isOut (grid0.coords t) then
    outBlock (grid0.coords t) h (iblk m c 8 t) (iblk m c 10 t) (iblk m c 11 t) (z1 m c) (w1B m c) (w2B m c)
  else k0_pay10

/-- The accumulator at an accumulating point that is not the first. -/
theorem acc_step (c : Dev nD) (t : Fin cfg0.N) (h0 : t.val ≠ 0) (h : t.val < 8) :
    acc m c t.val = k0_pay5 (iblk m c 0 t) (adjB m c) (iblk m c 2 t) (iblk m c 3 t) (acc m c (t.val - 1)) := by
  obtain ⟨n, hn⟩ := t
  cases n with
  | zero => exact absurd rfl h0
  | succ n => exact dif_pos h

/-- The accumulator stays from point 7 on. -/
theorem acc_stay (c : Dev nD) (n : ℕ) (h : 8 ≤ n) : acc m c n = acc m c (n - 1) := by
  cases n with
  | zero => omega
  | succ n => exact dif_neg (by omega)

/-- The scratch buffers, as memrefs. -/
abbrev sc0 : Memref sig .tc .vmem S1024x32 .f32 := Memref.whole cc0_scratch0
/-- The adjacency's copy. -/
abbrev sc1 : Memref sig .tc .vmem S1024x1024 .bf16 := Memref.whole cc0_scratch1
/-- The first layer's output. -/
abbrev sc2 : Memref sig .tc .vmem S1024x1024 .bf16 := Memref.whole cc0_scratch2
/-- The second layer's weights. -/
abbrev sc3 : Memref sig .tc .vmem S2048x1024 .bf16 := Memref.whole cc0_scratch3
/-- The third layer's weights. -/
abbrev sc4 : Memref sig .tc .vmem S1024x2048 .bf16 := Memref.whole cc0_scratch4

/-- What the launch hands over: the scratch buffers at anything, and the generator register. -/
theorem start_eq (c : Dev nD) :
    (Pipeline.ΦA spec0 c : sProp 𝕄)
      = iprop(((∃ d, owns (c : Thread nD τ) sc0 fullShare d) ∗ (∃ d, owns (c : Thread nD τ) sc1 fullShare d)
          ∗ (∃ d, owns (c : Thread nD τ) sc2 fullShare d) ∗ (∃ d, owns (c : Thread nD τ) sc3 fullShare d)
          ∗ (∃ d, owns (c : Thread nD τ) sc4 fullShare d)) ∗ (∃ r, prngReg c r)) := by
  unfold Pipeline.ΦA; rw [scopedRest0_eq]; simp only [sc0, sc1, sc2, sc3, sc4, owns_whole]; try rfl

/-- The first layer's buffer before point `n`: at anything until point 7 has run, at the first layer's output after. -/
def layer (c : Dev nD) (n : ℕ) : sProp 𝕄 :=
  if n < 8 then iprop(∃ d, owns (c : Thread nD τ) sc2 fullShare d) else owns (c : Thread nD τ) sc2 fullShare (z1 m c)

/-- The scratch buffers before point `n`. -/
def Phi (c : Dev nD) : ℕ → sProp 𝕄
  | 0 => Pipeline.ΦA spec0 c
  | n + 1 => iprop((owns (c : Thread nD τ) sc0 fullShare (acc m c n) ∗ owns (c : Thread nD τ) sc1 fullShare (adjB m c)
      ∗ layer m c (n + 1) ∗ owns (c : Thread nD τ) sc3 fullShare (w1B m c) ∗ owns (c : Thread nD τ) sc4 fullShare (w2B m c))
      ∗ (∃ r, prngReg c r))

/-- The scratch buffers before a point that is not the first. -/
theorem Phi_pos (c : Dev nD) (n : ℕ) (h : n ≠ 0) :
    Phi m c n = iprop((owns (c : Thread nD τ) sc0 fullShare (acc m c (n - 1)) ∗ owns (c : Thread nD τ) sc1 fullShare (adjB m c)
      ∗ layer m c n ∗ owns (c : Thread nD τ) sc3 fullShare (w1B m c) ∗ owns (c : Thread nD τ) sc4 fullShare (w2B m c))
      ∗ (∃ r, prngReg c r)) := by
  cases n with
  | zero => exact absurd rfl h
  | succ n => rfl

/-- The proof data of the launch on core `c`: each input's buffer holds its block at every point, the result's what
    `outAt` says, the scratch buffers what `Phi` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => outAt m c t
  Φ t := Phi m c t.val
  q _ := fullShare
  owed _ := 0

/-- The arrays are what the region finds. -/
theorem A_eq (c : Dev nD) (w : Fin cfg0.W) : (dats m 0 c).A w = V m c (Pipeline.arrRef spec0 w) := by
  dsimp only [dats]

/-- The result's buffer after a point. -/
theorem after_out (c : Dev nD) (t : Fin cfg0.N) : (dats m 0 c).after 12 t = outAt m c t := by dsimp only [dats]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

/-- Input 0's buffer is left at its block. -/
theorem leaves0 (c : Dev nD) (t : Fin cfg0.N) :
    (dats m 0 c).leavesExact 0 t = owns (c : Thread nD τ) (st0_0 t) fullShare (iblk m c 0 t) := by
  unfold Dat.leavesExact
  rw [show cfg0.idle 0 (grid0.coords t) = false from rfl]
  dsimp only [dats]

/-- Input 1's buffer is left at its block. -/
theorem leaves1 (c : Dev nD) (t : Fin cfg0.N) :
    (dats m 0 c).leavesExact 1 t = owns (c : Thread nD τ) (st0_1 t) fullShare (iblk m c 1 t) := by
  unfold Dat.leavesExact
  rw [show cfg0.idle 1 (grid0.coords t) = false from rfl]
  dsimp only [dats]

/-- Input 2's buffer is left at its block. -/
theorem leaves2 (c : Dev nD) (t : Fin cfg0.N) :
    (dats m 0 c).leavesExact 2 t = owns (c : Thread nD τ) (st0_2 t) fullShare (iblk m c 2 t) := by
  unfold Dat.leavesExact
  rw [show cfg0.idle 2 (grid0.coords t) = false from rfl]
  dsimp only [dats]

/-- Input 3's buffer is left at its block. -/
theorem leaves3 (c : Dev nD) (t : Fin cfg0.N) :
    (dats m 0 c).leavesExact 3 t = owns (c : Thread nD τ) (st0_3 t) fullShare (iblk m c 3 t) := by
  unfold Dat.leavesExact
  rw [show cfg0.idle 3 (grid0.coords t) = false from rfl]
  dsimp only [dats]

/-- Input 4's buffer is left at its block. -/
theorem leaves4 (c : Dev nD) (t : Fin cfg0.N) :
    (dats m 0 c).leavesExact 4 t = owns (c : Thread nD τ) (st0_4 t) fullShare (iblk m c 4 t) := by
  unfold Dat.leavesExact
  rw [show cfg0.idle 4 (grid0.coords t) = false from rfl]
  dsimp only [dats]

/-- Input 5's buffer is left at its block. -/
theorem leaves5 (c : Dev nD) (t : Fin cfg0.N) :
    (dats m 0 c).leavesExact 5 t = owns (c : Thread nD τ) (st0_5 t) fullShare (iblk m c 5 t) := by
  unfold Dat.leavesExact
  rw [show cfg0.idle 5 (grid0.coords t) = false from rfl]
  dsimp only [dats]

/-- Input 6's buffer is left at its block. -/
theorem leaves6 (c : Dev nD) (t : Fin cfg0.N) :
    (dats m 0 c).leavesExact 6 t = owns (c : Thread nD τ) (st0_6 t) fullShare (iblk m c 6 t) := by
  unfold Dat.leavesExact
  rw [show cfg0.idle 6 (grid0.coords t) = false from rfl]
  dsimp only [dats]

/-- Input 7's buffer is left at its block. -/
theorem leaves7 (c : Dev nD) (t : Fin cfg0.N) :
    (dats m 0 c).leavesExact 7 t = owns (c : Thread nD τ) (st0_7 t) fullShare (iblk m c 7 t) := by
  unfold Dat.leavesExact
  rw [show cfg0.idle 7 (grid0.coords t) = false from rfl]
  dsimp only [dats]

/-- Input 8's buffer is left at its block. -/
theorem leaves8 (c : Dev nD) (t : Fin cfg0.N) :
    (dats m 0 c).leavesExact 8 t = owns (c : Thread nD τ) (st0_8 t) fullShare (iblk m c 8 t) := by
  unfold Dat.leavesExact
  rw [show cfg0.idle 8 (grid0.coords t) = false from rfl]
  dsimp only [dats]

/-- Input 9's buffer is left at its block. -/
theorem leaves9 (c : Dev nD) (t : Fin cfg0.N) :
    (dats m 0 c).leavesExact 9 t = owns (c : Thread nD τ) (st0_9 t) fullShare (iblk m c 9 t) := by
  unfold Dat.leavesExact
  rw [show cfg0.idle 9 (grid0.coords t) = false from rfl]
  dsimp only [dats]

/-- Input 10's buffer is left at its block. -/
theorem leaves10 (c : Dev nD) (t : Fin cfg0.N) :
    (dats m 0 c).leavesExact 10 t = owns (c : Thread nD τ) (st0_10 t) fullShare (iblk m c 10 t) := by
  unfold Dat.leavesExact
  rw [show cfg0.idle 10 (grid0.coords t) = false from rfl]
  dsimp only [dats]

/-- Input 11's buffer is left at its block. -/
theorem leaves11 (c : Dev nD) (t : Fin cfg0.N) :
    (dats m 0 c).leavesExact 11 t = owns (c : Thread nD τ) (st0_11 t) fullShare (iblk m c 11 t) := by
  unfold Dat.leavesExact
  rw [show cfg0.idle 11 (grid0.coords t) = false from rfl]
  dsimp only [dats]

/-- What the body returns, the inputs' buffers at their blocks. -/
theorem bodyPost_eq (c : Dev nD) (t : Fin cfg0.N) :
    bodyPost m c t = iprop(Phi m c (t.val + 1) ∗ (dats m 0 c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare (iblk m c 6 t)
    ∗ owns (c : Thread nD τ) (st0_7 t) fullShare (iblk m c 7 t)
    ∗ owns (c : Thread nD τ) (st0_8 t) fullShare (iblk m c 8 t)
    ∗ owns (c : Thread nD τ) (st0_9 t) fullShare (iblk m c 9 t)
    ∗ owns (c : Thread nD τ) (st0_10 t) fullShare (iblk m c 10 t)
    ∗ owns (c : Thread nD τ) (st0_11 t) fullShare (iblk m c 11 t)
    ∗ (dats m 0 c).leavesExact 12 t) := by
  unfold bodyPost
  rw [leaves0 m c t, leaves1 m c t, leaves2 m c t, leaves3 m c t, leaves4 m c t, leaves5 m c t, leaves6 m c t, leaves7 m c t, leaves8 m c t, leaves9 m c t, leaves10 m c t, leaves11 m c t]
  rfl

set_option maxHeartbeats 4000000 in
/-- What the body is called with, the inputs' buffers at their blocks. -/
theorem bodyPre_le (c : Dev nD) (t : Fin cfg0.N) :
    bodyPre m c t ⊢ iprop(Phi m c t.val ∗ (dats m 0 c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare (iblk m c 6 t)
    ∗ owns (c : Thread nD τ) (st0_7 t) fullShare (iblk m c 7 t)
    ∗ owns (c : Thread nD τ) (st0_8 t) fullShare (iblk m c 8 t)
    ∗ owns (c : Thread nD τ) (st0_9 t) fullShare (iblk m c 9 t)
    ∗ owns (c : Thread nD τ) (st0_10 t) fullShare (iblk m c 10 t)
    ∗ owns (c : Thread nD τ) (st0_11 t) fullShare (iblk m c 11 t)
    ∗ (∃ d, owns (c : Thread nD τ) (st0_12 t) fullShare ((dats m 0 c).before 12 t d))) := by
  unfold bodyPre
  rw [show (dats m 0 c).Φ t.castSucc = Phi m c t.val from rfl]
  simp only [before0_0_of m (dats m 0 c) (A_eq m c 0) (fun _ => rfl), before0_1_of m (dats m 0 c) (A_eq m c 1) (fun _ => rfl), before0_2_of m (dats m 0 c) (A_eq m c 2) (fun _ => rfl), before0_3_of m (dats m 0 c) (A_eq m c 3) (fun _ => rfl), before0_4_of m (dats m 0 c) (A_eq m c 4) (fun _ => rfl), before0_5_of m (dats m 0 c) (A_eq m c 5) (fun _ => rfl), before0_6_of m (dats m 0 c) (A_eq m c 6) (fun _ => rfl), before0_7_of m (dats m 0 c) (A_eq m c 7) (fun _ => rfl), before0_8_of m (dats m 0 c) (A_eq m c 8) (fun _ => rfl), before0_9_of m (dats m 0 c) (A_eq m c 9) (fun _ => rfl), before0_10_of m (dats m 0 c) (A_eq m c 10) (fun _ => rfl), before0_11_of m (dats m 0 c) (A_eq m c 11) (fun _ => rfl)]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- Until point 7 has run the first layer's buffer is at anything. -/
theorem layer_before (c : Dev nD) (n : ℕ) (h : n < 8) : layer m c n = iprop(∃ d, owns (c : Thread nD τ) sc2 fullShare d) := if_pos h
/-- After it the buffer is at the first layer's output. -/
theorem layer_after (c : Dev nD) (n : ℕ) (h : ¬n < 8) : layer m c n = owns (c : Thread nD τ) sc2 fullShare (z1 m c) := if_neg h

/-- The adjacency's copy, at the first point. -/
theorem adjB_at (c : Dev nD) (t : Fin cfg0.N) (h : t.val = 0) : adjB m c = k0_pay2 (iblk m c 1 t) := by
  obtain rfl : t = pt 0 (by decide) := Fin.ext h
  rfl
/-- The second layer's weights, at the first point. -/
theorem w1B_at (c : Dev nD) (t : Fin cfg0.N) (h : t.val = 0) : w1B m c = k0_pay3 (iblk m c 7 t) := by
  obtain rfl : t = pt 0 (by decide) := Fin.ext h
  rfl
/-- The third layer's weights, at the first point. -/
theorem w2B_at (c : Dev nD) (t : Fin cfg0.N) (h : t.val = 0) : w2B m c = k0_pay4 (iblk m c 9 t) := by
  obtain rfl : t = pt 0 (by decide) := Fin.ext h
  rfl
/-- The accumulator at the first point. -/
theorem acc_first (c : Dev nD) (t : Fin cfg0.N) (h : t.val = 0) :
    acc m c t.val = k0_pay5 (iblk m c 0 t) (adjB m c) (iblk m c 2 t) (iblk m c 3 t) k0_pay1 := by
  obtain rfl : t = pt 0 (by decide) := Fin.ext h
  rfl

/-- The first layer's output at point 7, over what point 6 left. -/
theorem z1_at (c : Dev nD) (t : Fin cfg0.N) (h : t.val = 7) :
    z1 m c = k0_pay6 (k0_pay5 (iblk m c 0 t) (adjB m c) (iblk m c 2 t) (iblk m c 3 t) (acc m c (t.val - 1))) (iblk m c 6 t) (iblk m c 4 t) (iblk m c 5 t) := by
  rw [← acc_step m c t (by omega) (by omega)]
  obtain rfl : t = pt 7 (by decide) := Fin.ext h
  rfl

/-- From point 8 on the result's buffer is left at that point's block. -/
theorem leaves_out (c : Dev nD) (t : Fin cfg0.N) (h : 8 ≤ t.val) :
    (dats m 0 c).leavesExact 12 t = owns (c : Thread nD τ) (st0_12 t) fullShare (outAt m c t) := by
  unfold Dat.leavesExact; rw [live_after t h, after_out]

set_option maxHeartbeats 4000000 in
/-- The body at the first point. -/
theorem body_first (c : Dev nD) (t : Fin cfg0.N) (h : t.val = 0) :
    bodyPre m c t ⊢ wp frame (wpE (defs₀ (F := F)) Variants.none c none) Set.univ (bodyAt0 t) (fun _ => bodyPost m c t) := by
  refine (bodyPre_le m c t).trans ?_
  rw [bodyPost_eq, bodyAt0]
  rw [Phi_pos m c (t.val + 1) (by omega), show t.val + 1 - 1 = t.val from rfl, layer_before m c _ (by omega), Dat.leavesExact_idle (dats m 0 c) 12 t (idle_before t (by omega)) (noflush_before t (by omega))]
  rw [show Phi m c t.val = Pipeline.ΦA spec0 c from by rw [h]; rfl, start_eq, acc_first m c t h, adjB_at m c t h, w1B_at m c t h, w2B_at m c t h]
  iintro ⟨⟨⟨⟨%s0, S0⟩, ⟨%s1, S1⟩, ⟨%s2, S2⟩, ⟨%s3, S3⟩, ⟨%s4, S4⟩⟩, Hr⟩, Ho, H0, H1, H2, H3, H4, H5, H6, H7, H8, H9, H10, H11, ⟨%d12, H12⟩⟩
  iapply (run_first (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) sc0 (Memref.isWhole_whole _) sc1 (Memref.isWhole_whole _) sc2 (Memref.isWhole_whole _) sc3 (Memref.isWhole_whole _) sc4 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((dats m 0 c).before 12 t d12) s0 s1 s2 s3 s4
    c (grid0.coords t) ((isFirst_iff t).mpr (by omega)) ((isAcc_iff t).mpr (by omega)) (fun h => absurd ((isLastAcc_iff t).mp h) (by omega)) (fun h => absurd ((isOut_iff t).mp h) (by omega)) Set.univ _)
  isplitl [H0 H1 H2 H3 H4 H5 H6 H7 H8 H9 H10 H11 H12 S0 S1 S2 S3 S4]
  · unfold held
    iframe
  unfold held
  iintro ⟨H0, H1, H2, H3, H4, H5, H6, H7, H8, H9, H10, H11, H12, S0, S1, S2, S3, S4⟩
  isplitl [S0 S1 S2 S3 S4 Hr]
  · isplitl [S0 S1 S2 S3 S4]
    · isplitl [S0]; · iexact S0
      isplitl [S1]; · iexact S1
      isplitl [S2]; · iexists s2; iexact S2
      isplitl [S3]; · iexact S3
      iexact S4
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexists d12; iexact H12

set_option maxHeartbeats 4000000 in
/-- The body at an accumulating point between the first and the last. -/
theorem body_acc (c : Dev nD) (t : Fin cfg0.N) (h0 : t.val ≠ 0) (h : t.val < 7) :
    bodyPre m c t ⊢ wp frame (wpE (defs₀ (F := F)) Variants.none c none) Set.univ (bodyAt0 t) (fun _ => bodyPost m c t) := by
  refine (bodyPre_le m c t).trans ?_
  rw [bodyPost_eq, bodyAt0]
  rw [Phi_pos m c t.val h0, Phi_pos m c (t.val + 1) (by omega), layer_before m c _ (by omega), layer_before m c _ (by omega), Dat.leavesExact_idle (dats m 0 c) 12 t (idle_before t (by omega)) (noflush_before t (by omega)),
    show t.val + 1 - 1 = t.val from rfl, acc_step m c t h0 (by omega)]
  iintro ⟨⟨⟨S0, S1, ⟨%s2, S2⟩, S3, S4⟩, Hr⟩, Ho, H0, H1, H2, H3, H4, H5, H6, H7, H8, H9, H10, H11, ⟨%d12, H12⟩⟩
  iapply (run_acc (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) sc0 (Memref.isWhole_whole _) sc1 (Memref.isWhole_whole _) sc2 (Memref.isWhole_whole _) sc3 (Memref.isWhole_whole _) sc4 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((dats m 0 c).before 12 t d12) (acc m c (t.val - 1)) (adjB m c) s2 (w1B m c) (w2B m c)
    c (grid0.coords t) (fun h => absurd ((isFirst_iff t).mp h) (by omega)) ((isAcc_iff t).mpr (by omega)) (fun h => absurd ((isLastAcc_iff t).mp h) (by omega)) (fun h => absurd ((isOut_iff t).mp h) (by omega)) Set.univ _)
  isplitl [H0 H1 H2 H3 H4 H5 H6 H7 H8 H9 H10 H11 H12 S0 S1 S2 S3 S4]
  · unfold held
    iframe
  unfold held
  iintro ⟨H0, H1, H2, H3, H4, H5, H6, H7, H8, H9, H10, H11, H12, S0, S1, S2, S3, S4⟩
  isplitl [S0 S1 S2 S3 S4 Hr]
  · isplitl [S0 S1 S2 S3 S4]
    · isplitl [S0]; · iexact S0
      isplitl [S1]; · iexact S1
      isplitl [S2]; · iexists s2; iexact S2
      isplitl [S3]; · iexact S3
      iexact S4
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexists d12; iexact H12

set_option maxHeartbeats 4000000 in
/-- The body at the last accumulating point. -/
theorem body_last (c : Dev nD) (t : Fin cfg0.N) (h : t.val = 7) :
    bodyPre m c t ⊢ wp frame (wpE (defs₀ (F := F)) Variants.none c none) Set.univ (bodyAt0 t) (fun _ => bodyPost m c t) := by
  refine (bodyPre_le m c t).trans ?_
  rw [bodyPost_eq, bodyAt0]
  rw [Phi_pos m c t.val (by omega), Phi_pos m c (t.val + 1) (by omega), layer_before m c _ (by omega), layer_after m c _ (by omega), Dat.leavesExact_idle (dats m 0 c) 12 t (idle_before t (by omega)) (noflush_before t (by omega)),
    show t.val + 1 - 1 = t.val from rfl, acc_step m c t (by omega) (by omega), z1_at m c t h]
  iintro ⟨⟨⟨S0, S1, ⟨%s2, S2⟩, S3, S4⟩, Hr⟩, Ho, H0, H1, H2, H3, H4, H5, H6, H7, H8, H9, H10, H11, ⟨%d12, H12⟩⟩
  iapply (run_last (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) sc0 (Memref.isWhole_whole _) sc1 (Memref.isWhole_whole _) sc2 (Memref.isWhole_whole _) sc3 (Memref.isWhole_whole _) sc4 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((dats m 0 c).before 12 t d12) (acc m c (t.val - 1)) (adjB m c) s2 (w1B m c) (w2B m c)
    c (grid0.coords t) (fun h => absurd ((isFirst_iff t).mp h) (by omega)) ((isAcc_iff t).mpr (by omega)) ((isLastAcc_iff t).mpr (by omega)) (fun h => absurd ((isOut_iff t).mp h) (by omega)) Set.univ _)
  isplitl [H0 H1 H2 H3 H4 H5 H6 H7 H8 H9 H10 H11 H12 S0 S1 S2 S3 S4]
  · unfold held
    iframe
  unfold held
  iintro ⟨H0, H1, H2, H3, H4, H5, H6, H7, H8, H9, H10, H11, H12, S0, S1, S2, S3, S4⟩
  isplitl [S0 S1 S2 S3 S4 Hr]
  · isplitl [S0 S1 S2 S3 S4]
    · isplitl [S0]; · iexact S0
      isplitl [S1]; · iexact S1
      isplitl [S2]; · iexact S2
      isplitl [S3]; · iexact S3
      iexact S4
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexists d12; iexact H12

set_option maxHeartbeats 4000000 in
/-- The body at a writing point. -/
theorem body_out (c : Dev nD) (t : Fin cfg0.N) (h : 8 ≤ t.val) :
    bodyPre m c t ⊢ wp frame (wpE (defs₀ (F := F)) Variants.none c none) Set.univ (bodyAt0 t) (fun _ => bodyPost m c t) := by
  refine (bodyPre_le m c t).trans ?_
  rw [bodyPost_eq, bodyAt0]
  have ho : isOut (grid0.coords t) := (isOut_iff t).mpr h
  rw [Phi_pos m c t.val (by omega), Phi_pos m c (t.val + 1) (by omega), layer_after m c _ (by omega), layer_after m c _ (by omega), leaves_out m c t h,
    show t.val + 1 - 1 = t.val from rfl, acc_stay m c t.val h, outAt, dif_pos ho]
  iintro ⟨⟨⟨S0, S1, S2, S3, S4⟩, Hr⟩, Ho, H0, H1, H2, H3, H4, H5, H6, H7, H8, H9, H10, H11, ⟨%d12, H12⟩⟩
  iapply (run_out (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) sc0 (Memref.isWhole_whole _) sc1 (Memref.isWhole_whole _) sc2 (Memref.isWhole_whole _) sc3 (Memref.isWhole_whole _) sc4 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((dats m 0 c).before 12 t d12) (acc m c (t.val - 1)) (adjB m c) (z1 m c) (w1B m c) (w2B m c)
    c (grid0.coords t) (fun h => absurd ((isFirst_iff t).mp h) (by omega)) (fun h => absurd ((isAcc_iff t).mp h) (by omega)) (fun h => absurd ((isLastAcc_iff t).mp h) (by omega)) ((isOut_iff t).mpr (by omega)) Set.univ _)
  isplitl [H0 H1 H2 H3 H4 H5 H6 H7 H8 H9 H10 H11 H12 S0 S1 S2 S3 S4]
  · unfold held
    iframe
  unfold held
  iintro ⟨H0, H1, H2, H3, H4, H5, H6, H7, H8, H9, H10, H11, H12, S0, S1, S2, S3, S4⟩
  isplitl [S0 S1 S2 S3 S4 Hr]
  · isplitl [S0 S1 S2 S3 S4]
    · isplitl [S0]; · iexact S0
      isplitl [S1]; · iexact S1
      isplitl [S2]; · iexact S2
      isplitl [S3]; · iexact S3
      iexact S4
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact body_first m c t h0
  by_cases h1 : t.val < 7
  · exact body_acc m c t h0 h1
  by_cases h2 : t.val = 7
  · exact body_last m c t h2
  · exact body_out m c t (by omega)

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The launch's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The launch begins as the first point finds the scratch buffers. -/
theorem hin (c : Dev nD) : Pipeline.ΦA spec0 c ⊢ (dats m 0 c).Φ 0 := Idealize.SL.BI.Entails.refl _

/-- After the last point what the scratch buffers hold is forgotten. -/
theorem hout (c : Dev nD) : (dats m 0 c).Φ (Fin.last cfg0.N) ⊢ Pipeline.ΦA spec0 c := by
  rw [show (dats m 0 c).Φ (Fin.last cfg0.N) = Phi m c cfg0.N from rfl, show cfg0.N = 12 from N_0, Phi_pos m c 12 (by decide),
    layer_after m c 12 (by decide), start_eq]
  iintro ⟨⟨S0, S1, S2, S3, S4⟩, Hr⟩
  isplitl [S0 S1 S2 S3 S4]
  · isplitl [S0]; · iexists _; iexact S0
    isplitl [S1]; · iexists _; iexact S1
    isplitl [S2]; · iexists _; iexact S2
    isplitl [S3]; · iexists _; iexact S3
    iexists _; iexact S4
  iexact Hr

set_option backward.isDefEq.respectTransparency.types false in
/-- The run: every execution ends with the launch's arrays at what the proof data says and every counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run without the counters. -/
theorem run_main : θ_run defs (onTc (τ := τ) (main (F := F))) (s₀ m ρ) (Pipeline.FramePost cfgs (dats m) 0 (V m)) :=
  (θ_run defs _ _).mono (fun _ h => h.1) (run_quiescent m ρ)

/-- The frame: the arguments end as they began, and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run_main m ρ)) ((θ_run defs _ _).mono (fun _ h => h.2) (run_quiescent m ρ))

end Cert.KernelIdeal.Run

end
-- ==== Proof.KernelFrame.lean ====
/- The kernel as printed ends with its arguments unchanged: it is the same program as the idealised kernel. -/
module

public import proofs.«01_k».proof.Proof.SameText
public import proofs.«01_k».proof.Proof.KernelRun

@[expose] public section

set_option maxRecDepth 16384

noncomputable section

namespace Cert.Kernel.Run

open Idealize.ShloMosaic Idealize.ShloMosaic.TcCoe Idealize.SL.Sem

variable {F : FTy → Type} [FloatOps F]
variable (m : (ℓ : Loc nD τ sig) → Buf (Elt F) ℓ) (ρ : Dev nD → PrngReg)

/-- The frame of the kernel as printed, from that of the idealised kernel. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) := by
  rw [Cert.Same.defs_same, Cert.Same.main_same]
  exact Cert.KernelIdeal.Run.frame m ρ

end Cert.Kernel.Run

end
-- ==== Proof.RefRun.lean ====
/- The reference's run: @main's operations as a list, and what its buffers hold after them. -/
module

public import proofs.«01_k».proof.Proof.Gen.ReferenceIdeal
public import Idealize.ShloMosaic.Lib.Claim
public import Idealize.ShloMosaic.Lib.Pipeline.Regions
public import Idealize.ShloMosaic.Lib.StableHlo.RunRead

@[expose] public section

set_option maxRecDepth 16384

noncomputable section

namespace Cert.ReferenceIdeal.Ref

open Cert.ReferenceIdeal.Gen
open Idealize.ShloMosaic Idealize.ShloMosaic.TcCoe Idealize.SL.Sem

variable {F : FTy → Type} [FloatOps F]

set_option maxHeartbeats 40000000 in
/-- The operations of the neighbours' sum. -/
abbrev neighbourOps : List (HloOp τ sig (Elt F)) :=
  ( StableHlo.binary main_arg1 main_arg0 main_v0 ((fun l r => Host.dotGeneral dot_S1024x1024_S8x32x1024x12_S1024x8x32x12_0_2_1_013_n_n none l r) : (⟨S1024x1024, .f32⟩ : BufTy).Contents (Elt F) → (⟨S8x32x1024x12, .f32⟩ : BufTy).Contents (Elt F) → (⟨S1024x8x32x12, .f32⟩ : BufTy).Contents (Elt F))
  :: StableHlo.unary main_v0 main_v1 ((transpose S8x32x1024x12 [1, 2, 0, 3] · transposes_S1024x8x32x12_S8x32x1024x12_1_2_0_3) : (⟨S1024x8x32x12, .f32⟩ : BufTy).Contents (Elt F) → (⟨S8x32x1024x12, .f32⟩ : BufTy).Contents (Elt F))
  :: [] )
set_option maxHeartbeats 40000000 in
/-- They touch TensorCore references only. -/
theorem neighbourOps_sub : (neighbourOps : List (HloOp τ sig (Elt F))).Forall fun op => op.bufs ⊆ StableHlo.tcRefs τ sig :=
  ⟨StableHlo.binary_bufs_sub .., StableHlo.unary_bufs_sub ..⟩
/-- Each determines its results. -/
theorem neighbourOps_fresh : (neighbourOps : List (HloOp τ sig (Elt F))).Forall fun op => op.fresh = ∅ := by
  simp only [List.Forall]; repeat' constructor

set_option maxHeartbeats 40000000 in
/-- The operations of the three layers. -/
abbrev layersOps : List (HloOp τ sig (Elt F)) :=
  ( StableHlo.binary main_arg0 main_v1 main_v2 ((fun a b => concatenate S8x64x1024x12 1 [⟨S8x32x1024x12, a⟩, ⟨S8x32x1024x12, b⟩] concatenates_S8x32x1024x12_S8x32x1024x12_S8x64x1024x12_d1) : (⟨S8x32x1024x12, .f32⟩ : BufTy).Contents (Elt F) → (⟨S8x32x1024x12, .f32⟩ : BufTy).Contents (Elt F) → (⟨S8x64x1024x12, .f32⟩ : BufTy).Contents (Elt F))
  :: StableHlo.binary main_arg2 main_v2 main_v3 ((fun l r => Host.dotGeneral dot_S32x64_S8x64x1024x12_S32x8x1024x12_1_1_0_023_n_n none l r) : (⟨S32x64, .f32⟩ : BufTy).Contents (Elt F) → (⟨S8x64x1024x12, .f32⟩ : BufTy).Contents (Elt F) → (⟨S32x8x1024x12, .f32⟩ : BufTy).Contents (Elt F))
  :: StableHlo.unary main_v3 main_v4 ((transpose S8x32x1024x12 [1, 0, 2, 3] · transposes_S32x8x1024x12_S8x32x1024x12_1_0_2_3) : (⟨S32x8x1024x12, .f32⟩ : BufTy).Contents (Elt F) → (⟨S8x32x1024x12, .f32⟩ : BufTy).Contents (Elt F))
  :: StableHlo.unary main_arg3 main_v5 (broadcastInDim S1x32x1x1 ![1] bcast_S32_S1x32x1x1_1 : (⟨S32, .f32⟩ : BufTy).Contents (Elt F) → (⟨S1x32x1x1, .f32⟩ : BufTy).Contents (Elt F))
  :: StableHlo.unary main_v5 main_v6 (broadcastInDim S8x32x1024x12 ![0, 1, 2, 3] bcast_S1x32x1x1_S8x32x1024x12_0_1_2_3 : (⟨S1x32x1x1, .f32⟩ : BufTy).Contents (Elt F) → (⟨S8x32x1024x12, .f32⟩ : BufTy).Contents (Elt F))
  :: StableHlo.binary main_v4 main_v6 main_v7 (addf : (⟨S8x32x1024x12, .f32⟩ : BufTy).Contents (Elt F) → (⟨S8x32x1024x12, .f32⟩ : BufTy).Contents (Elt F) → (⟨S8x32x1024x12, .f32⟩ : BufTy).Contents (Elt F))
  :: StableHlo.nullary main_cst (constant S_ .f32 0x00000000#32)
  :: StableHlo.binary main_v7 main_cst main_v8 ((fun x v => Host.reduceAdd x v reducesTo_S8x32x1024x12_S32x1024x12_d0 h_S_) : (⟨S8x32x1024x12, .f32⟩ : BufTy).Contents (Elt F) → (⟨S_, .f32⟩ : BufTy).Contents (Elt F) → (⟨S32x1024x12, .f32⟩ : BufTy).Contents (Elt F))
  :: StableHlo.nullary main_cst_0 (constant S_ .f32 0x00000000#32)
  :: StableHlo.binary main_v8 main_cst_0 main_v9 ((fun x v => Host.reduceAdd x v reducesTo_S32x1024x12_S32x1024_d2 h_S_) : (⟨S32x1024x12, .f32⟩ : BufTy).Contents (Elt F) → (⟨S_, .f32⟩ : BufTy).Contents (Elt F) → (⟨S32x1024, .f32⟩ : BufTy).Contents (Elt F))
  :: StableHlo.unary main_v9 main_v10 ((transpose S1024x32 [1, 0] · transposes_S32x1024_S1024x32_1_0) : (⟨S32x1024, .f32⟩ : BufTy).Contents (Elt F) → (⟨S1024x32, .f32⟩ : BufTy).Contents (Elt F))
  :: StableHlo.unary main_arg4 main_v11 ((transpose S32x1024 [1, 0] · transposes_S1024x32_S32x1024_1_0) : (⟨S1024x32, .f32⟩ : BufTy).Contents (Elt F) → (⟨S32x1024, .f32⟩ : BufTy).Contents (Elt F))
  :: StableHlo.binary main_v10 main_v11 main_v12 ((fun l r => Host.dotGeneral dot_S1024x32_S32x1024_S1024x1024_1_0_0_1_n_n none l r) : (⟨S1024x32, .f32⟩ : BufTy).Contents (Elt F) → (⟨S32x1024, .f32⟩ : BufTy).Contents (Elt F) → (⟨S1024x1024, .f32⟩ : BufTy).Contents (Elt F))
  :: StableHlo.unary main_arg5 main_v13 (broadcastInDim S1x1024 ![1] bcast_S1024_S1x1024_1 : (⟨S1024, .f32⟩ : BufTy).Contents (Elt F) → (⟨S1x1024, .f32⟩ : BufTy).Contents (Elt F))
  :: StableHlo.unary main_v13 main_v14 (broadcastInDim S1024x1024 ![0, 1] bcast_S1x1024_S1024x1024_0_1 : (⟨S1x1024, .f32⟩ : BufTy).Contents (Elt F) → (⟨S1024x1024, .f32⟩ : BufTy).Contents (Elt F))
  :: StableHlo.binary main_v12 main_v14 main_v15 (addf : (⟨S1024x1024, .f32⟩ : BufTy).Contents (Elt F) → (⟨S1024x1024, .f32⟩ : BufTy).Contents (Elt F) → (⟨S1024x1024, .f32⟩ : BufTy).Contents (Elt F))
  :: StableHlo.unary main_v15 main_v16 (Host.tanh : (⟨S1024x1024, .f32⟩ : BufTy).Contents (Elt F) → (⟨S1024x1024, .f32⟩ : BufTy).Contents (Elt F))
  :: StableHlo.unary main_arg6 main_v17 ((transpose S1024x2048 [1, 0] · transposes_S2048x1024_S1024x2048_1_0) : (⟨S2048x1024, .f32⟩ : BufTy).Contents (Elt F) → (⟨S1024x2048, .f32⟩ : BufTy).Contents (Elt F))
  :: StableHlo.binary main_v16 main_v17 main_v18 ((fun l r => Host.dotGeneral dot_S1024x1024_S1024x2048_S1024x2048_1_0_0_1_n_n none l r) : (⟨S1024x1024, .f32⟩ : BufTy).Contents (Elt F) → (⟨S1024x2048, .f32⟩ : BufTy).Contents (Elt F) → (⟨S1024x2048, .f32⟩ : BufTy).Contents (Elt F))
  :: StableHlo.unary main_arg7 main_v19 (broadcastInDim S1x2048 ![1] bcast_S2048_S1x2048_1 : (⟨S2048, .f32⟩ : BufTy).Contents (Elt F) → (⟨S1x2048, .f32⟩ : BufTy).Contents (Elt F))
  :: StableHlo.unary main_v19 main_v20 (broadcastInDim S1024x2048 ![0, 1] bcast_S1x2048_S1024x2048_0_1 : (⟨S1x2048, .f32⟩ : BufTy).Contents (Elt F) → (⟨S1024x2048, .f32⟩ : BufTy).Contents (Elt F))
  :: StableHlo.binary main_v18 main_v20 main_v21 (addf : (⟨S1024x2048, .f32⟩ : BufTy).Contents (Elt F) → (⟨S1024x2048, .f32⟩ : BufTy).Contents (Elt F) → (⟨S1024x2048, .f32⟩ : BufTy).Contents (Elt F))
  :: StableHlo.unary main_v21 main_v22 (Host.tanh : (⟨S1024x2048, .f32⟩ : BufTy).Contents (Elt F) → (⟨S1024x2048, .f32⟩ : BufTy).Contents (Elt F))
  :: StableHlo.unary main_arg8 main_v23 ((transpose S2048x1024 [1, 0] · transposes_S1024x2048_S2048x1024_1_0) : (⟨S1024x2048, .f32⟩ : BufTy).Contents (Elt F) → (⟨S2048x1024, .f32⟩ : BufTy).Contents (Elt F))
  :: StableHlo.binary main_v22 main_v23 main_v24 ((fun l r => Host.dotGeneral dot_S1024x2048_S2048x1024_S1024x1024_1_0_0_1_n_n none l r) : (⟨S1024x2048, .f32⟩ : BufTy).Contents (Elt F) → (⟨S2048x1024, .f32⟩ : BufTy).Contents (Elt F) → (⟨S1024x1024, .f32⟩ : BufTy).Contents (Elt F))
  :: StableHlo.unary main_arg9 main_v25 (broadcastInDim S1x1024 ![1] bcast_S1024_S1x1024_1 : (⟨S1024, .f32⟩ : BufTy).Contents (Elt F) → (⟨S1x1024, .f32⟩ : BufTy).Contents (Elt F))
  :: StableHlo.unary main_v25 main_v26 (broadcastInDim S1024x1024 ![0, 1] bcast_S1x1024_S1024x1024_0_1 : (⟨S1x1024, .f32⟩ : BufTy).Contents (Elt F) → (⟨S1024x1024, .f32⟩ : BufTy).Contents (Elt F))
  :: StableHlo.binary main_v24 main_v26 main_v27 (addf : (⟨S1024x1024, .f32⟩ : BufTy).Contents (Elt F) → (⟨S1024x1024, .f32⟩ : BufTy).Contents (Elt F) → (⟨S1024x1024, .f32⟩ : BufTy).Contents (Elt F))
  :: StableHlo.unary main_v27 main_v28 (Host.tanh : (⟨S1024x1024, .f32⟩ : BufTy).Contents (Elt F) → (⟨S1024x1024, .f32⟩ : BufTy).Contents (Elt F))
  :: [] )
set_option maxHeartbeats 40000000 in
/-- They touch TensorCore references only. -/
theorem layersOps_sub : (layersOps : List (HloOp τ sig (Elt F))).Forall fun op => op.bufs ⊆ StableHlo.tcRefs τ sig :=
  ⟨StableHlo.binary_bufs_sub .., StableHlo.binary_bufs_sub .., StableHlo.unary_bufs_sub .., StableHlo.unary_bufs_sub .., StableHlo.unary_bufs_sub .., StableHlo.binary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub ..⟩
/-- Each determines its results. -/
theorem layersOps_fresh : (layersOps : List (HloOp τ sig (Elt F))).Forall fun op => op.fresh = ∅ := by
  simp only [List.Forall]; repeat' constructor

set_option maxHeartbeats 40000000 in
/-- The operations of the logarithm of the softmax. -/
abbrev softOps : List (HloOp τ sig (Elt F)) :=
  ( StableHlo.TRef.nullary (.of main_call0_cst : StableHlo.TRef sig ⟨S_, .f32⟩) (constant S_ .f32 0xFF800000#32)
  :: StableHlo.TRef.binary (.of main_v28 : StableHlo.TRef sig ⟨S1024x1024, .f32⟩) (.of main_call0_cst : StableHlo.TRef sig ⟨S_, .f32⟩) (.of main_call0_v0 : StableHlo.TRef sig ⟨S1024, .f32⟩) (fun x v => Host.reduce FloatOps.maximumf x v reducesTo_S1024x1024_S1024_d1 h_S_)
  :: StableHlo.TRef.nullary (.of main_call0_cst_0 : StableHlo.TRef sig ⟨S_, .f32⟩) (constant S_ .f32 0xFF800000#32)
  :: StableHlo.TRef.unary (.of main_call0_cst_0 : StableHlo.TRef sig ⟨S_, .f32⟩) (.of main_call0_v1 : StableHlo.TRef sig ⟨S1024, .f32⟩) (broadcastInDim S1024 ![] bcast_S_S1024)
  :: StableHlo.TRef.binary (.of main_call0_v1 : StableHlo.TRef sig ⟨S1024, .f32⟩) (.of main_call0_v0 : StableHlo.TRef sig ⟨S1024, .f32⟩) (.of main_call0_v2 : StableHlo.TRef sig ⟨S1024, .f32⟩) maximumf
  :: StableHlo.TRef.unary (.of main_call0_v2 : StableHlo.TRef sig ⟨S1024, .f32⟩) (.of main_call0_v3 : StableHlo.TRef sig ⟨S1024x1, .f32⟩) (broadcastInDim S1024x1 ![0] bcast_S1024_S1024x1_0)
  :: StableHlo.TRef.unary (.of main_call0_v3 : StableHlo.TRef sig ⟨S1024x1, .f32⟩) (.of main_call0_v4 : StableHlo.TRef sig ⟨S1024x1024, .f32⟩) (broadcastInDim S1024x1024 ![0, 1] bcast_S1024x1_S1024x1024_0_1)
  :: StableHlo.TRef.binary (.of main_v28 : StableHlo.TRef sig ⟨S1024x1024, .f32⟩) (.of main_call0_v4 : StableHlo.TRef sig ⟨S1024x1024, .f32⟩) (.of main_call0_v5 : StableHlo.TRef sig ⟨S1024x1024, .f32⟩) subf
  :: StableHlo.TRef.unary (.of main_call0_v5 : StableHlo.TRef sig ⟨S1024x1024, .f32⟩) (.of main_call0_v6 : StableHlo.TRef sig ⟨S1024x1024, .f32⟩) Host.exp
  :: StableHlo.TRef.nullary (.of main_call0_cst_1 : StableHlo.TRef sig ⟨S_, .f32⟩) (constant S_ .f32 0x00000000#32)
  :: StableHlo.TRef.binary (.of main_call0_v6 : StableHlo.TRef sig ⟨S1024x1024, .f32⟩) (.of main_call0_cst_1 : StableHlo.TRef sig ⟨S_, .f32⟩) (.of main_call0_v7 : StableHlo.TRef sig ⟨S1024, .f32⟩) (fun x v => Host.reduceAdd x v reducesTo_S1024x1024_S1024_d1 h_S_)
  :: StableHlo.TRef.unary (.of main_call0_v7 : StableHlo.TRef sig ⟨S1024, .f32⟩) (.of main_call0_v8 : StableHlo.TRef sig ⟨S1024x1, .f32⟩) (broadcastInDim S1024x1 ![0] bcast_S1024_S1024x1_0)
  :: StableHlo.TRef.unary (.of main_call0_v8 : StableHlo.TRef sig ⟨S1024x1, .f32⟩) (.of main_call0_v9 : StableHlo.TRef sig ⟨S1024x1, .f32⟩) Host.log
  :: StableHlo.TRef.unary (.of main_call0_v9 : StableHlo.TRef sig ⟨S1024x1, .f32⟩) (.of main_call0_v10 : StableHlo.TRef sig ⟨S1024x1024, .f32⟩) (broadcastInDim S1024x1024 ![0, 1] bcast_S1024x1_S1024x1024_0_1)
  :: StableHlo.TRef.binary (.of main_call0_v5 : StableHlo.TRef sig ⟨S1024x1024, .f32⟩) (.of main_call0_v10 : StableHlo.TRef sig ⟨S1024x1024, .f32⟩) (.of main_v29 : StableHlo.TRef sig ⟨S1024x1024, .f32⟩) subf
  :: [] )
set_option maxHeartbeats 40000000 in
/-- They touch TensorCore references only. -/
theorem softOps_sub : (softOps : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.unary_bufs_sub .., StableHlo.binary_bufs_sub ..⟩
/-- Each determines its results. -/
theorem softOps_fresh : (softOps : List (HloOp τ sig (Elt F))).Forall fun op => op.fresh = ∅ := by
  simp only [List.Forall]; repeat' constructor

set_option maxHeartbeats 40000000 in
/-- The operations of the key of the noise. -/
abbrev keyOps : List (HloOp τ sig (Elt F)) :=
  ( StableHlo.nullary main_c (constantI S_ 32 42#32)
  :: StableHlo.nullary main_c_1 (constantI S_ 32 32#32)
  :: StableHlo.binary main_c main_c_1 main_v30 (Host.shrui : (⟨S_, .i32⟩ : BufTy).Contents (Elt F) → (⟨S_, .i32⟩ : BufTy).Contents (Elt F) → (⟨S_, .i32⟩ : BufTy).Contents (Elt F))
  :: StableHlo.unary main_v30 main_v31 (id : (⟨S_, .i32⟩ : BufTy).Contents (Elt F) → (⟨S_, .i32⟩ : BufTy).Contents (Elt F))
  :: StableHlo.unary main_v31 main_v32 (broadcastInDim S1 ![] bcast_S_S1 : (⟨S_, .i32⟩ : BufTy).Contents (Elt F) → (⟨S1, .i32⟩ : BufTy).Contents (Elt F))
  :: StableHlo.nullary main_c_2 (constantI S_ 32 4294967295#32)
  :: StableHlo.binary main_c main_c_2 main_v33 (andi : (⟨S_, .i32⟩ : BufTy).Contents (Elt F) → (⟨S_, .i32⟩ : BufTy).Contents (Elt F) → (⟨S_, .i32⟩ : BufTy).Contents (Elt F))
  :: StableHlo.unary main_v33 main_v34 (id : (⟨S_, .i32⟩ : BufTy).Contents (Elt F) → (⟨S_, .i32⟩ : BufTy).Contents (Elt F))
  :: StableHlo.unary main_v34 main_v35 (broadcastInDim S1 ![] bcast_S_S1 : (⟨S_, .i32⟩ : BufTy).Contents (Elt F) → (⟨S1, .i32⟩ : BufTy).Contents (Elt F))
  :: StableHlo.binary main_v32 main_v35 main_v36 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F))
  :: StableHlo.nullary main_cst_3 (constant S_ .f32 0x00000000#32)
  :: StableHlo.nullary main_cst_4 (constant S_ .f32 0x3F800000#32)
  :: [] )
set_option maxHeartbeats 40000000 in
/-- They touch TensorCore references only. -/
theorem keyOps_sub : (keyOps : List (HloOp τ sig (Elt F))).Forall fun op => op.bufs ⊆ StableHlo.tcRefs τ sig :=
  ⟨StableHlo.nullary_bufs_sub .., StableHlo.nullary_bufs_sub .., StableHlo.binary_bufs_sub .., StableHlo.unary_bufs_sub .., StableHlo.unary_bufs_sub .., StableHlo.nullary_bufs_sub .., StableHlo.binary_bufs_sub .., StableHlo.unary_bufs_sub .., StableHlo.unary_bufs_sub .., StableHlo.binary_bufs_sub .., StableHlo.nullary_bufs_sub .., StableHlo.nullary_bufs_sub ..⟩
/-- Each determines its results. -/
theorem keyOps_fresh : (keyOps : List (HloOp τ sig (Elt F))).Forall fun op => op.fresh = ∅ := by
  simp only [List.Forall]; repeat' constructor

set_option maxHeartbeats 40000000 in
/-- The operations of the noise's random words. -/
abbrev wordOps : List (HloOp τ sig (Elt F)) :=
  ( StableHlo.TRef.unary (.of main_cst_3 : StableHlo.TRef sig ⟨S_, .f32⟩) (.of main_call1_v0 : StableHlo.TRef sig ⟨S_, .f32⟩) id
  :: StableHlo.TRef.unary (.of main_cst_4 : StableHlo.TRef sig ⟨S_, .f32⟩) (.of main_call1_v1 : StableHlo.TRef sig ⟨S_, .f32⟩) id
  :: StableHlo.TRef.unary (.of main_call1_v0 : StableHlo.TRef sig ⟨S_, .f32⟩) (.of main_call1_v2 : StableHlo.TRef sig ⟨S1x1, .f32⟩) (broadcastInDim S1x1 ![] bcast_S_S1x1)
  :: StableHlo.TRef.unary (.of main_call1_v1 : StableHlo.TRef sig ⟨S_, .f32⟩) (.of main_call1_v3 : StableHlo.TRef sig ⟨S1x1, .f32⟩) (broadcastInDim S1x1 ![] bcast_S_S1x1)
  :: StableHlo.TRef.unary (.of main_v36 : StableHlo.TRef sig ⟨S2, .i32⟩) (.of main_call1_v4 : StableHlo.TRef sig ⟨S1, .i32⟩) (extractStridedSlice S1 ![0] · slices_S2_S1_0)
  :: StableHlo.TRef.reshape (.of main_call1_v4 : StableHlo.TRef sig ⟨S1, .i32⟩) (.of main_call1_v5 : StableHlo.TRef sig ⟨S_, .i32⟩) (rfl : (.i32 : EltTy) = .i32) shapeCasts_S1_S_
  :: StableHlo.TRef.unary (.of main_v36 : StableHlo.TRef sig ⟨S2, .i32⟩) (.of main_call1_v6 : StableHlo.TRef sig ⟨S1, .i32⟩) (extractStridedSlice S1 ![1] · slices_S2_S1_1)
  :: StableHlo.TRef.reshape (.of main_call1_v6 : StableHlo.TRef sig ⟨S1, .i32⟩) (.of main_call1_v7 : StableHlo.TRef sig ⟨S_, .i32⟩) (rfl : (.i32 : EltTy) = .i32) shapeCasts_S1_S_
  :: StableHlo.TRef.nullary (.of main_call1_v8 : StableHlo.TRef sig ⟨S1024x1024, .i64⟩) (iotaInDim S1024x1024 64 0)
  :: StableHlo.TRef.nullary (.of main_call1_v9 : StableHlo.TRef sig ⟨S1024x1024, .i64⟩) (iotaInDim S1024x1024 64 1)
  :: StableHlo.TRef.nullary (.of main_call1_c : StableHlo.TRef sig ⟨S_, .i64⟩) (constantI S_ 64 1024#64)
  :: StableHlo.TRef.unary (.of main_call1_c : StableHlo.TRef sig ⟨S_, .i64⟩) (.of main_call1_v10 : StableHlo.TRef sig ⟨S1024x1024, .i64⟩) (broadcastInDim S1024x1024 ![] bcast_S_S1024x1024)
  :: StableHlo.TRef.binary (.of main_call1_v10 : StableHlo.TRef sig ⟨S1024x1024, .i64⟩) (.of main_call1_v8 : StableHlo.TRef sig ⟨S1024x1024, .i64⟩) (.of main_call1_v11 : StableHlo.TRef sig ⟨S1024x1024, .i64⟩) muli
  :: StableHlo.TRef.nullary (.of main_call1_c_0 : StableHlo.TRef sig ⟨S_, .i64⟩) (constantI S_ 64 1#64)
  :: StableHlo.TRef.unary (.of main_call1_c_0 : StableHlo.TRef sig ⟨S_, .i64⟩) (.of main_call1_v12 : StableHlo.TRef sig ⟨S1024x1024, .i64⟩) (broadcastInDim S1024x1024 ![] bcast_S_S1024x1024)
  :: StableHlo.TRef.binary (.of main_call1_v12 : StableHlo.TRef sig ⟨S1024x1024, .i64⟩) (.of main_call1_v9 : StableHlo.TRef sig ⟨S1024x1024, .i64⟩) (.of main_call1_v13 : StableHlo.TRef sig ⟨S1024x1024, .i64⟩) muli
  :: StableHlo.TRef.binary (.of main_call1_v11 : StableHlo.TRef sig ⟨S1024x1024, .i64⟩) (.of main_call1_v13 : StableHlo.TRef sig ⟨S1024x1024, .i64⟩) (.of main_call1_v14 : StableHlo.TRef sig ⟨S1024x1024, .i64⟩) addi
  :: StableHlo.TRef.nullary (.of main_call1_c_1 : StableHlo.TRef sig ⟨S_, .i64⟩) (constantI S_ 64 32#64)
  :: StableHlo.TRef.unary (.of main_call1_c_1 : StableHlo.TRef sig ⟨S_, .i64⟩) (.of main_call1_v15 : StableHlo.TRef sig ⟨S1024x1024, .i64⟩) (broadcastInDim S1024x1024 ![] bcast_S_S1024x1024)
  :: StableHlo.TRef.binary (.of main_call1_v14 : StableHlo.TRef sig ⟨S1024x1024, .i64⟩) (.of main_call1_v15 : StableHlo.TRef sig ⟨S1024x1024, .i64⟩) (.of main_call1_v16 : StableHlo.TRef sig ⟨S1024x1024, .i64⟩) Host.shrui
  :: StableHlo.TRef.unary (.of main_call1_v14 : StableHlo.TRef sig ⟨S1024x1024, .i64⟩) (.of main_call1_v17 : StableHlo.TRef sig ⟨S1024x1024, .i32⟩) (trunci 32 · natLt_32_64)
  :: StableHlo.TRef.unary (.of main_call1_v16 : StableHlo.TRef sig ⟨S1024x1024, .i64⟩) (.of main_call1_v18 : StableHlo.TRef sig ⟨S1024x1024, .i32⟩) (trunci 32 · natLt_32_64)
  :: StableHlo.TRef.binary (.of main_call1_v5 : StableHlo.TRef sig ⟨S_, .i32⟩) (.of main_call1_v7 : StableHlo.TRef sig ⟨S_, .i32⟩) (.of main_call1_call0_v0 : StableHlo.TRef sig ⟨S_, .i32⟩) xori
  :: StableHlo.TRef.nullary (.of main_call1_call0_c : StableHlo.TRef sig ⟨S_, .i32⟩) (constantI S_ 32 466688986#32)
  :: StableHlo.TRef.binary (.of main_call1_call0_v0 : StableHlo.TRef sig ⟨S_, .i32⟩) (.of main_call1_call0_c : StableHlo.TRef sig ⟨S_, .i32⟩) (.of main_call1_call0_v1 : StableHlo.TRef sig ⟨S_, .i32⟩) xori
  :: StableHlo.TRef.unary (.of main_call1_v5 : StableHlo.TRef sig ⟨S_, .i32⟩) (.of main_call1_call0_v2 : StableHlo.TRef sig ⟨S1024x1024, .i32⟩) (broadcastInDim S1024x1024 ![] bcast_S_S1024x1024)
  :: StableHlo.TRef.binary (.of main_call1_v18 : StableHlo.TRef sig ⟨S1024x1024, .i32⟩) (.of main_call1_call0_v2 : StableHlo.TRef sig ⟨S1024x1024, .i32⟩) (.of main_call1_call0_v3 : StableHlo.TRef sig ⟨S1024x1024, .i32⟩) addi
  :: StableHlo.TRef.unary (.of main_call1_v7 : StableHlo.TRef sig ⟨S_, .i32⟩) (.of main_call1_call0_v4 : StableHlo.TRef sig ⟨S1024x1024, .i32⟩) (broadcastInDim S1024x1024 ![] bcast_S_S1024x1024)
  :: StableHlo.TRef.binary (.of main_call1_v17 : StableHlo.TRef sig ⟨S1024x1024, .i32⟩) (.of main_call1_call0_v4 : StableHlo.TRef sig ⟨S1024x1024, .i32⟩) (.of main_call1_call0_v5 : StableHlo.TRef sig ⟨S1024x1024, .i32⟩) addi
  :: StableHlo.TRef.binary (.of main_call1_call0_v3 : StableHlo.TRef sig ⟨S1024x1024, .i32⟩) (.of main_call1_call0_v5 : StableHlo.TRef sig ⟨S1024x1024, .i32⟩) (.of main_call1_call0_v6 : StableHlo.TRef sig ⟨S1024x1024, .i32⟩) addi
  :: StableHlo.TRef.nullary (.of main_call1_call0_c_0 : StableHlo.TRef sig ⟨S_, .i32⟩) (constantI S_ 32 13#32)
  :: StableHlo.TRef.unary (.of main_call1_call0_c_0 : StableHlo.TRef sig ⟨S_, .i32⟩) (.of main_call1_call0_v7 : StableHlo.TRef sig ⟨S1024x1024, .i32⟩) (broadcastInDim S1024x1024 ![] bcast_S_S1024x1024)
  :: StableHlo.TRef.binary (.of main_call1_call0_v5 : StableHlo.TRef sig ⟨S1024x1024, .i32⟩) (.of main_call1_call0_v7 : StableHlo.TRef sig ⟨S1024x1024, .i32⟩) (.of main_call1_call0_v8 : StableHlo.TRef sig ⟨S1024x1024, .i32⟩) Host.shli
  :: StableHlo.TRef.nullary (.of main_call1_call0_c_1 : StableHlo.TRef sig ⟨S_, .i32⟩) (constantI S_ 32 19#32)
  :: StableHlo.TRef.unary (.of main_call1_call0_c_1 : StableHlo.TRef sig ⟨S_, .i32⟩) (.of main_call1_call0_v9 : StableHlo.TRef sig ⟨S1024x1024, .i32⟩) (broadcastInDim S1024x1024 ![] bcast_S_S1024x1024)
  :: StableHlo.TRef.binary (.of main_call1_call0_v5 : StableHlo.TRef sig ⟨S1024x1024, .i32⟩) (.of main_call1_call0_v9 : StableHlo.TRef sig ⟨S1024x1024, .i32⟩) (.of main_call1_call0_v10 : StableHlo.TRef sig ⟨S1024x1024, .i32⟩) Host.shrui
  :: StableHlo.TRef.binary (.of main_call1_call0_v8 : StableHlo.TRef sig ⟨S1024x1024, .i32⟩) (.of main_call1_call0_v10 : StableHlo.TRef sig ⟨S1024x1024, .i32⟩) (.of main_call1_call0_v11 : StableHlo.TRef sig ⟨S1024x1024, .i32⟩) ori
  :: StableHlo.TRef.binary (.of main_call1_call0_v6 : StableHlo.TRef sig ⟨S1024x1024, .i32⟩) (.of main_call1_call0_v11 : StableHlo.TRef sig ⟨S1024x1024, .i32⟩) (.of main_call1_call0_v12 : StableHlo.TRef sig ⟨S1024x1024, .i32⟩) xori
  :: StableHlo.TRef.binary (.of main_call1_call0_v6 : StableHlo.TRef sig ⟨S1024x1024, .i32⟩) (.of main_call1_call0_v12 : StableHlo.TRef sig ⟨S1024x1024, .i32⟩) (.of main_call1_call0_v13 : StableHlo.TRef sig ⟨S1024x1024, .i32⟩) addi
  :: StableHlo.TRef.nullary (.of main_call1_call0_c_2 : StableHlo.TRef sig ⟨S_, .i32⟩) (constantI S_ 32 15#32)
  :: StableHlo.TRef.unary (.of main_call1_call0_c_2 : StableHlo.TRef sig ⟨S_, .i32⟩) (.of main_call1_call0_v14 : StableHlo.TRef sig ⟨S1024x1024, .i32⟩) (broadcastInDim S1024x1024 ![] bcast_S_S1024x1024)
  :: StableHlo.TRef.binary (.of main_call1_call0_v12 : StableHlo.TRef sig ⟨S1024x1024, .i32⟩) (.of main_call1_call0_v14 : StableHlo.TRef sig ⟨S1024x1024, .i32⟩) (.of main_call1_call0_v15 : StableHlo.TRef sig ⟨S1024x1024, .i32⟩) Host.shli
  :: StableHlo.TRef.nullary (.of main_call1_call0_c_3 : StableHlo.TRef sig ⟨S_, .i32⟩) (constantI S_ 32 17#32)
  :: StableHlo.TRef.unary (.of main_call1_call0_c_3 : StableHlo.TRef sig ⟨S_, .i32⟩) (.of main_call1_call0_v16 : StableHlo.TRef sig ⟨S1024x1024, .i32⟩) (broadcastInDim S1024x1024 ![] bcast_S_S1024x1024)
  :: StableHlo.TRef.binary (.of main_call1_call0_v12 : StableHlo.TRef sig ⟨S1024x1024, .i32⟩) (.of main_call1_call0_v16 : StableHlo.TRef sig ⟨S1024x1024, .i32⟩) (.of main_call1_call0_v17 : StableHlo.TRef sig ⟨S1024x1024, .i32⟩) Host.shrui
  :: StableHlo.TRef.binary (.of main_call1_call0_v15 : StableHlo.TRef sig ⟨S1024x1024, .i32⟩) (.of main_call1_call0_v17 : StableHlo.TRef sig ⟨S1024x1024, .i32⟩) (.of main_call1_call0_v18 : StableHlo.TRef sig ⟨S1024x1024, .i32⟩) ori
  :: StableHlo.TRef.binary (.of main_call1_call0_v13 : StableHlo.TRef sig ⟨S1024x1024, .i32⟩) (.of main_call1_call0_v18 : StableHlo.TRef sig ⟨S1024x1024, .i32⟩) (.of main_call1_call0_v19 : StableHlo.TRef sig ⟨S1024x1024, .i32⟩) xori
  :: StableHlo.TRef.binary (.of main_call1_call0_v13 : StableHlo.TRef sig ⟨S1024x1024, .i32⟩) (.of main_call1_call0_v19 : StableHlo.TRef sig ⟨S1024x1024, .i32⟩) (.of main_call1_call0_v20 : StableHlo.TRef sig ⟨S1024x1024, .i32⟩) addi
  :: StableHlo.TRef.nullary (.of main_call1_call0_c_4 : StableHlo.TRef sig ⟨S_, .i32⟩) (constantI S_ 32 26#32)
  :: StableHlo.TRef.unary (.of main_call1_call0_c_4 : StableHlo.TRef sig ⟨S_, .i32⟩) (.of main_call1_call0_v21 : StableHlo.TRef sig ⟨S1024x1024, .i32⟩) (broadcastInDim S1024x1024 ![] bcast_S_S1024x1024)
  :: StableHlo.TRef.binary (.of main_call1_call0_v19 : StableHlo.TRef sig ⟨S1024x1024, .i32⟩) (.of main_call1_call0_v21 : StableHlo.TRef sig ⟨S1024x1024, .i32⟩) (.of main_call1_call0_v22 : StableHlo.TRef sig ⟨S1024x1024, .i32⟩) Host.shli
  :: StableHlo.TRef.nullary (.of main_call1_call0_c_5 : StableHlo.TRef sig ⟨S_, .i32⟩) (constantI S_ 32 6#32)
  :: StableHlo.TRef.unary (.of main_call1_call0_c_5 : StableHlo.TRef sig ⟨S_, .i32⟩) (.of main_call1_call0_v23 : StableHlo.TRef sig ⟨S1024x1024, .i32⟩) (broadcastInDim S1024x1024 ![] bcast_S_S1024x1024)
  :: StableHlo.TRef.binary (.of main_call1_call0_v19 : StableHlo.TRef sig ⟨S1024x1024, .i32⟩) (.of main_call1_call0_v23 : StableHlo.TRef sig ⟨S1024x1024, .i32⟩) (.of main_call1_call0_v24 : StableHlo.TRef sig ⟨S1024x1024, .i32⟩) Host.shrui
  :: StableHlo.TRef.binary (.of main_call1_call0_v22 : StableHlo.TRef sig ⟨S1024x1024, .i32⟩) (.of main_call1_call0_v24 : StableHlo.TRef sig ⟨S1024x1024, .i32⟩) (.of main_call1_call0_v25 : StableHlo.TRef sig ⟨S1024x1024, .i32⟩) ori
  :: StableHlo.TRef.binary (.of main_call1_call0_v20 : StableHlo.TRef sig ⟨S1024x1024, .i32⟩) (.of main_call1_call0_v25 : StableHlo.TRef sig ⟨S1024x1024, .i32⟩) (.of main_call1_call0_v26 : StableHlo.TRef sig ⟨S1024x1024, .i32⟩) xori
  :: StableHlo.TRef.binary (.of main_call1_call0_v20 : StableHlo.TRef sig ⟨S1024x1024, .i32⟩) (.of main_call1_call0_v26 : StableHlo.TRef sig ⟨S1024x1024, .i32⟩) (.of main_call1_call0_v27 : StableHlo.TRef sig ⟨S1024x1024, .i32⟩) addi
  :: StableHlo.TRef.nullary (.of main_call1_call0_c_6 : StableHlo.TRef sig ⟨S_, .i32⟩) (constantI S_ 32 6#32)
  :: StableHlo.TRef.unary (.of main_call1_call0_c_6 : StableHlo.TRef sig ⟨S_, .i32⟩) (.of main_call1_call0_v28 : StableHlo.TRef sig ⟨S1024x1024, .i32⟩) (broadcastInDim S1024x1024 ![] bcast_S_S1024x1024)
  :: StableHlo.TRef.binary (.of main_call1_call0_v26 : StableHlo.TRef sig ⟨S1024x1024, .i32⟩) (.of main_call1_call0_v28 : StableHlo.TRef sig ⟨S1024x1024, .i32⟩) (.of main_call1_call0_v29 : StableHlo.TRef sig ⟨S1024x1024, .i32⟩) Host.shli
  :: StableHlo.TRef.nullary (.of main_call1_call0_c_7 : StableHlo.TRef sig ⟨S_, .i32⟩) (constantI S_ 32 26#32)
  :: StableHlo.TRef.unary (.of main_call1_call0_c_7 : StableHlo.TRef sig ⟨S_, .i32⟩) (.of main_call1_call0_v30 : StableHlo.TRef sig ⟨S1024x1024, .i32⟩) (broadcastInDim S1024x1024 ![] bcast_S_S1024x1024)
  :: StableHlo.TRef.binary (.of main_call1_call0_v26 : StableHlo.TRef sig ⟨S1024x1024, .i32⟩) (.of main_call1_call0_v30 : StableHlo.TRef sig ⟨S1024x1024, .i32⟩) (.of main_call1_call0_v31 : StableHlo.TRef sig ⟨S1024x1024, .i32⟩) Host.shrui
  :: StableHlo.TRef.binary (.of main_call1_call0_v29 : StableHlo.TRef sig ⟨S1024x1024, .i32⟩) (.of main_call1_call0_v31 : StableHlo.TRef sig ⟨S1024x1024, .i32⟩) (.of main_call1_call0_v32 : StableHlo.TRef sig ⟨S1024x1024, .i32⟩) ori
  :: StableHlo.TRef.binary (.of main_call1_call0_v27 : StableHlo.TRef sig ⟨S1024x1024, .i32⟩) (.of main_call1_call0_v32 : StableHlo.TRef sig ⟨S1024x1024, .i32⟩) (.of main_call1_call0_v33 : StableHlo.TRef sig ⟨S1024x1024, .i32⟩) xori
  :: StableHlo.TRef.unary (.of main_call1_v7 : StableHlo.TRef sig ⟨S_, .i32⟩) (.of main_call1_call0_v34 : StableHlo.TRef sig ⟨S1024x1024, .i32⟩) (broadcastInDim S1024x1024 ![] bcast_S_S1024x1024)
  :: StableHlo.TRef.binary (.of main_call1_call0_v27 : StableHlo.TRef sig ⟨S1024x1024, .i32⟩) (.of main_call1_call0_v34 : StableHlo.TRef sig ⟨S1024x1024, .i32⟩) (.of main_call1_call0_v35 : StableHlo.TRef sig ⟨S1024x1024, .i32⟩) addi
  :: StableHlo.TRef.unary (.of main_call1_call0_v1 : StableHlo.TRef sig ⟨S_, .i32⟩) (.of main_call1_call0_v36 : StableHlo.TRef sig ⟨S1024x1024, .i32⟩) (broadcastInDim S1024x1024 ![] bcast_S_S1024x1024)
  :: StableHlo.TRef.binary (.of main_call1_call0_v33 : StableHlo.TRef sig ⟨S1024x1024, .i32⟩) (.of main_call1_call0_v36 : StableHlo.TRef sig ⟨S1024x1024, .i32⟩) (.of main_call1_call0_v37 : StableHlo.TRef sig ⟨S1024x1024, .i32⟩) addi
  :: StableHlo.TRef.nullary (.of main_call1_call0_c_8 : StableHlo.TRef sig ⟨S_, .i32⟩) (constantI S_ 32 1#32)
  :: StableHlo.TRef.unary (.of main_call1_call0_c_8 : StableHlo.TRef sig ⟨S_, .i32⟩) (.of main_call1_call0_v38 : StableHlo.TRef sig ⟨S1024x1024, .i32⟩) (broadcastInDim S1024x1024 ![] bcast_S_S1024x1024)
  :: StableHlo.TRef.binary (.of main_call1_call0_v37 : StableHlo.TRef sig ⟨S1024x1024, .i32⟩) (.of main_call1_call0_v38 : StableHlo.TRef sig ⟨S1024x1024, .i32⟩) (.of main_call1_call0_v39 : StableHlo.TRef sig ⟨S1024x1024, .i32⟩) addi
  :: StableHlo.TRef.binary (.of main_call1_call0_v35 : StableHlo.TRef sig ⟨S1024x1024, .i32⟩) (.of main_call1_call0_v39 : StableHlo.TRef sig ⟨S1024x1024, .i32⟩) (.of main_call1_call0_v40 : StableHlo.TRef sig ⟨S1024x1024, .i32⟩) addi
  :: StableHlo.TRef.nullary (.of main_call1_call0_c_9 : StableHlo.TRef sig ⟨S_, .i32⟩) (constantI S_ 32 17#32)
  :: StableHlo.TRef.unary (.of main_call1_call0_c_9 : StableHlo.TRef sig ⟨S_, .i32⟩) (.of main_call1_call0_v41 : StableHlo.TRef sig ⟨S1024x1024, .i32⟩) (broadcastInDim S1024x1024 ![] bcast_S_S1024x1024)
  :: StableHlo.TRef.binary (.of main_call1_call0_v39 : StableHlo.TRef sig ⟨S1024x1024, .i32⟩) (.of main_call1_call0_v41 : StableHlo.TRef sig ⟨S1024x1024, .i32⟩) (.of main_call1_call0_v42 : StableHlo.TRef sig ⟨S1024x1024, .i32⟩) Host.shli
  :: StableHlo.TRef.nullary (.of main_call1_call0_c_10 : StableHlo.TRef sig ⟨S_, .i32⟩) (constantI S_ 32 15#32)
  :: StableHlo.TRef.unary (.of main_call1_call0_c_10 : StableHlo.TRef sig ⟨S_, .i32⟩) (.of main_call1_call0_v43 : StableHlo.TRef sig ⟨S1024x1024, .i32⟩) (broadcastInDim S1024x1024 ![] bcast_S_S1024x1024)
  :: StableHlo.TRef.binary (.of main_call1_call0_v39 : StableHlo.TRef sig ⟨S1024x1024, .i32⟩) (.of main_call1_call0_v43 : StableHlo.TRef sig ⟨S1024x1024, .i32⟩) (.of main_call1_call0_v44 : StableHlo.TRef sig ⟨S1024x1024, .i32⟩) Host.shrui
  :: StableHlo.TRef.binary (.of main_call1_call0_v42 : StableHlo.TRef sig ⟨S1024x1024, .i32⟩) (.of main_call1_call0_v44 : StableHlo.TRef sig ⟨S1024x1024, .i32⟩) (.of main_call1_call0_v45 : StableHlo.TRef sig ⟨S1024x1024, .i32⟩) ori
  :: StableHlo.TRef.binary (.of main_call1_call0_v40 : StableHlo.TRef sig ⟨S1024x1024, .i32⟩) (.of main_call1_call0_v45 : StableHlo.TRef sig ⟨S1024x1024, .i32⟩) (.of main_call1_call0_v46 : StableHlo.TRef sig ⟨S1024x1024, .i32⟩) xori
  :: StableHlo.TRef.binary (.of main_call1_call0_v40 : StableHlo.TRef sig ⟨S1024x1024, .i32⟩) (.of main_call1_call0_v46 : StableHlo.TRef sig ⟨S1024x1024, .i32⟩) (.of main_call1_call0_v47 : StableHlo.TRef sig ⟨S1024x1024, .i32⟩) addi
  :: StableHlo.TRef.nullary (.of main_call1_call0_c_11 : StableHlo.TRef sig ⟨S_, .i32⟩) (constantI S_ 32 29#32)
  :: StableHlo.TRef.unary (.of main_call1_call0_c_11 : StableHlo.TRef sig ⟨S_, .i32⟩) (.of main_call1_call0_v48 : StableHlo.TRef sig ⟨S1024x1024, .i32⟩) (broadcastInDim S1024x1024 ![] bcast_S_S1024x1024)
  :: StableHlo.TRef.binary (.of main_call1_call0_v46 : StableHlo.TRef sig ⟨S1024x1024, .i32⟩) (.of main_call1_call0_v48 : StableHlo.TRef sig ⟨S1024x1024, .i32⟩) (.of main_call1_call0_v49 : StableHlo.TRef sig ⟨S1024x1024, .i32⟩) Host.shli
  :: StableHlo.TRef.nullary (.of main_call1_call0_c_12 : StableHlo.TRef sig ⟨S_, .i32⟩) (constantI S_ 32 3#32)
  :: StableHlo.TRef.unary (.of main_call1_call0_c_12 : StableHlo.TRef sig ⟨S_, .i32⟩) (.of main_call1_call0_v50 : StableHlo.TRef sig ⟨S1024x1024, .i32⟩) (broadcastInDim S1024x1024 ![] bcast_S_S1024x1024)
  :: StableHlo.TRef.binary (.of main_call1_call0_v46 : StableHlo.TRef sig ⟨S1024x1024, .i32⟩) (.of main_call1_call0_v50 : StableHlo.TRef sig ⟨S1024x1024, .i32⟩) (.of main_call1_call0_v51 : StableHlo.TRef sig ⟨S1024x1024, .i32⟩) Host.shrui
  :: StableHlo.TRef.binary (.of main_call1_call0_v49 : StableHlo.TRef sig ⟨S1024x1024, .i32⟩) (.of main_call1_call0_v51 : StableHlo.TRef sig ⟨S1024x1024, .i32⟩) (.of main_call1_call0_v52 : StableHlo.TRef sig ⟨S1024x1024, .i32⟩) ori
  :: StableHlo.TRef.binary (.of main_call1_call0_v47 : StableHlo.TRef sig ⟨S1024x1024, .i32⟩) (.of main_call1_call0_v52 : StableHlo.TRef sig ⟨S1024x1024, .i32⟩) (.of main_call1_call0_v53 : StableHlo.TRef sig ⟨S1024x1024, .i32⟩) xori
  :: StableHlo.TRef.binary (.of main_call1_call0_v47 : StableHlo.TRef sig ⟨S1024x1024, .i32⟩) (.of main_call1_call0_v53 : StableHlo.TRef sig ⟨S1024x1024, .i32⟩) (.of main_call1_call0_v54 : StableHlo.TRef sig ⟨S1024x1024, .i32⟩) addi
  :: StableHlo.TRef.nullary (.of main_call1_call0_c_13 : StableHlo.TRef sig ⟨S_, .i32⟩) (constantI S_ 32 16#32)
  :: StableHlo.TRef.unary (.of main_call1_call0_c_13 : StableHlo.TRef sig ⟨S_, .i32⟩) (.of main_call1_call0_v55 : StableHlo.TRef sig ⟨S1024x1024, .i32⟩) (broadcastInDim S1024x1024 ![] bcast_S_S1024x1024)
  :: StableHlo.TRef.binary (.of main_call1_call0_v53 : StableHlo.TRef sig ⟨S1024x1024, .i32⟩) (.of main_call1_call0_v55 : StableHlo.TRef sig ⟨S1024x1024, .i32⟩) (.of main_call1_call0_v56 : StableHlo.TRef sig ⟨S1024x1024, .i32⟩) Host.shli
  :: StableHlo.TRef.nullary (.of main_call1_call0_c_14 : StableHlo.TRef sig ⟨S_, .i32⟩) (constantI S_ 32 16#32)
  :: StableHlo.TRef.unary (.of main_call1_call0_c_14 : StableHlo.TRef sig ⟨S_, .i32⟩) (.of main_call1_call0_v57 : StableHlo.TRef sig ⟨S1024x1024, .i32⟩) (broadcastInDim S1024x1024 ![] bcast_S_S1024x1024)
  :: StableHlo.TRef.binary (.of main_call1_call0_v53 : StableHlo.TRef sig ⟨S1024x1024, .i32⟩) (.of main_call1_call0_v57 : StableHlo.TRef sig ⟨S1024x1024, .i32⟩) (.of main_call1_call0_v58 : StableHlo.TRef sig ⟨S1024x1024, .i32⟩) Host.shrui
  :: StableHlo.TRef.binary (.of main_call1_call0_v56 : StableHlo.TRef sig ⟨S1024x1024, .i32⟩) (.of main_call1_call0_v58 : StableHlo.TRef sig ⟨S1024x1024, .i32⟩) (.of main_call1_call0_v59 : StableHlo.TRef sig ⟨S1024x1024, .i32⟩) ori
  :: StableHlo.TRef.binary (.of main_call1_call0_v54 : StableHlo.TRef sig ⟨S1024x1024, .i32⟩) (.of main_call1_call0_v59 : StableHlo.TRef sig ⟨S1024x1024, .i32⟩) (.of main_call1_call0_v60 : StableHlo.TRef sig ⟨S1024x1024, .i32⟩) xori
  :: StableHlo.TRef.binary (.of main_call1_call0_v54 : StableHlo.TRef sig ⟨S1024x1024, .i32⟩) (.of main_call1_call0_v60 : StableHlo.TRef sig ⟨S1024x1024, .i32⟩) (.of main_call1_call0_v61 : StableHlo.TRef sig ⟨S1024x1024, .i32⟩) addi
  :: StableHlo.TRef.nullary (.of main_call1_call0_c_15 : StableHlo.TRef sig ⟨S_, .i32⟩) (constantI S_ 32 24#32)
  :: StableHlo.TRef.unary (.of main_call1_call0_c_15 : StableHlo.TRef sig ⟨S_, .i32⟩) (.of main_call1_call0_v62 : StableHlo.TRef sig ⟨S1024x1024, .i32⟩) (broadcastInDim S1024x1024 ![] bcast_S_S1024x1024)
  :: StableHlo.TRef.binary (.of main_call1_call0_v60 : StableHlo.TRef sig ⟨S1024x1024, .i32⟩) (.of main_call1_call0_v62 : StableHlo.TRef sig ⟨S1024x1024, .i32⟩) (.of main_call1_call0_v63 : StableHlo.TRef sig ⟨S1024x1024, .i32⟩) Host.shli
  :: StableHlo.TRef.nullary (.of main_call1_call0_c_16 : StableHlo.TRef sig ⟨S_, .i32⟩) (constantI S_ 32 8#32)
  :: StableHlo.TRef.unary (.of main_call1_call0_c_16 : StableHlo.TRef sig ⟨S_, .i32⟩) (.of main_call1_call0_v64 : StableHlo.TRef sig ⟨S1024x1024, .i32⟩) (broadcastInDim S1024x1024 ![] bcast_S_S1024x1024)
  :: StableHlo.TRef.binary (.of main_call1_call0_v60 : StableHlo.TRef sig ⟨S1024x1024, .i32⟩) (.of main_call1_call0_v64 : StableHlo.TRef sig ⟨S1024x1024, .i32⟩) (.of main_call1_call0_v65 : StableHlo.TRef sig ⟨S1024x1024, .i32⟩) Host.shrui
  :: StableHlo.TRef.binary (.of main_call1_call0_v63 : StableHlo.TRef sig ⟨S1024x1024, .i32⟩) (.of main_call1_call0_v65 : StableHlo.TRef sig ⟨S1024x1024, .i32⟩) (.of main_call1_call0_v66 : StableHlo.TRef sig ⟨S1024x1024, .i32⟩) ori
  :: StableHlo.TRef.binary (.of main_call1_call0_v61 : StableHlo.TRef sig ⟨S1024x1024, .i32⟩) (.of main_call1_call0_v66 : StableHlo.TRef sig ⟨S1024x1024, .i32⟩) (.of main_call1_call0_v67 : StableHlo.TRef sig ⟨S1024x1024, .i32⟩) xori
  :: StableHlo.TRef.unary (.of main_call1_call0_v1 : StableHlo.TRef sig ⟨S_, .i32⟩) (.of main_call1_call0_v68 : StableHlo.TRef sig ⟨S1024x1024, .i32⟩) (broadcastInDim S1024x1024 ![] bcast_S_S1024x1024)
  :: StableHlo.TRef.binary (.of main_call1_call0_v61 : StableHlo.TRef sig ⟨S1024x1024, .i32⟩) (.of main_call1_call0_v68 : StableHlo.TRef sig ⟨S1024x1024, .i32⟩) (.of main_call1_call0_v69 : StableHlo.TRef sig ⟨S1024x1024, .i32⟩) addi
  :: StableHlo.TRef.unary (.of main_call1_v5 : StableHlo.TRef sig ⟨S_, .i32⟩) (.of main_call1_call0_v70 : StableHlo.TRef sig ⟨S1024x1024, .i32⟩) (broadcastInDim S1024x1024 ![] bcast_S_S1024x1024)
  :: StableHlo.TRef.binary (.of main_call1_call0_v67 : StableHlo.TRef sig ⟨S1024x1024, .i32⟩) (.of main_call1_call0_v70 : StableHlo.TRef sig ⟨S1024x1024, .i32⟩) (.of main_call1_call0_v71 : StableHlo.TRef sig ⟨S1024x1024, .i32⟩) addi
  :: StableHlo.TRef.nullary (.of main_call1_call0_c_17 : StableHlo.TRef sig ⟨S_, .i32⟩) (constantI S_ 32 2#32)
  :: StableHlo.TRef.unary (.of main_call1_call0_c_17 : StableHlo.TRef sig ⟨S_, .i32⟩) (.of main_call1_call0_v72 : StableHlo.TRef sig ⟨S1024x1024, .i32⟩) (broadcastInDim S1024x1024 ![] bcast_S_S1024x1024)
  :: StableHlo.TRef.binary (.of main_call1_call0_v71 : StableHlo.TRef sig ⟨S1024x1024, .i32⟩) (.of main_call1_call0_v72 : StableHlo.TRef sig ⟨S1024x1024, .i32⟩) (.of main_call1_call0_v73 : StableHlo.TRef sig ⟨S1024x1024, .i32⟩) addi
  :: StableHlo.TRef.binary (.of main_call1_call0_v69 : StableHlo.TRef sig ⟨S1024x1024, .i32⟩) (.of main_call1_call0_v73 : StableHlo.TRef sig ⟨S1024x1024, .i32⟩) (.of main_call1_call0_v74 : StableHlo.TRef sig ⟨S1024x1024, .i32⟩) addi
  :: StableHlo.TRef.nullary (.of main_call1_call0_c_18 : StableHlo.TRef sig ⟨S_, .i32⟩) (constantI S_ 32 13#32)
  :: StableHlo.TRef.unary (.of main_call1_call0_c_18 : StableHlo.TRef sig ⟨S_, .i32⟩) (.of main_call1_call0_v75 : StableHlo.TRef sig ⟨S1024x1024, .i32⟩) (broadcastInDim S1024x1024 ![] bcast_S_S1024x1024)
  :: StableHlo.TRef.binary (.of main_call1_call0_v73 : StableHlo.TRef sig ⟨S1024x1024, .i32⟩) (.of main_call1_call0_v75 : StableHlo.TRef sig ⟨S1024x1024, .i32⟩) (.of main_call1_call0_v76 : StableHlo.TRef sig ⟨S1024x1024, .i32⟩) Host.shli
  :: StableHlo.TRef.nullary (.of main_call1_call0_c_19 : StableHlo.TRef sig ⟨S_, .i32⟩) (constantI S_ 32 19#32)
  :: StableHlo.TRef.unary (.of main_call1_call0_c_19 : StableHlo.TRef sig ⟨S_, .i32⟩) (.of main_call1_call0_v77 : StableHlo.TRef sig ⟨S1024x1024, .i32⟩) (broadcastInDim S1024x1024 ![] bcast_S_S1024x1024)
  :: StableHlo.TRef.binary (.of main_call1_call0_v73 : StableHlo.TRef sig ⟨S1024x1024, .i32⟩) (.of main_call1_call0_v77 : StableHlo.TRef sig ⟨S1024x1024, .i32⟩) (.of main_call1_call0_v78 : StableHlo.TRef sig ⟨S1024x1024, .i32⟩) Host.shrui
  :: StableHlo.TRef.binary (.of main_call1_call0_v76 : StableHlo.TRef sig ⟨S1024x1024, .i32⟩) (.of main_call1_call0_v78 : StableHlo.TRef sig ⟨S1024x1024, .i32⟩) (.of main_call1_call0_v79 : StableHlo.TRef sig ⟨S1024x1024, .i32⟩) ori
  :: StableHlo.TRef.binary (.of main_call1_call0_v74 : StableHlo.TRef sig ⟨S1024x1024, .i32⟩) (.of main_call1_call0_v79 : StableHlo.TRef sig ⟨S1024x1024, .i32⟩) (.of main_call1_call0_v80 : StableHlo.TRef sig ⟨S1024x1024, .i32⟩) xori
  :: StableHlo.TRef.binary (.of main_call1_call0_v74 : StableHlo.TRef sig ⟨S1024x1024, .i32⟩) (.of main_call1_call0_v80 : StableHlo.TRef sig ⟨S1024x1024, .i32⟩) (.of main_call1_call0_v81 : StableHlo.TRef sig ⟨S1024x1024, .i32⟩) addi
  :: StableHlo.TRef.nullary (.of main_call1_call0_c_20 : StableHlo.TRef sig ⟨S_, .i32⟩) (constantI S_ 32 15#32)
  :: StableHlo.TRef.unary (.of main_call1_call0_c_20 : StableHlo.TRef sig ⟨S_, .i32⟩) (.of main_call1_call0_v82 : StableHlo.TRef sig ⟨S1024x1024, .i32⟩) (broadcastInDim S1024x1024 ![] bcast_S_S1024x1024)
  :: StableHlo.TRef.binary (.of main_call1_call0_v80 : StableHlo.TRef sig ⟨S1024x1024, .i32⟩) (.of main_call1_call0_v82 : StableHlo.TRef sig ⟨S1024x1024, .i32⟩) (.of main_call1_call0_v83 : StableHlo.TRef sig ⟨S1024x1024, .i32⟩) Host.shli
  :: StableHlo.TRef.nullary (.of main_call1_call0_c_21 : StableHlo.TRef sig ⟨S_, .i32⟩) (constantI S_ 32 17#32)
  :: StableHlo.TRef.unary (.of main_call1_call0_c_21 : StableHlo.TRef sig ⟨S_, .i32⟩) (.of main_call1_call0_v84 : StableHlo.TRef sig ⟨S1024x1024, .i32⟩) (broadcastInDim S1024x1024 ![] bcast_S_S1024x1024)
  :: StableHlo.TRef.binary (.of main_call1_call0_v80 : StableHlo.TRef sig ⟨S1024x1024, .i32⟩) (.of main_call1_call0_v84 : StableHlo.TRef sig ⟨S1024x1024, .i32⟩) (.of main_call1_call0_v85 : StableHlo.TRef sig ⟨S1024x1024, .i32⟩) Host.shrui
  :: StableHlo.TRef.binary (.of main_call1_call0_v83 : StableHlo.TRef sig ⟨S1024x1024, .i32⟩) (.of main_call1_call0_v85 : StableHlo.TRef sig ⟨S1024x1024, .i32⟩) (.of main_call1_call0_v86 : StableHlo.TRef sig ⟨S1024x1024, .i32⟩) ori
  :: StableHlo.TRef.binary (.of main_call1_call0_v81 : StableHlo.TRef sig ⟨S1024x1024, .i32⟩) (.of main_call1_call0_v86 : StableHlo.TRef sig ⟨S1024x1024, .i32⟩) (.of main_call1_call0_v87 : StableHlo.TRef sig ⟨S1024x1024, .i32⟩) xori
  :: StableHlo.TRef.binary (.of main_call1_call0_v81 : StableHlo.TRef sig ⟨S1024x1024, .i32⟩) (.of main_call1_call0_v87 : StableHlo.TRef sig ⟨S1024x1024, .i32⟩) (.of main_call1_call0_v88 : StableHlo.TRef sig ⟨S1024x1024, .i32⟩) addi
  :: StableHlo.TRef.nullary (.of main_call1_call0_c_22 : StableHlo.TRef sig ⟨S_, .i32⟩) (constantI S_ 32 26#32)
  :: StableHlo.TRef.unary (.of main_call1_call0_c_22 : StableHlo.TRef sig ⟨S_, .i32⟩) (.of main_call1_call0_v89 : StableHlo.TRef sig ⟨S1024x1024, .i32⟩) (broadcastInDim S1024x1024 ![] bcast_S_S1024x1024)
  :: StableHlo.TRef.binary (.of main_call1_call0_v87 : StableHlo.TRef sig ⟨S1024x1024, .i32⟩) (.of main_call1_call0_v89 : StableHlo.TRef sig ⟨S1024x1024, .i32⟩) (.of main_call1_call0_v90 : StableHlo.TRef sig ⟨S1024x1024, .i32⟩) Host.shli
  :: StableHlo.TRef.nullary (.of main_call1_call0_c_23 : StableHlo.TRef sig ⟨S_, .i32⟩) (constantI S_ 32 6#32)
  :: StableHlo.TRef.unary (.of main_call1_call0_c_23 : StableHlo.TRef sig ⟨S_, .i32⟩) (.of main_call1_call0_v91 : StableHlo.TRef sig ⟨S1024x1024, .i32⟩) (broadcastInDim S1024x1024 ![] bcast_S_S1024x1024)
  :: StableHlo.TRef.binary (.of main_call1_call0_v87 : StableHlo.TRef sig ⟨S1024x1024, .i32⟩) (.of main_call1_call0_v91 : StableHlo.TRef sig ⟨S1024x1024, .i32⟩) (.of main_call1_call0_v92 : StableHlo.TRef sig ⟨S1024x1024, .i32⟩) Host.shrui
  :: StableHlo.TRef.binary (.of main_call1_call0_v90 : StableHlo.TRef sig ⟨S1024x1024, .i32⟩) (.of main_call1_call0_v92 : StableHlo.TRef sig ⟨S1024x1024, .i32⟩) (.of main_call1_call0_v93 : StableHlo.TRef sig ⟨S1024x1024, .i32⟩) ori
  :: StableHlo.TRef.binary (.of main_call1_call0_v88 : StableHlo.TRef sig ⟨S1024x1024, .i32⟩) (.of main_call1_call0_v93 : StableHlo.TRef sig ⟨S1024x1024, .i32⟩) (.of main_call1_call0_v94 : StableHlo.TRef sig ⟨S1024x1024, .i32⟩) xori
  :: StableHlo.TRef.binary (.of main_call1_call0_v88 : StableHlo.TRef sig ⟨S1024x1024, .i32⟩) (.of main_call1_call0_v94 : StableHlo.TRef sig ⟨S1024x1024, .i32⟩) (.of main_call1_call0_v95 : StableHlo.TRef sig ⟨S1024x1024, .i32⟩) addi
  :: StableHlo.TRef.nullary (.of main_call1_call0_c_24 : StableHlo.TRef sig ⟨S_, .i32⟩) (constantI S_ 32 6#32)
  :: StableHlo.TRef.unary (.of main_call1_call0_c_24 : StableHlo.TRef sig ⟨S_, .i32⟩) (.of main_call1_call0_v96 : StableHlo.TRef sig ⟨S1024x1024, .i32⟩) (broadcastInDim S1024x1024 ![] bcast_S_S1024x1024)
  :: StableHlo.TRef.binary (.of main_call1_call0_v94 : StableHlo.TRef sig ⟨S1024x1024, .i32⟩) (.of main_call1_call0_v96 : StableHlo.TRef sig ⟨S1024x1024, .i32⟩) (.of main_call1_call0_v97 : StableHlo.TRef sig ⟨S1024x1024, .i32⟩) Host.shli
  :: StableHlo.TRef.nullary (.of main_call1_call0_c_25 : StableHlo.TRef sig ⟨S_, .i32⟩) (constantI S_ 32 26#32)
  :: StableHlo.TRef.unary (.of main_call1_call0_c_25 : StableHlo.TRef sig ⟨S_, .i32⟩) (.of main_call1_call0_v98 : StableHlo.TRef sig ⟨S1024x1024, .i32⟩) (broadcastInDim S1024x1024 ![] bcast_S_S1024x1024)
  :: StableHlo.TRef.binary (.of main_call1_call0_v94 : StableHlo.TRef sig ⟨S1024x1024, .i32⟩) (.of main_call1_call0_v98 : StableHlo.TRef sig ⟨S1024x1024, .i32⟩) (.of main_call1_call0_v99 : StableHlo.TRef sig ⟨S1024x1024, .i32⟩) Host.shrui
  :: StableHlo.TRef.binary (.of main_call1_call0_v97 : StableHlo.TRef sig ⟨S1024x1024, .i32⟩) (.of main_call1_call0_v99 : StableHlo.TRef sig ⟨S1024x1024, .i32⟩) (.of main_call1_call0_v100 : StableHlo.TRef sig ⟨S1024x1024, .i32⟩) ori
  :: StableHlo.TRef.binary (.of main_call1_call0_v95 : StableHlo.TRef sig ⟨S1024x1024, .i32⟩) (.of main_call1_call0_v100 : StableHlo.TRef sig ⟨S1024x1024, .i32⟩) (.of main_call1_call0_v101 : StableHlo.TRef sig ⟨S1024x1024, .i32⟩) xori
  :: StableHlo.TRef.unary (.of main_call1_v5 : StableHlo.TRef sig ⟨S_, .i32⟩) (.of main_call1_call0_v102 : StableHlo.TRef sig ⟨S1024x1024, .i32⟩) (broadcastInDim S1024x1024 ![] bcast_S_S1024x1024)
  :: StableHlo.TRef.binary (.of main_call1_call0_v95 : StableHlo.TRef sig ⟨S1024x1024, .i32⟩) (.of main_call1_call0_v102 : StableHlo.TRef sig ⟨S1024x1024, .i32⟩) (.of main_call1_call0_v103 : StableHlo.TRef sig ⟨S1024x1024, .i32⟩) addi
  :: StableHlo.TRef.unary (.of main_call1_v7 : StableHlo.TRef sig ⟨S_, .i32⟩) (.of main_call1_call0_v104 : StableHlo.TRef sig ⟨S1024x1024, .i32⟩) (broadcastInDim S1024x1024 ![] bcast_S_S1024x1024)
  :: StableHlo.TRef.binary (.of main_call1_call0_v101 : StableHlo.TRef sig ⟨S1024x1024, .i32⟩) (.of main_call1_call0_v104 : StableHlo.TRef sig ⟨S1024x1024, .i32⟩) (.of main_call1_call0_v105 : StableHlo.TRef sig ⟨S1024x1024, .i32⟩) addi
  :: StableHlo.TRef.nullary (.of main_call1_call0_c_26 : StableHlo.TRef sig ⟨S_, .i32⟩) (constantI S_ 32 3#32)
  :: StableHlo.TRef.unary (.of main_call1_call0_c_26 : StableHlo.TRef sig ⟨S_, .i32⟩) (.of main_call1_call0_v106 : StableHlo.TRef sig ⟨S1024x1024, .i32⟩) (broadcastInDim S1024x1024 ![] bcast_S_S1024x1024)
  :: StableHlo.TRef.binary (.of main_call1_call0_v105 : StableHlo.TRef sig ⟨S1024x1024, .i32⟩) (.of main_call1_call0_v106 : StableHlo.TRef sig ⟨S1024x1024, .i32⟩) (.of main_call1_call0_v107 : StableHlo.TRef sig ⟨S1024x1024, .i32⟩) addi
  :: StableHlo.TRef.binary (.of main_call1_call0_v103 : StableHlo.TRef sig ⟨S1024x1024, .i32⟩) (.of main_call1_call0_v107 : StableHlo.TRef sig ⟨S1024x1024, .i32⟩) (.of main_call1_call0_v108 : StableHlo.TRef sig ⟨S1024x1024, .i32⟩) addi
  :: StableHlo.TRef.nullary (.of main_call1_call0_c_27 : StableHlo.TRef sig ⟨S_, .i32⟩) (constantI S_ 32 17#32)
  :: StableHlo.TRef.unary (.of main_call1_call0_c_27 : StableHlo.TRef sig ⟨S_, .i32⟩) (.of main_call1_call0_v109 : StableHlo.TRef sig ⟨S1024x1024, .i32⟩) (broadcastInDim S1024x1024 ![] bcast_S_S1024x1024)
  :: StableHlo.TRef.binary (.of main_call1_call0_v107 : StableHlo.TRef sig ⟨S1024x1024, .i32⟩) (.of main_call1_call0_v109 : StableHlo.TRef sig ⟨S1024x1024, .i32⟩) (.of main_call1_call0_v110 : StableHlo.TRef sig ⟨S1024x1024, .i32⟩) Host.shli
  :: StableHlo.TRef.nullary (.of main_call1_call0_c_28 : StableHlo.TRef sig ⟨S_, .i32⟩) (constantI S_ 32 15#32)
  :: StableHlo.TRef.unary (.of main_call1_call0_c_28 : StableHlo.TRef sig ⟨S_, .i32⟩) (.of main_call1_call0_v111 : StableHlo.TRef sig ⟨S1024x1024, .i32⟩) (broadcastInDim S1024x1024 ![] bcast_S_S1024x1024)
  :: StableHlo.TRef.binary (.of main_call1_call0_v107 : StableHlo.TRef sig ⟨S1024x1024, .i32⟩) (.of main_call1_call0_v111 : StableHlo.TRef sig ⟨S1024x1024, .i32⟩) (.of main_call1_call0_v112 : StableHlo.TRef sig ⟨S1024x1024, .i32⟩) Host.shrui
  :: StableHlo.TRef.binary (.of main_call1_call0_v110 : StableHlo.TRef sig ⟨S1024x1024, .i32⟩) (.of main_call1_call0_v112 : StableHlo.TRef sig ⟨S1024x1024, .i32⟩) (.of main_call1_call0_v113 : StableHlo.TRef sig ⟨S1024x1024, .i32⟩) ori
  :: StableHlo.TRef.binary (.of main_call1_call0_v108 : StableHlo.TRef sig ⟨S1024x1024, .i32⟩) (.of main_call1_call0_v113 : StableHlo.TRef sig ⟨S1024x1024, .i32⟩) (.of main_call1_call0_v114 : StableHlo.TRef sig ⟨S1024x1024, .i32⟩) xori
  :: StableHlo.TRef.binary (.of main_call1_call0_v108 : StableHlo.TRef sig ⟨S1024x1024, .i32⟩) (.of main_call1_call0_v114 : StableHlo.TRef sig ⟨S1024x1024, .i32⟩) (.of main_call1_call0_v115 : StableHlo.TRef sig ⟨S1024x1024, .i32⟩) addi
  :: StableHlo.TRef.nullary (.of main_call1_call0_c_29 : StableHlo.TRef sig ⟨S_, .i32⟩) (constantI S_ 32 29#32)
  :: StableHlo.TRef.unary (.of main_call1_call0_c_29 : StableHlo.TRef sig ⟨S_, .i32⟩) (.of main_call1_call0_v116 : StableHlo.TRef sig ⟨S1024x1024, .i32⟩) (broadcastInDim S1024x1024 ![] bcast_S_S1024x1024)
  :: StableHlo.TRef.binary (.of main_call1_call0_v114 : StableHlo.TRef sig ⟨S1024x1024, .i32⟩) (.of main_call1_call0_v116 : StableHlo.TRef sig ⟨S1024x1024, .i32⟩) (.of main_call1_call0_v117 : StableHlo.TRef sig ⟨S1024x1024, .i32⟩) Host.shli
  :: StableHlo.TRef.nullary (.of main_call1_call0_c_30 : StableHlo.TRef sig ⟨S_, .i32⟩) (constantI S_ 32 3#32)
  :: StableHlo.TRef.unary (.of main_call1_call0_c_30 : StableHlo.TRef sig ⟨S_, .i32⟩) (.of main_call1_call0_v118 : StableHlo.TRef sig ⟨S1024x1024, .i32⟩) (broadcastInDim S1024x1024 ![] bcast_S_S1024x1024)
  :: StableHlo.TRef.binary (.of main_call1_call0_v114 : StableHlo.TRef sig ⟨S1024x1024, .i32⟩) (.of main_call1_call0_v118 : StableHlo.TRef sig ⟨S1024x1024, .i32⟩) (.of main_call1_call0_v119 : StableHlo.TRef sig ⟨S1024x1024, .i32⟩) Host.shrui
  :: StableHlo.TRef.binary (.of main_call1_call0_v117 : StableHlo.TRef sig ⟨S1024x1024, .i32⟩) (.of main_call1_call0_v119 : StableHlo.TRef sig ⟨S1024x1024, .i32⟩) (.of main_call1_call0_v120 : StableHlo.TRef sig ⟨S1024x1024, .i32⟩) ori
  :: StableHlo.TRef.binary (.of main_call1_call0_v115 : StableHlo.TRef sig ⟨S1024x1024, .i32⟩) (.of main_call1_call0_v120 : StableHlo.TRef sig ⟨S1024x1024, .i32⟩) (.of main_call1_call0_v121 : StableHlo.TRef sig ⟨S1024x1024, .i32⟩) xori
  :: StableHlo.TRef.binary (.of main_call1_call0_v115 : StableHlo.TRef sig ⟨S1024x1024, .i32⟩) (.of main_call1_call0_v121 : StableHlo.TRef sig ⟨S1024x1024, .i32⟩) (.of main_call1_call0_v122 : StableHlo.TRef sig ⟨S1024x1024, .i32⟩) addi
  :: StableHlo.TRef.nullary (.of main_call1_call0_c_31 : StableHlo.TRef sig ⟨S_, .i32⟩) (constantI S_ 32 16#32)
  :: StableHlo.TRef.unary (.of main_call1_call0_c_31 : StableHlo.TRef sig ⟨S_, .i32⟩) (.of main_call1_call0_v123 : StableHlo.TRef sig ⟨S1024x1024, .i32⟩) (broadcastInDim S1024x1024 ![] bcast_S_S1024x1024)
  :: StableHlo.TRef.binary (.of main_call1_call0_v121 : StableHlo.TRef sig ⟨S1024x1024, .i32⟩) (.of main_call1_call0_v123 : StableHlo.TRef sig ⟨S1024x1024, .i32⟩) (.of main_call1_call0_v124 : StableHlo.TRef sig ⟨S1024x1024, .i32⟩) Host.shli
  :: StableHlo.TRef.nullary (.of main_call1_call0_c_32 : StableHlo.TRef sig ⟨S_, .i32⟩) (constantI S_ 32 16#32)
  :: StableHlo.TRef.unary (.of main_call1_call0_c_32 : StableHlo.TRef sig ⟨S_, .i32⟩) (.of main_call1_call0_v125 : StableHlo.TRef sig ⟨S1024x1024, .i32⟩) (broadcastInDim S1024x1024 ![] bcast_S_S1024x1024)
  :: StableHlo.TRef.binary (.of main_call1_call0_v121 : StableHlo.TRef sig ⟨S1024x1024, .i32⟩) (.of main_call1_call0_v125 : StableHlo.TRef sig ⟨S1024x1024, .i32⟩) (.of main_call1_call0_v126 : StableHlo.TRef sig ⟨S1024x1024, .i32⟩) Host.shrui
  :: StableHlo.TRef.binary (.of main_call1_call0_v124 : StableHlo.TRef sig ⟨S1024x1024, .i32⟩) (.of main_call1_call0_v126 : StableHlo.TRef sig ⟨S1024x1024, .i32⟩) (.of main_call1_call0_v127 : StableHlo.TRef sig ⟨S1024x1024, .i32⟩) ori
  :: StableHlo.TRef.binary (.of main_call1_call0_v122 : StableHlo.TRef sig ⟨S1024x1024, .i32⟩) (.of main_call1_call0_v127 : StableHlo.TRef sig ⟨S1024x1024, .i32⟩) (.of main_call1_call0_v128 : StableHlo.TRef sig ⟨S1024x1024, .i32⟩) xori
  :: StableHlo.TRef.binary (.of main_call1_call0_v122 : StableHlo.TRef sig ⟨S1024x1024, .i32⟩) (.of main_call1_call0_v128 : StableHlo.TRef sig ⟨S1024x1024, .i32⟩) (.of main_call1_call0_v129 : StableHlo.TRef sig ⟨S1024x1024, .i32⟩) addi
  :: StableHlo.TRef.nullary (.of main_call1_call0_c_33 : StableHlo.TRef sig ⟨S_, .i32⟩) (constantI S_ 32 24#32)
  :: StableHlo.TRef.unary (.of main_call1_call0_c_33 : StableHlo.TRef sig ⟨S_, .i32⟩) (.of main_call1_call0_v130 : StableHlo.TRef sig ⟨S1024x1024, .i32⟩) (broadcastInDim S1024x1024 ![] bcast_S_S1024x1024)
  :: StableHlo.TRef.binary (.of main_call1_call0_v128 : StableHlo.TRef sig ⟨S1024x1024, .i32⟩) (.of main_call1_call0_v130 : StableHlo.TRef sig ⟨S1024x1024, .i32⟩) (.of main_call1_call0_v131 : StableHlo.TRef sig ⟨S1024x1024, .i32⟩) Host.shli
  :: StableHlo.TRef.nullary (.of main_call1_call0_c_34 : StableHlo.TRef sig ⟨S_, .i32⟩) (constantI S_ 32 8#32)
  :: StableHlo.TRef.unary (.of main_call1_call0_c_34 : StableHlo.TRef sig ⟨S_, .i32⟩) (.of main_call1_call0_v132 : StableHlo.TRef sig ⟨S1024x1024, .i32⟩) (broadcastInDim S1024x1024 ![] bcast_S_S1024x1024)
  :: StableHlo.TRef.binary (.of main_call1_call0_v128 : StableHlo.TRef sig ⟨S1024x1024, .i32⟩) (.of main_call1_call0_v132 : StableHlo.TRef sig ⟨S1024x1024, .i32⟩) (.of main_call1_call0_v133 : StableHlo.TRef sig ⟨S1024x1024, .i32⟩) Host.shrui
  :: StableHlo.TRef.binary (.of main_call1_call0_v131 : StableHlo.TRef sig ⟨S1024x1024, .i32⟩) (.of main_call1_call0_v133 : StableHlo.TRef sig ⟨S1024x1024, .i32⟩) (.of main_call1_call0_v134 : StableHlo.TRef sig ⟨S1024x1024, .i32⟩) ori
  :: StableHlo.TRef.binary (.of main_call1_call0_v129 : StableHlo.TRef sig ⟨S1024x1024, .i32⟩) (.of main_call1_call0_v134 : StableHlo.TRef sig ⟨S1024x1024, .i32⟩) (.of main_call1_call0_v135 : StableHlo.TRef sig ⟨S1024x1024, .i32⟩) xori
  :: StableHlo.TRef.unary (.of main_call1_v7 : StableHlo.TRef sig ⟨S_, .i32⟩) (.of main_call1_call0_v136 : StableHlo.TRef sig ⟨S1024x1024, .i32⟩) (broadcastInDim S1024x1024 ![] bcast_S_S1024x1024)
  :: StableHlo.TRef.binary (.of main_call1_call0_v129 : StableHlo.TRef sig ⟨S1024x1024, .i32⟩) (.of main_call1_call0_v136 : StableHlo.TRef sig ⟨S1024x1024, .i32⟩) (.of main_call1_call0_v137 : StableHlo.TRef sig ⟨S1024x1024, .i32⟩) addi
  :: StableHlo.TRef.unary (.of main_call1_call0_v1 : StableHlo.TRef sig ⟨S_, .i32⟩) (.of main_call1_call0_v138 : StableHlo.TRef sig ⟨S1024x1024, .i32⟩) (broadcastInDim S1024x1024 ![] bcast_S_S1024x1024)
  :: StableHlo.TRef.binary (.of main_call1_call0_v135 : StableHlo.TRef sig ⟨S1024x1024, .i32⟩) (.of main_call1_call0_v138 : StableHlo.TRef sig ⟨S1024x1024, .i32⟩) (.of main_call1_call0_v139 : StableHlo.TRef sig ⟨S1024x1024, .i32⟩) addi
  :: StableHlo.TRef.nullary (.of main_call1_call0_c_35 : StableHlo.TRef sig ⟨S_, .i32⟩) (constantI S_ 32 4#32)
  :: StableHlo.TRef.unary (.of main_call1_call0_c_35 : StableHlo.TRef sig ⟨S_, .i32⟩) (.of main_call1_call0_v140 : StableHlo.TRef sig ⟨S1024x1024, .i32⟩) (broadcastInDim S1024x1024 ![] bcast_S_S1024x1024)
  :: StableHlo.TRef.binary (.of main_call1_call0_v139 : StableHlo.TRef sig ⟨S1024x1024, .i32⟩) (.of main_call1_call0_v140 : StableHlo.TRef sig ⟨S1024x1024, .i32⟩) (.of main_call1_call0_v141 : StableHlo.TRef sig ⟨S1024x1024, .i32⟩) addi
  :: StableHlo.TRef.binary (.of main_call1_call0_v137 : StableHlo.TRef sig ⟨S1024x1024, .i32⟩) (.of main_call1_call0_v141 : StableHlo.TRef sig ⟨S1024x1024, .i32⟩) (.of main_call1_call0_v142 : StableHlo.TRef sig ⟨S1024x1024, .i32⟩) addi
  :: StableHlo.TRef.nullary (.of main_call1_call0_c_36 : StableHlo.TRef sig ⟨S_, .i32⟩) (constantI S_ 32 13#32)
  :: StableHlo.TRef.unary (.of main_call1_call0_c_36 : StableHlo.TRef sig ⟨S_, .i32⟩) (.of main_call1_call0_v143 : StableHlo.TRef sig ⟨S1024x1024, .i32⟩) (broadcastInDim S1024x1024 ![] bcast_S_S1024x1024)
  :: StableHlo.TRef.binary (.of main_call1_call0_v141 : StableHlo.TRef sig ⟨S1024x1024, .i32⟩) (.of main_call1_call0_v143 : StableHlo.TRef sig ⟨S1024x1024, .i32⟩) (.of main_call1_call0_v144 : StableHlo.TRef sig ⟨S1024x1024, .i32⟩) Host.shli
  :: StableHlo.TRef.nullary (.of main_call1_call0_c_37 : StableHlo.TRef sig ⟨S_, .i32⟩) (constantI S_ 32 19#32)
  :: StableHlo.TRef.unary (.of main_call1_call0_c_37 : StableHlo.TRef sig ⟨S_, .i32⟩) (.of main_call1_call0_v145 : StableHlo.TRef sig ⟨S1024x1024, .i32⟩) (broadcastInDim S1024x1024 ![] bcast_S_S1024x1024)
  :: StableHlo.TRef.binary (.of main_call1_call0_v141 : StableHlo.TRef sig ⟨S1024x1024, .i32⟩) (.of main_call1_call0_v145 : StableHlo.TRef sig ⟨S1024x1024, .i32⟩) (.of main_call1_call0_v146 : StableHlo.TRef sig ⟨S1024x1024, .i32⟩) Host.shrui
  :: StableHlo.TRef.binary (.of main_call1_call0_v144 : StableHlo.TRef sig ⟨S1024x1024, .i32⟩) (.of main_call1_call0_v146 : StableHlo.TRef sig ⟨S1024x1024, .i32⟩) (.of main_call1_call0_v147 : StableHlo.TRef sig ⟨S1024x1024, .i32⟩) ori
  :: StableHlo.TRef.binary (.of main_call1_call0_v142 : StableHlo.TRef sig ⟨S1024x1024, .i32⟩) (.of main_call1_call0_v147 : StableHlo.TRef sig ⟨S1024x1024, .i32⟩) (.of main_call1_call0_v148 : StableHlo.TRef sig ⟨S1024x1024, .i32⟩) xori
  :: StableHlo.TRef.binary (.of main_call1_call0_v142 : StableHlo.TRef sig ⟨S1024x1024, .i32⟩) (.of main_call1_call0_v148 : StableHlo.TRef sig ⟨S1024x1024, .i32⟩) (.of main_call1_call0_v149 : StableHlo.TRef sig ⟨S1024x1024, .i32⟩) addi
  :: StableHlo.TRef.nullary (.of main_call1_call0_c_38 : StableHlo.TRef sig ⟨S_, .i32⟩) (constantI S_ 32 15#32)
  :: StableHlo.TRef.unary (.of main_call1_call0_c_38 : StableHlo.TRef sig ⟨S_, .i32⟩) (.of main_call1_call0_v150 : StableHlo.TRef sig ⟨S1024x1024, .i32⟩) (broadcastInDim S1024x1024 ![] bcast_S_S1024x1024)
  :: StableHlo.TRef.binary (.of main_call1_call0_v148 : StableHlo.TRef sig ⟨S1024x1024, .i32⟩) (.of main_call1_call0_v150 : StableHlo.TRef sig ⟨S1024x1024, .i32⟩) (.of main_call1_call0_v151 : StableHlo.TRef sig ⟨S1024x1024, .i32⟩) Host.shli
  :: StableHlo.TRef.nullary (.of main_call1_call0_c_39 : StableHlo.TRef sig ⟨S_, .i32⟩) (constantI S_ 32 17#32)
  :: StableHlo.TRef.unary (.of main_call1_call0_c_39 : StableHlo.TRef sig ⟨S_, .i32⟩) (.of main_call1_call0_v152 : StableHlo.TRef sig ⟨S1024x1024, .i32⟩) (broadcastInDim S1024x1024 ![] bcast_S_S1024x1024)
  :: StableHlo.TRef.binary (.of main_call1_call0_v148 : StableHlo.TRef sig ⟨S1024x1024, .i32⟩) (.of main_call1_call0_v152 : StableHlo.TRef sig ⟨S1024x1024, .i32⟩) (.of main_call1_call0_v153 : StableHlo.TRef sig ⟨S1024x1024, .i32⟩) Host.shrui
  :: StableHlo.TRef.binary (.of main_call1_call0_v151 : StableHlo.TRef sig ⟨S1024x1024, .i32⟩) (.of main_call1_call0_v153 : StableHlo.TRef sig ⟨S1024x1024, .i32⟩) (.of main_call1_call0_v154 : StableHlo.TRef sig ⟨S1024x1024, .i32⟩) ori
  :: StableHlo.TRef.binary (.of main_call1_call0_v149 : StableHlo.TRef sig ⟨S1024x1024, .i32⟩) (.of main_call1_call0_v154 : StableHlo.TRef sig ⟨S1024x1024, .i32⟩) (.of main_call1_call0_v155 : StableHlo.TRef sig ⟨S1024x1024, .i32⟩) xori
  :: StableHlo.TRef.binary (.of main_call1_call0_v149 : StableHlo.TRef sig ⟨S1024x1024, .i32⟩) (.of main_call1_call0_v155 : StableHlo.TRef sig ⟨S1024x1024, .i32⟩) (.of main_call1_call0_v156 : StableHlo.TRef sig ⟨S1024x1024, .i32⟩) addi
  :: StableHlo.TRef.nullary (.of main_call1_call0_c_40 : StableHlo.TRef sig ⟨S_, .i32⟩) (constantI S_ 32 26#32)
  :: StableHlo.TRef.unary (.of main_call1_call0_c_40 : StableHlo.TRef sig ⟨S_, .i32⟩) (.of main_call1_call0_v157 : StableHlo.TRef sig ⟨S1024x1024, .i32⟩) (broadcastInDim S1024x1024 ![] bcast_S_S1024x1024)
  :: StableHlo.TRef.binary (.of main_call1_call0_v155 : StableHlo.TRef sig ⟨S1024x1024, .i32⟩) (.of main_call1_call0_v157 : StableHlo.TRef sig ⟨S1024x1024, .i32⟩) (.of main_call1_call0_v158 : StableHlo.TRef sig ⟨S1024x1024, .i32⟩) Host.shli
  :: StableHlo.TRef.nullary (.of main_call1_call0_c_41 : StableHlo.TRef sig ⟨S_, .i32⟩) (constantI S_ 32 6#32)
  :: StableHlo.TRef.unary (.of main_call1_call0_c_41 : StableHlo.TRef sig ⟨S_, .i32⟩) (.of main_call1_call0_v159 : StableHlo.TRef sig ⟨S1024x1024, .i32⟩) (broadcastInDim S1024x1024 ![] bcast_S_S1024x1024)
  :: StableHlo.TRef.binary (.of main_call1_call0_v155 : StableHlo.TRef sig ⟨S1024x1024, .i32⟩) (.of main_call1_call0_v159 : StableHlo.TRef sig ⟨S1024x1024, .i32⟩) (.of main_call1_call0_v160 : StableHlo.TRef sig ⟨S1024x1024, .i32⟩) Host.shrui
  :: StableHlo.TRef.binary (.of main_call1_call0_v158 : StableHlo.TRef sig ⟨S1024x1024, .i32⟩) (.of main_call1_call0_v160 : StableHlo.TRef sig ⟨S1024x1024, .i32⟩) (.of main_call1_call0_v161 : StableHlo.TRef sig ⟨S1024x1024, .i32⟩) ori
  :: StableHlo.TRef.binary (.of main_call1_call0_v156 : StableHlo.TRef sig ⟨S1024x1024, .i32⟩) (.of main_call1_call0_v161 : StableHlo.TRef sig ⟨S1024x1024, .i32⟩) (.of main_call1_call0_v162 : StableHlo.TRef sig ⟨S1024x1024, .i32⟩) xori
  :: StableHlo.TRef.binary (.of main_call1_call0_v156 : StableHlo.TRef sig ⟨S1024x1024, .i32⟩) (.of main_call1_call0_v162 : StableHlo.TRef sig ⟨S1024x1024, .i32⟩) (.of main_call1_call0_v163 : StableHlo.TRef sig ⟨S1024x1024, .i32⟩) addi
  :: StableHlo.TRef.nullary (.of main_call1_call0_c_42 : StableHlo.TRef sig ⟨S_, .i32⟩) (constantI S_ 32 6#32)
  :: StableHlo.TRef.unary (.of main_call1_call0_c_42 : StableHlo.TRef sig ⟨S_, .i32⟩) (.of main_call1_call0_v164 : StableHlo.TRef sig ⟨S1024x1024, .i32⟩) (broadcastInDim S1024x1024 ![] bcast_S_S1024x1024)
  :: StableHlo.TRef.binary (.of main_call1_call0_v162 : StableHlo.TRef sig ⟨S1024x1024, .i32⟩) (.of main_call1_call0_v164 : StableHlo.TRef sig ⟨S1024x1024, .i32⟩) (.of main_call1_call0_v165 : StableHlo.TRef sig ⟨S1024x1024, .i32⟩) Host.shli
  :: StableHlo.TRef.nullary (.of main_call1_call0_c_43 : StableHlo.TRef sig ⟨S_, .i32⟩) (constantI S_ 32 26#32)
  :: StableHlo.TRef.unary (.of main_call1_call0_c_43 : StableHlo.TRef sig ⟨S_, .i32⟩) (.of main_call1_call0_v166 : StableHlo.TRef sig ⟨S1024x1024, .i32⟩) (broadcastInDim S1024x1024 ![] bcast_S_S1024x1024)
  :: StableHlo.TRef.binary (.of main_call1_call0_v162 : StableHlo.TRef sig ⟨S1024x1024, .i32⟩) (.of main_call1_call0_v166 : StableHlo.TRef sig ⟨S1024x1024, .i32⟩) (.of main_call1_call0_v167 : StableHlo.TRef sig ⟨S1024x1024, .i32⟩) Host.shrui
  :: StableHlo.TRef.binary (.of main_call1_call0_v165 : StableHlo.TRef sig ⟨S1024x1024, .i32⟩) (.of main_call1_call0_v167 : StableHlo.TRef sig ⟨S1024x1024, .i32⟩) (.of main_call1_call0_v168 : StableHlo.TRef sig ⟨S1024x1024, .i32⟩) ori
  :: StableHlo.TRef.binary (.of main_call1_call0_v163 : StableHlo.TRef sig ⟨S1024x1024, .i32⟩) (.of main_call1_call0_v168 : StableHlo.TRef sig ⟨S1024x1024, .i32⟩) (.of main_call1_call0_v169 : StableHlo.TRef sig ⟨S1024x1024, .i32⟩) xori
  :: StableHlo.TRef.unary (.of main_call1_call0_v1 : StableHlo.TRef sig ⟨S_, .i32⟩) (.of main_call1_call0_v170 : StableHlo.TRef sig ⟨S1024x1024, .i32⟩) (broadcastInDim S1024x1024 ![] bcast_S_S1024x1024)
  :: StableHlo.TRef.binary (.of main_call1_call0_v163 : StableHlo.TRef sig ⟨S1024x1024, .i32⟩) (.of main_call1_call0_v170 : StableHlo.TRef sig ⟨S1024x1024, .i32⟩) (.of main_call1_v19_0 : StableHlo.TRef sig ⟨S1024x1024, .i32⟩) addi
  :: StableHlo.TRef.unary (.of main_call1_v5 : StableHlo.TRef sig ⟨S_, .i32⟩) (.of main_call1_call0_v172 : StableHlo.TRef sig ⟨S1024x1024, .i32⟩) (broadcastInDim S1024x1024 ![] bcast_S_S1024x1024)
  :: StableHlo.TRef.binary (.of main_call1_call0_v169 : StableHlo.TRef sig ⟨S1024x1024, .i32⟩) (.of main_call1_call0_v172 : StableHlo.TRef sig ⟨S1024x1024, .i32⟩) (.of main_call1_call0_v173 : StableHlo.TRef sig ⟨S1024x1024, .i32⟩) addi
  :: StableHlo.TRef.nullary (.of main_call1_call0_c_44 : StableHlo.TRef sig ⟨S_, .i32⟩) (constantI S_ 32 5#32)
  :: StableHlo.TRef.unary (.of main_call1_call0_c_44 : StableHlo.TRef sig ⟨S_, .i32⟩) (.of main_call1_call0_v174 : StableHlo.TRef sig ⟨S1024x1024, .i32⟩) (broadcastInDim S1024x1024 ![] bcast_S_S1024x1024)
  :: StableHlo.TRef.binary (.of main_call1_call0_v173 : StableHlo.TRef sig ⟨S1024x1024, .i32⟩) (.of main_call1_call0_v174 : StableHlo.TRef sig ⟨S1024x1024, .i32⟩) (.of main_call1_v19_1 : StableHlo.TRef sig ⟨S1024x1024, .i32⟩) addi
  :: StableHlo.TRef.binary (.of main_call1_v19_0 : StableHlo.TRef sig ⟨S1024x1024, .i32⟩) (.of main_call1_v19_1 : StableHlo.TRef sig ⟨S1024x1024, .i32⟩) (.of main_call1_v20 : StableHlo.TRef sig ⟨S1024x1024, .i32⟩) xori
  :: [] )
set_option maxHeartbeats 40000000 in
/-- They touch TensorCore references only. -/
theorem wordOps_sub : (wordOps : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.reshape_bufs_sub .., StableHlo.unary_bufs_sub .., StableHlo.reshape_bufs_sub .., StableHlo.nullary_bufs_sub .., StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.unary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub ..⟩
/-- Each determines its results. -/
theorem wordOps_fresh : (wordOps : List (HloOp τ sig (Elt F))).Forall fun op => op.fresh = ∅ := by
  simp only [List.Forall]; repeat' constructor

set_option maxHeartbeats 40000000 in
/-- The operations of the words as numbers of the unit interval. -/
abbrev unitOps : List (HloOp τ sig (Elt F)) :=
  ( StableHlo.TRef.nullary (.of main_call1_c_2 : StableHlo.TRef sig ⟨S_, .i32⟩) (constantI S_ 32 9#32)
  :: StableHlo.TRef.unary (.of main_call1_c_2 : StableHlo.TRef sig ⟨S_, .i32⟩) (.of main_call1_v21 : StableHlo.TRef sig ⟨S1024x1024, .i32⟩) (broadcastInDim S1024x1024 ![] bcast_S_S1024x1024)
  :: StableHlo.TRef.binary (.of main_call1_v20 : StableHlo.TRef sig ⟨S1024x1024, .i32⟩) (.of main_call1_v21 : StableHlo.TRef sig ⟨S1024x1024, .i32⟩) (.of main_call1_v22 : StableHlo.TRef sig ⟨S1024x1024, .i32⟩) Host.shrui
  :: StableHlo.TRef.nullary (.of main_call1_c_3 : StableHlo.TRef sig ⟨S_, .i32⟩) (constantI S_ 32 1065353216#32)
  :: StableHlo.TRef.unary (.of main_call1_c_3 : StableHlo.TRef sig ⟨S_, .i32⟩) (.of main_call1_v23 : StableHlo.TRef sig ⟨S1024x1024, .i32⟩) (broadcastInDim S1024x1024 ![] bcast_S_S1024x1024)
  :: StableHlo.TRef.binary (.of main_call1_v22 : StableHlo.TRef sig ⟨S1024x1024, .i32⟩) (.of main_call1_v23 : StableHlo.TRef sig ⟨S1024x1024, .i32⟩) (.of main_call1_v24 : StableHlo.TRef sig ⟨S1024x1024, .i32⟩) ori
  :: StableHlo.TRef.unary (.of main_call1_v24 : StableHlo.TRef sig ⟨S1024x1024, .i32⟩) (.of main_call1_v25 : StableHlo.TRef sig ⟨S1024x1024, .f32⟩) (bitcastToFloat .f32)
  :: StableHlo.TRef.nullary (.of main_call1_cst : StableHlo.TRef sig ⟨S_, .f32⟩) (constant S_ .f32 0x3F800000#32)
  :: StableHlo.TRef.unary (.of main_call1_cst : StableHlo.TRef sig ⟨S_, .f32⟩) (.of main_call1_v26 : StableHlo.TRef sig ⟨S1024x1024, .f32⟩) (broadcastInDim S1024x1024 ![] bcast_S_S1024x1024)
  :: StableHlo.TRef.binary (.of main_call1_v25 : StableHlo.TRef sig ⟨S1024x1024, .f32⟩) (.of main_call1_v26 : StableHlo.TRef sig ⟨S1024x1024, .f32⟩) (.of main_call1_v27 : StableHlo.TRef sig ⟨S1024x1024, .f32⟩) subf
  :: StableHlo.TRef.binary (.of main_call1_v3 : StableHlo.TRef sig ⟨S1x1, .f32⟩) (.of main_call1_v2 : StableHlo.TRef sig ⟨S1x1, .f32⟩) (.of main_call1_v28 : StableHlo.TRef sig ⟨S1x1, .f32⟩) subf
  :: StableHlo.TRef.unary (.of main_call1_v28 : StableHlo.TRef sig ⟨S1x1, .f32⟩) (.of main_call1_v29 : StableHlo.TRef sig ⟨S1024x1024, .f32⟩) (broadcastInDim S1024x1024 ![0, 1] bcast_S1x1_S1024x1024_0_1)
  :: StableHlo.TRef.binary (.of main_call1_v27 : StableHlo.TRef sig ⟨S1024x1024, .f32⟩) (.of main_call1_v29 : StableHlo.TRef sig ⟨S1024x1024, .f32⟩) (.of main_call1_v30 : StableHlo.TRef sig ⟨S1024x1024, .f32⟩) mulf
  :: StableHlo.TRef.unary (.of main_call1_v2 : StableHlo.TRef sig ⟨S1x1, .f32⟩) (.of main_call1_v31 : StableHlo.TRef sig ⟨S1024x1024, .f32⟩) (broadcastInDim S1024x1024 ![0, 1] bcast_S1x1_S1024x1024_0_1)
  :: StableHlo.TRef.binary (.of main_call1_v30 : StableHlo.TRef sig ⟨S1024x1024, .f32⟩) (.of main_call1_v31 : StableHlo.TRef sig ⟨S1024x1024, .f32⟩) (.of main_call1_v32 : StableHlo.TRef sig ⟨S1024x1024, .f32⟩) addf
  :: StableHlo.TRef.unary (.of main_call1_v2 : StableHlo.TRef sig ⟨S1x1, .f32⟩) (.of main_call1_v33 : StableHlo.TRef sig ⟨S1024x1024, .f32⟩) (broadcastInDim S1024x1024 ![0, 1] bcast_S1x1_S1024x1024_0_1)
  :: StableHlo.TRef.binary (.of main_call1_v33 : StableHlo.TRef sig ⟨S1024x1024, .f32⟩) (.of main_call1_v32 : StableHlo.TRef sig ⟨S1024x1024, .f32⟩) (.of main_v37 : StableHlo.TRef sig ⟨S1024x1024, .f32⟩) maximumf
  :: [] )
set_option maxHeartbeats 40000000 in
/-- They touch TensorCore references only. -/
theorem unitOps_sub : (unitOps : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub ..⟩
/-- Each determines its results. -/
theorem unitOps_fresh : (unitOps : List (HloOp τ sig (Elt F))).Forall fun op => op.fresh = ∅ := by
  simp only [List.Forall]; repeat' constructor

set_option maxHeartbeats 40000000 in
/-- The operations of the Gumbel noise and the softmax of the perturbed logits. -/
abbrev gumbelOps : List (HloOp τ sig (Elt F)) :=
  ( StableHlo.nullary main_cst_5 (constant S_ .f32 0x2EDBE6FF#32)
  :: StableHlo.unary main_cst_5 main_v38 (broadcastInDim S1024x1024 ![] bcast_S_S1024x1024 : (⟨S_, .f32⟩ : BufTy).Contents (Elt F) → (⟨S1024x1024, .f32⟩ : BufTy).Contents (Elt F))
  :: StableHlo.binary main_v37 main_v38 main_v39 (addf : (⟨S1024x1024, .f32⟩ : BufTy).Contents (Elt F) → (⟨S1024x1024, .f32⟩ : BufTy).Contents (Elt F) → (⟨S1024x1024, .f32⟩ : BufTy).Contents (Elt F))
  :: StableHlo.unary main_v39 main_v40 (Host.log : (⟨S1024x1024, .f32⟩ : BufTy).Contents (Elt F) → (⟨S1024x1024, .f32⟩ : BufTy).Contents (Elt F))
  :: StableHlo.unary main_v40 main_v41 (Host.negf : (⟨S1024x1024, .f32⟩ : BufTy).Contents (Elt F) → (⟨S1024x1024, .f32⟩ : BufTy).Contents (Elt F))
  :: StableHlo.nullary main_cst_6 (constant S_ .f32 0x2EDBE6FF#32)
  :: StableHlo.unary main_cst_6 main_v42 (broadcastInDim S1024x1024 ![] bcast_S_S1024x1024 : (⟨S_, .f32⟩ : BufTy).Contents (Elt F) → (⟨S1024x1024, .f32⟩ : BufTy).Contents (Elt F))
  :: StableHlo.binary main_v41 main_v42 main_v43 (addf : (⟨S1024x1024, .f32⟩ : BufTy).Contents (Elt F) → (⟨S1024x1024, .f32⟩ : BufTy).Contents (Elt F) → (⟨S1024x1024, .f32⟩ : BufTy).Contents (Elt F))
  :: StableHlo.unary main_v43 main_v44 (Host.log : (⟨S1024x1024, .f32⟩ : BufTy).Contents (Elt F) → (⟨S1024x1024, .f32⟩ : BufTy).Contents (Elt F))
  :: StableHlo.unary main_v44 main_v45 (Host.negf : (⟨S1024x1024, .f32⟩ : BufTy).Contents (Elt F) → (⟨S1024x1024, .f32⟩ : BufTy).Contents (Elt F))
  :: StableHlo.binary main_v29 main_v45 main_v46 (addf : (⟨S1024x1024, .f32⟩ : BufTy).Contents (Elt F) → (⟨S1024x1024, .f32⟩ : BufTy).Contents (Elt F) → (⟨S1024x1024, .f32⟩ : BufTy).Contents (Elt F))
  :: StableHlo.nullary main_cst_7 (constant S_ .f32 0x3F000000#32)
  :: StableHlo.unary main_cst_7 main_v47 (broadcastInDim S1024x1024 ![] bcast_S_S1024x1024 : (⟨S_, .f32⟩ : BufTy).Contents (Elt F) → (⟨S1024x1024, .f32⟩ : BufTy).Contents (Elt F))
  :: StableHlo.binary main_v46 main_v47 main_v48 (Host.divf : (⟨S1024x1024, .f32⟩ : BufTy).Contents (Elt F) → (⟨S1024x1024, .f32⟩ : BufTy).Contents (Elt F) → (⟨S1024x1024, .f32⟩ : BufTy).Contents (Elt F))
  :: StableHlo.nullary main_cst_8 (constant S_ .f32 0xFF800000#32)
  :: StableHlo.binary main_v48 main_cst_8 main_v49 ((fun x v => Host.reduce FloatOps.maximumf x v reducesTo_S1024x1024_S1024_d1 h_S_) : (⟨S1024x1024, .f32⟩ : BufTy).Contents (Elt F) → (⟨S_, .f32⟩ : BufTy).Contents (Elt F) → (⟨S1024, .f32⟩ : BufTy).Contents (Elt F))
  :: StableHlo.nullary main_cst_9 (constant S_ .f32 0xFF800000#32)
  :: StableHlo.unary main_cst_9 main_v50 (broadcastInDim S1024 ![] bcast_S_S1024 : (⟨S_, .f32⟩ : BufTy).Contents (Elt F) → (⟨S1024, .f32⟩ : BufTy).Contents (Elt F))
  :: StableHlo.binary main_v50 main_v49 main_v51 (maximumf : (⟨S1024, .f32⟩ : BufTy).Contents (Elt F) → (⟨S1024, .f32⟩ : BufTy).Contents (Elt F) → (⟨S1024, .f32⟩ : BufTy).Contents (Elt F))
  :: StableHlo.unary main_v51 main_v52 (broadcastInDim S1024x1 ![0] bcast_S1024_S1024x1_0 : (⟨S1024, .f32⟩ : BufTy).Contents (Elt F) → (⟨S1024x1, .f32⟩ : BufTy).Contents (Elt F))
  :: StableHlo.unary main_v52 main_v53 (broadcastInDim S1024x1024 ![0, 1] bcast_S1024x1_S1024x1024_0_1 : (⟨S1024x1, .f32⟩ : BufTy).Contents (Elt F) → (⟨S1024x1024, .f32⟩ : BufTy).Contents (Elt F))
  :: StableHlo.binary main_v48 main_v53 main_v54 (subf : (⟨S1024x1024, .f32⟩ : BufTy).Contents (Elt F) → (⟨S1024x1024, .f32⟩ : BufTy).Contents (Elt F) → (⟨S1024x1024, .f32⟩ : BufTy).Contents (Elt F))
  :: StableHlo.unary main_v54 main_v55 (Host.exp : (⟨S1024x1024, .f32⟩ : BufTy).Contents (Elt F) → (⟨S1024x1024, .f32⟩ : BufTy).Contents (Elt F))
  :: StableHlo.nullary main_cst_10 (constant S_ .f32 0x00000000#32)
  :: StableHlo.binary main_v55 main_cst_10 main_v56 ((fun x v => Host.reduceAdd x v reducesTo_S1024x1024_S1024_d1 h_S_) : (⟨S1024x1024, .f32⟩ : BufTy).Contents (Elt F) → (⟨S_, .f32⟩ : BufTy).Contents (Elt F) → (⟨S1024, .f32⟩ : BufTy).Contents (Elt F))
  :: StableHlo.unary main_v56 main_v57 (broadcastInDim S1024x1 ![0] bcast_S1024_S1024x1_0 : (⟨S1024, .f32⟩ : BufTy).Contents (Elt F) → (⟨S1024x1, .f32⟩ : BufTy).Contents (Elt F))
  :: StableHlo.unary main_v57 main_v58 (broadcastInDim S1024x1024 ![0, 1] bcast_S1024x1_S1024x1024_0_1 : (⟨S1024x1, .f32⟩ : BufTy).Contents (Elt F) → (⟨S1024x1024, .f32⟩ : BufTy).Contents (Elt F))
  :: StableHlo.binary main_v55 main_v58 main_v59 (Host.divf : (⟨S1024x1024, .f32⟩ : BufTy).Contents (Elt F) → (⟨S1024x1024, .f32⟩ : BufTy).Contents (Elt F) → (⟨S1024x1024, .f32⟩ : BufTy).Contents (Elt F))
  :: [] )
set_option maxHeartbeats 40000000 in
/-- They touch TensorCore references only. -/
theorem gumbelOps_sub : (gumbelOps : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub ..⟩
/-- Each determines its results. -/
theorem gumbelOps_fresh : (gumbelOps : List (HloOp τ sig (Elt F))).Forall fun op => op.fresh = ∅ := by
  simp only [List.Forall]; repeat' constructor

set_option maxHeartbeats 40000000 in
/-- The operations of the arg max. -/
abbrev argmaxOps : List (HloOp τ sig (Elt F)) :=
  ( StableHlo.TRef.nullary (.of main_call2_v0 : StableHlo.TRef sig ⟨S1024x1024, .i32⟩) (iotaInDim S1024x1024 32 1)
  :: StableHlo.TRef.nullary (.of main_call2_cst : StableHlo.TRef sig ⟨S_, .f32⟩) (constant S_ .f32 0xFF800000#32)
  :: StableHlo.TRef.nullary (.of main_call2_c : StableHlo.TRef sig ⟨S_, .i32⟩) (constantI S_ 32 0#32)
  :: StableHlo.TRef.quaternary (.of main_v59 : StableHlo.TRef sig ⟨S1024x1024, .f32⟩) (.of main_call2_v0 : StableHlo.TRef sig ⟨S1024x1024, .i32⟩) (.of main_call2_cst : StableHlo.TRef sig ⟨S_, .f32⟩) (.of main_call2_c : StableHlo.TRef sig ⟨S_, .i32⟩) (.of main_call2_v1_0 : StableHlo.TRef sig ⟨S1024, .f32⟩) (fun x y u v j => (Host.argReduce reducer_argmax_f32_i32 x y u v reducesTo_S1024x1024_S1024_d1 h_S_ j).1)
  :: StableHlo.TRef.quaternary (.of main_v59 : StableHlo.TRef sig ⟨S1024x1024, .f32⟩) (.of main_call2_v0 : StableHlo.TRef sig ⟨S1024x1024, .i32⟩) (.of main_call2_cst : StableHlo.TRef sig ⟨S_, .f32⟩) (.of main_call2_c : StableHlo.TRef sig ⟨S_, .i32⟩) (.of main_v60 : StableHlo.TRef sig ⟨S1024, .i32⟩) (fun x y u v j => (Host.argReduce reducer_argmax_f32_i32 x y u v reducesTo_S1024x1024_S1024_d1 h_S_ j).2)
  :: [] )
set_option maxHeartbeats 40000000 in
/-- They touch TensorCore references only. -/
theorem argmaxOps_sub : (argmaxOps : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- Each determines its results. -/
theorem argmaxOps_fresh : (argmaxOps : List (HloOp τ sig (Elt F))).Forall fun op => op.fresh = ∅ := by
  simp only [List.Forall]; repeat' constructor

set_option maxHeartbeats 40000000 in
/-- The operations of the one-hot rows. -/
abbrev onehotOps : List (HloOp τ sig (Elt F)) :=
  ( StableHlo.TRef.unary (.of main_v60 : StableHlo.TRef sig ⟨S1024, .i32⟩) (.of main_call3_v0 : StableHlo.TRef sig ⟨S1024x1, .i32⟩) (broadcastInDim S1024x1 ![0] bcast_S1024_S1024x1_0)
  :: StableHlo.TRef.nullary (.of main_call3_v1 : StableHlo.TRef sig ⟨S1x1024, .i32⟩) (iotaInDim S1x1024 32 1)
  :: StableHlo.TRef.unary (.of main_call3_v0 : StableHlo.TRef sig ⟨S1024x1, .i32⟩) (.of main_call3_v2 : StableHlo.TRef sig ⟨S1024x1024, .i32⟩) (broadcastInDim S1024x1024 ![0, 1] bcast_S1024x1_S1024x1024_0_1)
  :: StableHlo.TRef.unary (.of main_call3_v1 : StableHlo.TRef sig ⟨S1x1024, .i32⟩) (.of main_call3_v3 : StableHlo.TRef sig ⟨S1024x1024, .i32⟩) (broadcastInDim S1024x1024 ![0, 1] bcast_S1x1024_S1024x1024_0_1)
  :: StableHlo.TRef.binary (.of main_call3_v2 : StableHlo.TRef sig ⟨S1024x1024, .i32⟩) (.of main_call3_v3 : StableHlo.TRef sig ⟨S1024x1024, .i32⟩) (.of main_call3_v4 : StableHlo.TRef sig ⟨S1024x1024, .i1⟩) (cmpi .eq)
  :: StableHlo.TRef.unary (.of main_call3_v4 : StableHlo.TRef sig ⟨S1024x1024, .i1⟩) (.of main_v61 : StableHlo.TRef sig ⟨S1024x1024, .f32⟩) (uitofp .f32)
  :: [] )
set_option maxHeartbeats 40000000 in
/-- They touch TensorCore references only. -/
theorem onehotOps_sub : (onehotOps : List (HloOp τ sig (Elt F))).Forall fun op => op.bufs ⊆ StableHlo.tcRefs τ sig :=
  ⟨StableHlo.unary_bufs_sub .., StableHlo.nullary_bufs_sub .., StableHlo.unary_bufs_sub .., StableHlo.unary_bufs_sub .., StableHlo.binary_bufs_sub .., StableHlo.unary_bufs_sub ..⟩
/-- Each determines its results. -/
theorem onehotOps_fresh : (onehotOps : List (HloOp τ sig (Elt F))).Forall fun op => op.fresh = ∅ := by
  simp only [List.Forall]; repeat' constructor

set_option maxHeartbeats 40000000 in
/-- The operations of the straight-through sum and the diagonal. -/
abbrev gapOps : List (HloOp τ sig (Elt F)) :=
  ( StableHlo.binary main_v61 main_v59 main_v62 (subf : (⟨S1024x1024, .f32⟩ : BufTy).Contents (Elt F) → (⟨S1024x1024, .f32⟩ : BufTy).Contents (Elt F) → (⟨S1024x1024, .f32⟩ : BufTy).Contents (Elt F))
  :: StableHlo.binary main_v62 main_v59 main_v63 (addf : (⟨S1024x1024, .f32⟩ : BufTy).Contents (Elt F) → (⟨S1024x1024, .f32⟩ : BufTy).Contents (Elt F) → (⟨S1024x1024, .f32⟩ : BufTy).Contents (Elt F))
  :: StableHlo.nullary main_v64 (iotaInDim S1024x1024 32 0)
  :: StableHlo.nullary main_v65 (iotaInDim S1024x1024 32 1)
  :: StableHlo.nullary main_c_11 (constantI S_ 32 0#32)
  :: StableHlo.unary main_c_11 main_v66 (broadcastInDim S1024x1024 ![] bcast_S_S1024x1024 : (⟨S_, .i32⟩ : BufTy).Contents (Elt F) → (⟨S1024x1024, .i32⟩ : BufTy).Contents (Elt F))
  :: StableHlo.binary main_v64 main_v66 main_v67 (addi : (⟨S1024x1024, .i32⟩ : BufTy).Contents (Elt F) → (⟨S1024x1024, .i32⟩ : BufTy).Contents (Elt F) → (⟨S1024x1024, .i32⟩ : BufTy).Contents (Elt F))
  :: StableHlo.binary main_v67 main_v65 main_v68 (cmpi .eq : (⟨S1024x1024, .i32⟩ : BufTy).Contents (Elt F) → (⟨S1024x1024, .i32⟩ : BufTy).Contents (Elt F) → (⟨S1024x1024, .i1⟩ : BufTy).Contents (Elt F))
  :: StableHlo.nullary main_cst_12 (constant S_ .f32 0x00000000#32)
  :: [] )
set_option maxHeartbeats 40000000 in
/-- They touch TensorCore references only. -/
theorem gapOps_sub : (gapOps : List (HloOp τ sig (Elt F))).Forall fun op => op.bufs ⊆ StableHlo.tcRefs τ sig :=
  ⟨StableHlo.binary_bufs_sub .., StableHlo.binary_bufs_sub .., StableHlo.nullary_bufs_sub .., StableHlo.nullary_bufs_sub .., StableHlo.nullary_bufs_sub .., StableHlo.unary_bufs_sub .., StableHlo.binary_bufs_sub .., StableHlo.binary_bufs_sub .., StableHlo.nullary_bufs_sub ..⟩
/-- Each determines its results. -/
theorem gapOps_fresh : (gapOps : List (HloOp τ sig (Elt F))).Forall fun op => op.fresh = ∅ := by
  simp only [List.Forall]; repeat' constructor

set_option maxHeartbeats 40000000 in
/-- The operations of the selection. -/
abbrev whereOps : List (HloOp τ sig (Elt F)) :=
  ( StableHlo.TRef.unary (.of main_cst_12 : StableHlo.TRef sig ⟨S_, .f32⟩) (.of main_call4_v0 : StableHlo.TRef sig ⟨S1024x1024, .f32⟩) (broadcastInDim S1024x1024 ![] bcast_S_S1024x1024)
  :: StableHlo.TRef.ternary (.of main_v68 : StableHlo.TRef sig ⟨S1024x1024, .i1⟩) (.of main_call4_v0 : StableHlo.TRef sig ⟨S1024x1024, .f32⟩) (.of main_v63 : StableHlo.TRef sig ⟨S1024x1024, .f32⟩) (.of main_v69 : StableHlo.TRef sig ⟨S1024x1024, .f32⟩) select
  :: [] )
set_option maxHeartbeats 40000000 in
/-- They touch TensorCore references only. -/
theorem whereOps_sub : (whereOps : List (HloOp τ sig (Elt F))).Forall fun op => op.bufs ⊆ StableHlo.tcRefs τ sig :=
  ⟨StableHlo.unary_bufs_sub .., StableHlo.ternary_bufs_sub ..⟩
/-- Each determines its results. -/
theorem whereOps_fresh : (whereOps : List (HloOp τ sig (Elt F))).Forall fun op => op.fresh = ∅ := by
  simp only [List.Forall]; repeat' constructor

/-- @main's operations in order. -/
abbrev ops : List (HloOp τ sig (Elt F)) :=
  neighbourOps ++ (layersOps ++ (softOps ++ (keyOps ++ (wordOps ++ (unitOps ++ (gumbelOps ++ (argmaxOps ++ (onehotOps ++ (gapOps ++ (whereOps))))))))))

/-- @main is its operations. -/
theorem main_eq (c : Dev nD) : main (F := F) c = StableHlo.seq ops := by
  simp only [ops, StableHlo.seq_append]
  chain_rfl

end Cert.ReferenceIdeal.Ref

end
-- ==== Proof.RefFrame.lean ====
/- The reference's run: every execution ends, its arguments keep their contents, and its result is what its operations leave. -/
module

public import proofs.«01_k».proof.Proof.RefRun
public import Idealize.ShloMosaic.Lib.Quiescent

@[expose] public section

set_option maxRecDepth 16384

noncomputable section

namespace Cert.ReferenceIdeal.Ref

open Cert.ReferenceIdeal.Gen
open Idealize.ShloMosaic Idealize.ShloMosaic.TcCoe Idealize.SL.Sem

variable {F : FTy → Type} [FloatOps F]

/-- The operations touch TensorCore references only. -/
theorem ops_sub : (ops : List (HloOp τ sig (Elt F))).Forall fun op => op.bufs ⊆ StableHlo.tcRefs τ sig := by
  simp only [List.forall_append]
  exact ⟨neighbourOps_sub, layersOps_sub, softOps_sub, keyOps_sub, wordOps_sub, unitOps_sub, gumbelOps_sub, argmaxOps_sub, onehotOps_sub, gapOps_sub, whereOps_sub⟩

/-- Each operation determines its results. -/
theorem ops_fresh : (ops : List (HloOp τ sig (Elt F))).Forall fun op => op.fresh = ∅ := by
  simp only [List.forall_append]
  exact ⟨neighbourOps_fresh, layersOps_fresh, softOps_fresh, keyOps_fresh, wordOps_fresh, unitOps_fresh, gumbelOps_fresh, argmaxOps_fresh, onehotOps_fresh, gapOps_fresh, whereOps_fresh⟩

set_option maxHeartbeats 40000000 in
/-- No operation writes an argument. -/
theorem args_kept (V : Valuation τ sig (Elt F)) :
    StableHlo.after ops V (Proc.devRef .tc main_arg0) = V (Proc.devRef .tc main_arg0)
    ∧ StableHlo.after ops V (Proc.devRef .tc main_arg1) = V (Proc.devRef .tc main_arg1)
    ∧ StableHlo.after ops V (Proc.devRef .tc main_arg2) = V (Proc.devRef .tc main_arg2)
    ∧ StableHlo.after ops V (Proc.devRef .tc main_arg3) = V (Proc.devRef .tc main_arg3)
    ∧ StableHlo.after ops V (Proc.devRef .tc main_arg4) = V (Proc.devRef .tc main_arg4)
    ∧ StableHlo.after ops V (Proc.devRef .tc main_arg5) = V (Proc.devRef .tc main_arg5)
    ∧ StableHlo.after ops V (Proc.devRef .tc main_arg6) = V (Proc.devRef .tc main_arg6)
    ∧ StableHlo.after ops V (Proc.devRef .tc main_arg7) = V (Proc.devRef .tc main_arg7)
    ∧ StableHlo.after ops V (Proc.devRef .tc main_arg8) = V (Proc.devRef .tc main_arg8)
    ∧ StableHlo.after ops V (Proc.devRef .tc main_arg9) = V (Proc.devRef .tc main_arg9) := by
  refine ⟨?_, ?_, ?_, ?_, ?_, ?_, ?_, ?_, ?_, ?_⟩ <;> after_reads_simp

/-- No TensorCore buffer is scoped. -/
theorem scopedRefs_eq : (Finset.univ.filter fun b : Ref sig .tc => b.isScoped) = ∅ := by decide +kernel

/-- No semaphore is scoped. -/
theorem scopedSems_eq : (Finset.univ.filter fun sm : SemLoc sig => sm.isScoped .tc) = ∅ := by decide +kernel

/-- Every execution ends with the result at what the operations leave there and the arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v69) = StableHlo.after ops (StableHlo.launchContents m c) (Proc.devRef .tc main_v69)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => by
      obtain ⟨h0, h1, h2, h3, h4, h5, h6, h7, h8, h9⟩ := args_kept (StableHlo.launchContents m c)
      exact ⟨h c main_v69, (h c main_arg0).trans h0, (h c main_arg1).trans h1, (h c main_arg2).trans h2, (h c main_arg3).trans h3,
        (h c main_arg4).trans h4, (h c main_arg5).trans h5, (h c main_arg6).trans h6, (h c main_arg7).trans h7, (h c main_arg8).trans h8,
        (h c main_arg9).trans h9⟩)
    (StableHlo.run_seq scopedRefs_eq scopedSems_eq defs main (fun _ => ops) main_eq (fun _ => ops_sub) m ρ
      (fun _ => List.forall_iff_forall_mem.mp ops_fresh))

/-- The reference ends with its arguments unchanged and every counter at zero. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0 :=
  (θ_run defs _ _).mono (fun r h => ⟨fun c => (h c).2, sem_eq_zero_of_no_sems (by decide) r.2⟩) (run m ρ)

end Cert.ReferenceIdeal.Ref

end
-- ==== Proof.Spec.lean ====
/- What both programs compute, as functions of the arguments' entries. -/
module

public import Idealize.ShloMosaic.PureOps.Ideal.Laws
public import Idealize.ShloMosaic.Lib.Pointwise

@[expose] public section

noncomputable section

namespace Cert.Spec

open Idealize.ShloMosaic

/-- A vector's entry. -/
abbrev at1 {a : ℕ} (v : (⟨1, ![a]⟩ : Shape).Idx → EReal) (i : Fin a) : EReal := v (ix1 i)

/-- A matrix's entry. -/
abbrev at2 {a b : ℕ} (v : (⟨2, ![a, b]⟩ : Shape).Idx → EReal) (i : Fin a) (j : Fin b) : EReal := v (ix2 i j)

/-- An entry of a box of three axes. -/
abbrev at3 {a b c : ℕ} (v : (⟨3, ![a, b, c]⟩ : Shape).Idx → EReal) (i : Fin a) (j : Fin b) (k : Fin c) : EReal := v (ix3 i j k)

/-- An entry of a box of four axes. -/
abbrev at4 {a b c d : ℕ} (v : (⟨4, ![a, b, c, d]⟩ : Shape).Idx → EReal) (i : Fin a) (j : Fin b) (k : Fin c) (l : Fin d) : EReal :=
  v (ix4 i j k l)

/-- The graph convolution summed over batch and time, in the reference's order: node `n`, channel `o`. -/
def conv (x : Fin 8 → Fin 32 → Fin 1024 → Fin 12 → EReal) (a : Fin 1024 → Fin 1024 → EReal) (w : Fin 32 → Fin 64 → EReal)
    (b : Fin 32 → EReal) (n : Fin 1024) (o : Fin 32) : EReal :=
  ∑ t : Fin 12, ∑ i : Fin 8, ((∑ c : Fin 32, w o ⟨c.val, by omega⟩ * x i c n t)
    + (∑ c : Fin 32, w o ⟨32 + c.val, by omega⟩ * ∑ m : Fin 1024, a m n * x i c m t) + b o)

/-- The three dense layers of a node's channels `s`, at output `i`. -/
def layers (w0 : Fin 1024 → Fin 32 → EReal) (b0 : Fin 1024 → EReal) (w1 : Fin 2048 → Fin 1024 → EReal) (b1 : Fin 2048 → EReal)
    (w2 : Fin 1024 → Fin 2048 → EReal) (b2 : Fin 1024 → EReal) (s : Fin 32 → EReal) (i : Fin 1024) : EReal :=
  Ideal.tanh ((∑ j : Fin 2048, Ideal.tanh ((∑ k : Fin 1024, Ideal.tanh ((∑ o : Fin 32, s o * w0 k o) + b0 k) * w1 j k) + b1 j) * w2 i j) + b2 i)

/-- The Gumbel noise of a number of the unit interval. -/
def gumbel (u : EReal) : EReal :=
  -Ideal.log (-Ideal.log (u + Ideal.ofBits .f32 786163455#32) + Ideal.ofBits .f32 786163455#32)

end Cert.Spec

end
-- ==== Proof.KernelBlocks.lean ====
/- The arrays the kernel's windows read, and their blocks at a grid point, as entries of the arguments. -/
module

public import proofs.«01_k».proof.Proof.KernelRun
public import proofs.«01_k».proof.Proof.Spec
public import Idealize.ShloMosaic.Lib.StableHlo.ReadAt
public import Idealize.ShloMosaic.Lib.Pointwise
public import Idealize.ShloMosaic.Lib.Pipeline.ValueKit

@[expose] public section

set_option maxRecDepth 16384

noncomputable section

namespace Cert.KernelIdeal.Val

open Cert.KernelIdeal Cert.KernelIdeal.Gen Cert.KernelIdeal.Run
open Idealize.ShloMosaic Idealize.ShloMosaic.TcCoe Idealize.SL.Sem

variable (m : (ℓ : Loc nD τ sig) → Buf (Elt Ideal) ℓ) (c : Dev nD)

set_option maxHeartbeats 4000000 in
/-- The features, channel and time flattened. -/
theorem feat_at (b : Fin 8) (n : Fin 1024) (k : Fin 384) : Spec.at3 (V m c main_v2) b n k
    = Spec.at4 (m (c, Proc.devRef .tc main_arg0)) b ⟨k.val / 12, by omega⟩ n ⟨k.val % 12, by omega⟩ := by
  unfold V
  after_reads_at

set_option maxHeartbeats 4000000 in
/-- The weights of a node's own channels, repeated over time. -/
theorem own_at (k : Fin 384) (o : Fin 32) : Spec.at2 (V m c main_v7) k o
    = Spec.at2 (m (c, Proc.devRef .tc main_arg2)) o ⟨k.val / 12, by omega⟩ := by
  unfold V
  after_reads_at

set_option maxHeartbeats 4000000 in
/-- The weights of the neighbours' channels, repeated over time. -/
theorem nbr_at (k : Fin 384) (o : Fin 32) : Spec.at2 (V m c main_v12) k o
    = Spec.at2 (m (c, Proc.devRef .tc main_arg2)) o ⟨32 + k.val / 12, by omega⟩ := by
  unfold V
  after_reads_at

/-- The block indices at every point. -/
theorem idx : ∀ t : Fin cfg0.N, (t.val < 8 → win0_0.index t = ![t.val, 0, 0]) ∧ win0_1.index t = ![0, 0] ∧ win0_2.index t = ![0, 0]
    ∧ win0_3.index t = ![0, 0] ∧ win0_4.index t = ![0, 0] ∧ win0_5.index t = ![0] ∧ win0_6.index t = ![0] ∧ win0_7.index t = ![0, 0]
    ∧ win0_8.index t = ![0] ∧ win0_9.index t = ![0, 0] ∧ win0_10.index t = ![0] ∧ (8 ≤ t.val → win0_11.index t = ![t.val - 8, 0])
    ∧ (8 ≤ t.val → win0_12.index t = ![t.val - 8, 0]) := by decide +kernel

/-- The features' block at an accumulating point. -/
theorem blk0 (t : Fin cfg0.N) (h : t.val < 8) (n : Fin 1024) (k : Fin 384) :
    Spec.at3 (iblk m c 0 t) 0 n k = Spec.at3 (V m c main_v2) ⟨t.val, h⟩ n k := by
  have e := (idx t).1 h
  show (V m c main_v2) (((cfg0.win 0).blk t).view.emb (ix3 0 n k)) = (V m c main_v2) (ix3 ⟨t.val, h⟩ n k)
  refine congrArg (V m c main_v2) ?_
  blk_ext [e]

/-- The adjacency's block. -/
theorem blk1 (t : Fin cfg0.N) (i j : Fin 1024) : Spec.at2 (iblk m c 1 t) i j = Spec.at2 (m (c, Proc.devRef .tc main_arg1)) i j := by
  refine Eq.trans ?_ (congrFun (V_main_arg1 m c) (ix2 i j))
  have e := (idx t).2.1
  show (V m c main_arg1) (((cfg0.win 1).blk t).view.emb (ix2 i j)) = (V m c main_arg1) (ix2 i j)
  refine congrArg (V m c main_arg1) ?_
  blk_ext [e]

/-- The own weights' block. -/
theorem blk2 (t : Fin cfg0.N) (k : Fin 384) (o : Fin 32) : Spec.at2 (iblk m c 2 t) k o = Spec.at2 (V m c main_v7) k o := by
  have e := (idx t).2.2.1
  show (V m c main_v7) (((cfg0.win 2).blk t).view.emb (ix2 k o)) = (V m c main_v7) (ix2 k o)
  refine congrArg (V m c main_v7) ?_
  blk_ext [e]

/-- The neighbours' weights' block. -/
theorem blk3 (t : Fin cfg0.N) (k : Fin 384) (o : Fin 32) : Spec.at2 (iblk m c 3 t) k o = Spec.at2 (V m c main_v12) k o := by
  have e := (idx t).2.2.2.1
  show (V m c main_v12) (((cfg0.win 3).blk t).view.emb (ix2 k o)) = (V m c main_v12) (ix2 k o)
  refine congrArg (V m c main_v12) ?_
  blk_ext [e]

/-- The first layer's weights' block. -/
theorem blk4 (t : Fin cfg0.N) (k : Fin 1024) (o : Fin 32) : Spec.at2 (iblk m c 4 t) k o = Spec.at2 (m (c, Proc.devRef .tc main_arg4)) k o := by
  refine Eq.trans ?_ (congrFun (V_main_arg4 m c) (ix2 k o))
  have e := (idx t).2.2.2.2.1
  show (V m c main_arg4) (((cfg0.win 4).blk t).view.emb (ix2 k o)) = (V m c main_arg4) (ix2 k o)
  refine congrArg (V m c main_arg4) ?_
  blk_ext [e]

/-- The first layer's bias's block. -/
theorem blk5 (t : Fin cfg0.N) (k : Fin 1024) : Spec.at1 (iblk m c 5 t) k = Spec.at1 (m (c, Proc.devRef .tc main_arg5)) k := by
  refine Eq.trans ?_ (congrFun (V_main_arg5 m c) (ix1 k))
  have e := (idx t).2.2.2.2.2.1
  show (V m c main_arg5) (((cfg0.win 5).blk t).view.emb (ix1 k)) = (V m c main_arg5) (ix1 k)
  refine congrArg (V m c main_arg5) ?_
  blk_ext [e]

/-- The convolution's bias's block. -/
theorem blk6 (t : Fin cfg0.N) (o : Fin 32) : Spec.at1 (iblk m c 6 t) o = Spec.at1 (m (c, Proc.devRef .tc main_arg3)) o := by
  refine Eq.trans ?_ (congrFun (V_main_arg3 m c) (ix1 o))
  have e := (idx t).2.2.2.2.2.2.1
  show (V m c main_arg3) (((cfg0.win 6).blk t).view.emb (ix1 o)) = (V m c main_arg3) (ix1 o)
  refine congrArg (V m c main_arg3) ?_
  blk_ext [e]

/-- The second layer's weights' block. -/
theorem blk7 (t : Fin cfg0.N) (j : Fin 2048) (k : Fin 1024) : Spec.at2 (iblk m c 7 t) j k = Spec.at2 (m (c, Proc.devRef .tc main_arg6)) j k := by
  refine Eq.trans ?_ (congrFun (V_main_arg6 m c) (ix2 j k))
  have e := (idx t).2.2.2.2.2.2.2.1
  show (V m c main_arg6) (((cfg0.win 7).blk t).view.emb (ix2 j k)) = (V m c main_arg6) (ix2 j k)
  refine congrArg (V m c main_arg6) ?_
  blk_ext [e]

/-- The second layer's bias's block. -/
theorem blk8 (t : Fin cfg0.N) (j : Fin 2048) : Spec.at1 (iblk m c 8 t) j = Spec.at1 (m (c, Proc.devRef .tc main_arg7)) j := by
  refine Eq.trans ?_ (congrFun (V_main_arg7 m c) (ix1 j))
  have e := (idx t).2.2.2.2.2.2.2.2.1
  show (V m c main_arg7) (((cfg0.win 8).blk t).view.emb (ix1 j)) = (V m c main_arg7) (ix1 j)
  refine congrArg (V m c main_arg7) ?_
  blk_ext [e]

/-- The third layer's weights' block. -/
theorem blk9 (t : Fin cfg0.N) (i : Fin 1024) (j : Fin 2048) : Spec.at2 (iblk m c 9 t) i j = Spec.at2 (m (c, Proc.devRef .tc main_arg8)) i j := by
  refine Eq.trans ?_ (congrFun (V_main_arg8 m c) (ix2 i j))
  have e := (idx t).2.2.2.2.2.2.2.2.2.1
  show (V m c main_arg8) (((cfg0.win 9).blk t).view.emb (ix2 i j)) = (V m c main_arg8) (ix2 i j)
  refine congrArg (V m c main_arg8) ?_
  blk_ext [e]

/-- The third layer's bias's block. -/
theorem blk10 (t : Fin cfg0.N) (i : Fin 1024) : Spec.at1 (iblk m c 10 t) i = Spec.at1 (m (c, Proc.devRef .tc main_arg9)) i := by
  refine Eq.trans ?_ (congrFun (V_main_arg9 m c) (ix1 i))
  have e := (idx t).2.2.2.2.2.2.2.2.2.2.1
  show (V m c main_arg9) (((cfg0.win 10).blk t).view.emb (ix1 i)) = (V m c main_arg9) (ix1 i)
  refine congrArg (V m c main_arg9) ?_
  blk_ext [e]

/-- The row of the result that a writing point's block has at `r`. -/
theorem row_lt (t : Fin cfg0.N) (h : 8 ≤ t.val) (r : Fin 256) : (t.val - 8) * 256 + r.val < 1024 := by
  have := t.isLt
  have : t.val < 12 := lt_of_lt_of_eq t.isLt N_0
  omega

/-- A block of 256 rows of the noise's shape, at a writing point. -/
theorem rows_at (t : Fin cfg0.N) (h : 8 ≤ t.val) (X : (cfg0.win 11).arr.view.ty.Contents (Elt Ideal)) (r : Fin 256) (i : Fin 1024) :
    Spec.at2 (((cfg0.win 11).blk t).view.read (Elt Ideal) X) r i = Spec.at2 X ⟨(t.val - 8) * 256 + r.val, row_lt t h r⟩ i := by
  have e := (idx t).2.2.2.2.2.2.2.2.2.2.2.1 h
  show X (((cfg0.win 11).blk t).view.emb (ix2 r i)) = X (ix2 ⟨(t.val - 8) * 256 + r.val, row_lt t h r⟩ i)
  refine congrArg X ?_
  blk_ext [e]

/-- The noise's block at a writing point. -/
theorem blk11 (t : Fin cfg0.N) (h : 8 ≤ t.val) (r : Fin 256) (i : Fin 1024) :
    Spec.at2 (iblk m c 11 t) r i = Spec.at2 (V m c main_v28) ⟨(t.val - 8) * 256 + r.val, row_lt t h r⟩ i := by
  unfold iblk
  exact rows_at t h (V m c main_v28) r i

end Cert.KernelIdeal.Val

end
-- ==== Proof.Row.lean ====
/- A row of 1024 extended reals: its first maximum, and the three ways the programs look for it. -/
module

public import Idealize.ShloMosaic.Lib.Pointwise
public import Idealize.ShloMosaic.PureOps.Ideal.Laws

@[expose] public section

noncomputable section

namespace Cert.Row

open Idealize.ShloMosaic

/-- `j` is the first index at which the row is largest. -/
def First (f : Fin 1024 → EReal) (j : Fin 1024) : Prop := (∀ i, f i ≤ f j) ∧ ∀ i, i < j → f i < f j

/-- Every row has a first maximum. -/
theorem exists_first (f : Fin 1024 → EReal) : ∃ j, First f j := by
  classical
  obtain ⟨k, -, hk⟩ := Finset.exists_max_image Finset.univ f ⟨0, Finset.mem_univ _⟩
  let S : Finset (Fin 1024) := Finset.univ.filter fun j => ∀ i, f i ≤ f j
  have hS : S.Nonempty := ⟨k, by simp only [S, Finset.mem_filter, Finset.mem_univ, true_and]; exact fun i => hk i (Finset.mem_univ _)⟩
  refine ⟨S.min' hS, ?_, ?_⟩
  · have := S.min'_mem hS
    simp only [S, Finset.mem_filter, Finset.mem_univ, true_and] at this
    exact this
  · intro i hi
    by_contra hlt
    have hm := S.min'_mem hS
    simp only [S, Finset.mem_filter, Finset.mem_univ, true_and] at hm
    have hiS : i ∈ S := by
      simp only [S, Finset.mem_filter, Finset.mem_univ, true_and]
      exact fun l => (hm l).trans (not_lt.mp hlt)
    exact absurd (S.min'_le i hiS) (not_le.mpr hi)

/-- The order of a row decides its first maximum: a row that is strictly larger exactly where another is has the same one. -/
theorem First.of_lt_iff {f g : Fin 1024 → EReal} {j : Fin 1024} (h : First f j) (hfg : ∀ a b, f a < f b ↔ g a < g b) : First g j :=
  ⟨fun i => not_lt.mp fun hlt => absurd ((hfg _ _).mpr hlt) (not_lt.mpr (h.1 i)), fun i hi => (hfg _ _).mp (h.2 i hi)⟩

/-- The largest entry, as the fold that computes it. -/
theorem fold_max_eq {f : Fin 1024 → EReal} {j : Fin 1024} (h : First f j) :
    (Finset.univ : Finset (Fin 1024)).fold max ⊥ f = f j :=
  le_antisymm ((Finset.fold_max_le _).mpr ⟨bot_le, fun i _ => h.1 i⟩) ((Finset.le_fold_max _).mpr (Or.inr ⟨j, Finset.mem_univ _, le_rfl⟩))

/-- A word below 1025 reads itself. -/
theorem toInt_ofNat {n : ℕ} (h : n < 1025) : (BitVec.ofNat 32 n).toInt = n := by
  rw [BitVec.toInt_eq_toNat_cond, BitVec.toNat_ofNat, Nat.mod_eq_of_lt (by omega), if_pos (by omega)]

/-- The signed minimum of two words. -/
theorem toInt_minsi (x y : BitVec 32) : (IntOp.minsi x y).toInt = min x.toInt y.toInt := by
  unfold IntOp.minsi
  by_cases h : x.toInt < y.toInt
  · rw [if_pos (BitVec.slt_iff_toInt_lt.mpr h), min_eq_left h.le]
  · rw [if_neg (fun h' => h (BitVec.slt_iff_toInt_lt.mp h')), min_eq_right (not_lt.mp h)]

/-- The least of some words, where a word of them is no larger than any other. -/
theorem fold_minsi_eq {g : Fin 1024 → BitVec 32} {b : BitVec 32} {j : Fin 1024} (hb : (g j).toInt ≤ b.toInt)
    (hg : ∀ i, (g j).toInt ≤ (g i).toInt) : (Finset.univ : Finset (Fin 1024)).fold IntOp.minsi b g = g j := by
  apply BitVec.eq_of_toInt_eq
  apply le_antisymm
  · exact (Finset.fold_op_rel_iff_or (op := IntOp.minsi) (r := fun x y : BitVec 32 => y.toInt ≤ x.toInt) (c := g j) (b := b) (f := g)
      (s := Finset.univ) (fun {x y z} => by simp only [toInt_minsi, min_le_iff])).mpr (Or.inr ⟨j, Finset.mem_univ _, le_rfl⟩)
  · exact (Finset.fold_op_rel_iff_and (op := IntOp.minsi) (r := fun x y : BitVec 32 => x.toInt ≤ y.toInt) (c := g j) (b := b) (f := g)
      (s := Finset.univ) (fun {x y z} => by simp only [toInt_minsi, le_min_iff])).mpr ⟨hb, fun i _ => hg i⟩

/-- The least index whose entry equals the largest one is the first maximum. -/
theorem first_by_min {f : Fin 1024 → EReal} {j : Fin 1024} (h : First f j) :
    ((Finset.univ : Finset (Fin 1024)).fold IntOp.minsi (2147483647#32) fun x =>
      if f x = (Finset.univ : Finset (Fin 1024)).fold max ⊥ f then BitVec.ofNat 32 x.val else 1024#32) = BitVec.ofNat 32 j.val := by
  have e : ∀ x : Fin 1024, (BitVec.ofNat 32 x.val).toInt = x.val := fun x => toInt_ofNat (by omega)
  refine (fold_minsi_eq (j := j) ?_ ?_).trans ?_
  · rw [if_pos (fold_max_eq h).symm, e]
    have : (2147483647#32 : BitVec 32).toInt = 2147483647 := by decide
    omega
  · intro i
    rw [if_pos (fold_max_eq h).symm, e]
    split
    · rename_i hi
      rw [e]
      rw [fold_max_eq h] at hi
      have : j ≤ i := not_lt.mp fun hlt => absurd (h.2 i hlt) (by rw [hi]; exact lt_irrefl _)
      exact_mod_cast this
    · have : (1024#32 : BitVec 32).toInt = 1024 := by decide
      omega
  · rw [if_pos (fold_max_eq h).symm]

/-- `p` is no worse than `q` in a search for the largest value at the least index. -/
def Best (p q : EReal × BitVec 32) : Prop := q.1 < p.1 ∨ q.1 = p.1 ∧ p.2.toInt ≤ q.2.toInt

/-- Being no worse is transitive. -/
theorem Best.trans {p q r : EReal × BitVec 32} (h : Best p q) (h' : Best q r) : Best p r := by
  rcases h with h | ⟨h, hi⟩ <;> rcases h' with h' | ⟨h', hi'⟩
  · exact Or.inl (h'.trans h)
  · exact Or.inl (h' ▸ h)
  · exact Or.inl (h ▸ h')
  · exact Or.inr ⟨h'.trans h, hi.trans hi'⟩

/-- A search that keeps one of its two pairs, no worse than the other, ends with one of all the pairs, no worse than any. -/
theorem best_foldl (f : EReal × BitVec 32 → EReal × BitVec 32 → EReal × BitVec 32)
    (hf : ∀ a b, (f a b = a ∨ f a b = b) ∧ Best (f a b) a ∧ Best (f a b) b) (L : List (EReal × BitVec 32)) (r : EReal × BitVec 32) :
    (L.foldl f r = r ∨ L.foldl f r ∈ L) ∧ Best (L.foldl f r) r ∧ ∀ q ∈ L, Best (L.foldl f r) q := by
  induction L generalizing r with
  | nil => exact ⟨Or.inl rfl, Or.inr ⟨rfl, le_rfl⟩, fun q hq => absurd hq (by simp)⟩
  | cons a L ih =>
    obtain ⟨h1, h2, h3⟩ := ih (f r a)
    obtain ⟨e, b1, b2⟩ := hf r a
    rw [List.foldl_cons]
    refine ⟨?_, h2.trans b1, ?_⟩
    · rcases h1 with h1 | h1
      · rw [h1]
        rcases e with e | e <;> rw [e]
        · exact Or.inl rfl
        · exact Or.inr (by simp)
      · exact Or.inr (List.mem_cons_of_mem _ h1)
    · intro q hq
      rcases List.mem_cons.mp hq with rfl | hq
      · exact h2.trans b2
      · exact h3 q hq

/-- Such a search over a row's entries, begun below all of them, ends at the row's first maximum. -/
theorem first_by_fold (f : EReal × BitVec 32 → EReal × BitVec 32 → EReal × BitVec 32)
    (hf : ∀ a b, (f a b = a ∨ f a b = b) ∧ Best (f a b) a ∧ Best (f a b) b) {y : Fin 1024 → EReal} (hy : ∀ i, y i ≠ ⊥)
    {j : Fin 1024} (h : First y j) (L : List (EReal × BitVec 32)) (hL : ∀ p, p ∈ L ↔ ∃ i : Fin 1024, p = (y i, BitVec.ofNat 32 i.val))
    (w : BitVec 32) : (L.foldl f (⊥, w)).2 = BitVec.ofNat 32 j.val := by
  obtain ⟨h1, h2, h3⟩ := best_foldl f hf L (⊥, w)
  have hj := h3 _ ((hL _).mpr ⟨j, rfl⟩)
  rcases h1 with h1 | h1
  · rw [h1] at hj
    rcases hj with hj | ⟨hj, -⟩
    · exact absurd hj (by simp)
    · exact absurd hj (hy j)
  · obtain ⟨i, hi⟩ := (hL _).mp h1
    rw [hi] at hj ⊢
    have e : ∀ x : Fin 1024, (BitVec.ofNat 32 x.val).toInt = x.val := fun x => toInt_ofNat (by omega)
    rcases hj with hj | ⟨hj, hij⟩
    · exact absurd (h.1 i) (not_le.mpr hj)
    · simp only [e] at hij
      have : ¬ i < j := fun hlt => absurd (h.2 i hlt) (by simp only at hj; rw [hj]; exact lt_irrefl _)
      have : i = j := by omega
      rw [this]

end Cert.Row

end
-- ==== Proof.Reals.lean ====
/- The reference's softmax of a row of real numbers, and the noise of a random word, on the extended reals: all of it real. -/
module

public import proofs.«01_k».proof.Proof.Row

@[expose] public section

noncomputable section

namespace Cert.Reals

open Idealize.ShloMosaic Cert.Row

/-- The pattern of negative infinity. -/
theorem ofBits_neg_inf : Ideal.ofBits .f32 4286578688#32 = ⊥ := by
  simp [Ideal.ofBits, Ideal.ieee]

/-- The pattern of one half. -/
theorem ofBits_half : Ideal.ofBits .f32 1056964608#32 = ((1 / 2 : ℝ) : EReal) := by
  simp [Ideal.ofBits, Ideal.ieee, -EReal.coe_mul]; norm_num

/-- The pattern of ninety-six. -/
theorem ofBits_96 : Ideal.ofBits .f32 1119879168#32 = ((96 : ℝ) : EReal) := by
  simp [Ideal.ofBits, Ideal.ieee, -EReal.coe_mul]; norm_num

/-- The pattern of the small constant the noise adds. -/
theorem ofBits_eps : Ideal.ofBits .f32 786163455#32 = ((14411519 / 2 ^ 57 : ℝ) : EReal) := by
  simp [Ideal.ofBits, Ideal.ieee, -EReal.coe_mul]; norm_num

/-- The largest of a row of reals is a real. -/
theorem fold_max_real (h : Fin 1024 → ℝ) :
    ∃ μ : ℝ, max (⊥ : EReal) ((Finset.univ : Finset (Fin 1024)).fold max ⊥ fun x => (h x : EReal)) = μ := by
  obtain ⟨j, hj⟩ := exists_first fun x => (h x : EReal)
  exact ⟨h j, by rw [fold_max_eq hj, max_eq_right bot_le]⟩

/-- The extended sum of reals is their sum. -/
theorem coe_sum (h : Fin 1024 → ℝ) : ∑ x, (h x : EReal) = ((∑ x, h x : ℝ) : EReal) :=
  (map_sum (⟨⟨Real.toEReal, EReal.coe_zero⟩, EReal.coe_add⟩ : ℝ →+ EReal) h Finset.univ).symm

/-- A quotient of reals by a real that is not zero. -/
theorem div_coe (a : ℝ) {b : ℝ} (hb : b ≠ 0) : Ideal.div (a : EReal) (b : EReal) = ((a / b : ℝ) : EReal) := by
  rw [Ideal.div, if_neg (by exact_mod_cast hb), div_eq_mul_inv, EReal.coe_mul, EReal.coe_inv]

/-- The sum of the exponentials of a row of reals less a real: positive. -/
theorem sum_exp (h : Fin 1024 → ℝ) (μ : ℝ) :
    ∃ S : ℝ, 0 < S ∧ ∑ x, Ideal.exp ((h x : EReal) - (μ : EReal)) = (S : EReal) := by
  refine ⟨∑ x, Real.exp (h x - μ), Finset.sum_pos (fun x _ => Real.exp_pos _) ⟨0, Finset.mem_univ _⟩, ?_⟩
  rw [← coe_sum]
  exact Finset.sum_congr rfl fun x _ => by rw [← EReal.coe_sub, Ideal.exp_coe]

/-- The logarithm of a row's softmax is the row less one real. -/
theorem log_softmax (z : Fin 1024 → ℝ) : ∃ c : ℝ, ∀ i,
    (z i : EReal) - max ⊥ ((Finset.univ : Finset (Fin 1024)).fold max ⊥ fun x => (z x : EReal))
      - Ideal.log (∑ x, Ideal.exp ((z x : EReal) - max ⊥ ((Finset.univ : Finset (Fin 1024)).fold max ⊥ fun x => (z x : EReal))))
      = ((z i - c : ℝ) : EReal) := by
  obtain ⟨μ, hμ⟩ := fold_max_real z
  obtain ⟨S, hS, e⟩ := sum_exp z μ
  refine ⟨μ + Real.log S, fun i => ?_⟩
  rw [hμ, e, Ideal.log_coe, if_neg (not_le.mpr hS), ← EReal.coe_sub, ← EReal.coe_sub, sub_sub]

/-- The softmax of a row of reals is a row of reals, in the same strict order. -/
theorem softmax (h : Fin 1024 → ℝ) : ∃ y : Fin 1024 → ℝ, (∀ a b, y a < y b ↔ h a < h b) ∧ ∀ i,
    Ideal.div (Ideal.exp ((h i : EReal) - max ⊥ ((Finset.univ : Finset (Fin 1024)).fold max ⊥ fun x => (h x : EReal))))
      (∑ x, Ideal.exp ((h x : EReal) - max ⊥ ((Finset.univ : Finset (Fin 1024)).fold max ⊥ fun x => (h x : EReal))))
      = (y i : EReal) := by
  obtain ⟨μ, hμ⟩ := fold_max_real h
  obtain ⟨S, hS, e⟩ := sum_exp h μ
  refine ⟨fun i => Real.exp (h i - μ) / S, fun a b => ?_, fun i => ?_⟩
  · rw [div_lt_div_iff_of_pos_right hS, Real.exp_lt_exp, sub_lt_sub_iff_right]
  · rw [hμ, e, ← EReal.coe_sub, Ideal.exp_coe, div_coe _ hS.ne']

/-- The hyperbolic tangent is real everywhere. -/
theorem tanh_real (x : EReal) : ∃ r : ℝ, Ideal.tanh x = r := by
  induction x with
  | bot => exact ⟨-1, by rw [Ideal.tanh_bot, EReal.coe_neg, EReal.coe_one]⟩
  | top => exact ⟨1, by rw [Ideal.tanh_top, EReal.coe_one]⟩
  | coe r => exact ⟨_, Ideal.tanh_coe r⟩

/-- A word's upper twenty-three bits under the exponent of one denote a real between one and two, the latter not nearly reached. -/
theorem ofBits_word (w : BitVec 32) : ∃ r : ℝ, 1 ≤ r ∧ r ≤ 2 - 1 / 2 ^ 23 ∧
    Ideal.ofBits .f32 (IntOp.ori (IntOp.shrui ArithUnit.host w 9#32) 1065353216#32) = (r : EReal) := by
  have e : IntOp.ori (IntOp.shrui ArithUnit.host w 9#32) 1065353216#32 = (0x7F#9 ++ w.extractLsb' 9 23 : BitVec 32) := by
    have h9 : IntOp.shrui ArithUnit.host w 9#32 = w >>> 9 := by
      unfold IntOp.shrui
      rw [if_pos (by decide)]
      rfl
    rw [h9]
    show w >>> 9 ||| 1065353216#32 = _
    apply BitVec.eq_of_getLsbD_eq
    intro i hi
    rw [BitVec.getLsbD_or, BitVec.getLsbD_ushiftRight, BitVec.getLsbD_append, BitVec.getLsbD_extractLsb']
    by_cases h : i < 23
    · have hc : (1065353216#32).getLsbD i = false := by
        have : ∀ k : Fin 23, (1065353216#32).getLsbD k.val = false := by decide
        exact this ⟨i, h⟩
      simp [h, hc]
    · have hw : w.getLsbD (9 + i) = false := BitVec.getLsbD_of_ge _ _ (by omega)
      have hc : (1065353216#32).getLsbD i = (0x7F#9).getLsbD (i - 23) := by
        have : ∀ k : Fin 9, (1065353216#32).getLsbD (k.val + 23) = (0x7F#9).getLsbD k.val := by decide
        have := this ⟨i - 23, by omega⟩
        simpa [show i - 23 + 23 = i by omega] using this
      simp [h, hw, hc]
  have h : (w.extractLsb' 9 23).toNat < 2 ^ 23 := (w.extractLsb' 9 23).isLt
  refine ⟨1 + (w.extractLsb' 9 23).toNat / 2 ^ 23, ?_, ?_, ?_⟩
  · have : (0 : ℝ) ≤ (w.extractLsb' 9 23).toNat / 2 ^ 23 := by positivity
    linarith
  · have : ((w.extractLsb' 9 23).toNat : ℝ) ≤ 2 ^ 23 - 1 := by
      have : (w.extractLsb' 9 23).toNat + 1 ≤ 2 ^ 23 := h
      have : (((w.extractLsb' 9 23).toNat + 1 : ℕ) : ℝ) ≤ ((2 ^ 23 : ℕ) : ℝ) := Nat.cast_le.mpr this
      push_cast at this
      linarith
    have h2 : ((w.extractLsb' 9 23).toNat : ℝ) / 2 ^ 23 ≤ (2 ^ 23 - 1) / 2 ^ 23 := by gcongr
    have : ((2 : ℝ) ^ 23 - 1) / 2 ^ 23 = 1 - 1 / 2 ^ 23 := by norm_num
    linarith
  · rw [e]
    generalize w.extractLsb' 9 23 = v at h ⊢
    have e1 : (0x7F#9 ++ v : BitVec 32).extractLsb' 23 8 = 0x7F#8 := by
      apply BitVec.eq_of_getLsbD_eq
      intro i hi
      rw [BitVec.getLsbD_extractLsb', BitVec.getLsbD_append]
      have : ∀ k : Fin 8, (0x7F#9).getLsbD k.val = (0x7F#8).getLsbD k.val := by decide
      simpa [hi] using this ⟨i, hi⟩
    have e2 : (0x7F#9 ++ v : BitVec 32).extractLsb' 0 23 = v := by
      apply BitVec.eq_of_getLsbD_eq
      intro i hi
      rw [BitVec.getLsbD_extractLsb', BitVec.getLsbD_append]
      simp [hi]
    have e3 : (0x7F#9 ++ v : BitVec 32).extractLsb' 31 1 = 0#1 := by
      apply BitVec.eq_of_getLsbD_eq
      intro i hi
      obtain rfl : i = 0 := by omega
      rw [BitVec.getLsbD_extractLsb', BitVec.getLsbD_append]
      simp
    show Ideal.ieee 8 23 (0x7F#9 ++ v : BitVec 32) = _
    unfold Ideal.ieee
    simp only [Nat.reduceAdd, e1, e2, e3]
    rw [if_neg (by decide), if_neg (by decide)]
    refine congrArg _ ?_
    rw [if_neg (by decide)]
    push_cast
    norm_num
    ring

/-- The Gumbel noise of a number of the unit interval is real. -/
theorem gumbel_real {u : ℝ} (h0 : 0 ≤ u) (h1 : u ≤ 1 - 1 / 2 ^ 23) : ∃ g : ℝ,
    -Ideal.log (-Ideal.log ((u : EReal) + Ideal.ofBits .f32 786163455#32) + Ideal.ofBits .f32 786163455#32) = (g : EReal) := by
  have hε : (0 : ℝ) < 14411519 / 2 ^ 57 := by norm_num
  have hlt : u + 14411519 / 2 ^ 57 < 1 := by
    have : (1 : ℝ) - 1 / 2 ^ 23 + 14411519 / 2 ^ 57 < 1 := by norm_num
    linarith
  have hpos : 0 < u + 14411519 / 2 ^ 57 := by linarith
  have hl : Real.log (u + 14411519 / 2 ^ 57) < 0 := Real.log_neg hpos hlt
  refine ⟨-Real.log (-Real.log (u + 14411519 / 2 ^ 57) + 14411519 / 2 ^ 57), ?_⟩
  rw [ofBits_eps, ← EReal.coe_add, Ideal.log_coe, if_neg (not_le.mpr hpos), ← EReal.coe_neg, ← EReal.coe_add, Ideal.log_coe,
    if_neg (by linarith), ← EReal.coe_neg]

end Cert.Reals

end
-- ==== Proof.KernelBody.lean ====
/- What the body's stores hold at an index. -/
module

public import proofs.«01_k».proof.Proof.Body
public import proofs.«01_k».proof.Proof.Spec
public import proofs.«01_k».proof.Proof.Row
public import proofs.«01_k».proof.Proof.Reals
public import Idealize.ShloMosaic.Lib.Pointwise

@[expose] public section

set_option maxRecDepth 16384

noncomputable section

namespace Cert.KernelIdeal.Val

open Cert.KernelIdeal Cert.KernelIdeal.Gen
open Idealize.ShloMosaic Idealize.ShloMosaic.TcCoe Idealize.SL.Sem
open Cert.Row Cert.Reals

/-- The accumulator starts at zero. -/
theorem pay1_at (n : Fin 1024) (o : Fin 32) : Spec.at2 (k0_pay1 (F := Ideal)) n o = 0 := by
  pointwise [k0_pay1]

/-- The adjacency's copy is the adjacency. -/
theorem pay2_at (x : Vec Ideal S1024x1024 .f32) (i j : Fin 1024) : Spec.at2 (k0_pay2 x) i j = Spec.at2 x i j := by
  pointwise [k0_pay2]

/-- The second layer's weights' copy. -/
theorem pay3_at (x : Vec Ideal S2048x1024 .f32) (j : Fin 2048) (k : Fin 1024) : Spec.at2 (k0_pay3 x) j k = Spec.at2 x j k := by
  pointwise [k0_pay3]

/-- The third layer's weights' copy. -/
theorem pay4_at (x : Vec Ideal S1024x2048 .f32) (i : Fin 1024) (j : Fin 2048) : Spec.at2 (k0_pay4 x) i j = Spec.at2 x i j := by
  pointwise [k0_pay4]

/-- A batch's contribution to the accumulator. -/
theorem pay5_at (x : Vec Ideal S1x1024x384 .f32) (a : Vec Ideal S1024x1024 .bf16) (w w' : Vec Ideal S384x32 .f32)
    (s : Vec Ideal S1024x32 .f32) (n : Fin 1024) (o : Fin 32) : Spec.at2 (k0_pay5 x a w w' s) n o
      = Spec.at2 s n o + ((∑ k : Fin 384, Spec.at3 x 0 n k * Spec.at2 w k o)
        + ∑ k : Fin 384, (∑ i : Fin 1024, Spec.at2 a i n * Spec.at3 x 0 i k) * Spec.at2 w' k o) := by
  pointwise [k0_pay5]

/-- The first layer's output. -/
theorem pay6_at (s : Vec Ideal S1024x32 .f32) (b : Vec Ideal S32 .f32) (w : Vec Ideal S1024x32 .f32) (b0 : Vec Ideal S1024 .f32)
    (n k : Fin 1024) : Spec.at2 (k0_pay6 s b w b0) n k
      = Ideal.tanh ((∑ o : Fin 32, (Spec.at2 s n o + ((96 : ℝ) : EReal) * Spec.at1 b o) * Spec.at2 w k o) + Spec.at1 b0 k) := by
  rw [← ofBits_96]
  pointwise [k0_pay6]

/-- A point's number is its coordinate, and a writing point reads 256 rows of the first layer's output. -/
theorem point_at : ∀ t : Fin cfg0.N, (grid0.coords t 0).val = t.val
    ∧ (8 ≤ t.val → k0_off1 (grid0.coords t) 0 = (t.val - 8) * 256 ∧ k0_off1 (grid0.coords t) 1 = 0) := by decide +kernel

/-- The mask's word for a row: its number. -/
theorem row_word (t r : ℕ) (h : 8 ≤ t) : IntOp.addi (Scalar.muli (Scalar.subi (BitVec.ofNat 32 t) 8#32) 256#32) (BitVec.ofNat 32 r)
    = BitVec.ofNat 32 ((t - 8) * 256 + r) := by
  obtain ⟨d, rfl⟩ := Nat.exists_eq_add_of_le h
  have e : BitVec.ofNat 32 (8 + d) - 8#32 = BitVec.ofNat 32 d := by
    rw [BitVec.ofNat_add, BitVec.add_comm, BitVec.add_sub_cancel]
  show (BitVec.ofNat 32 (8 + d) - 8#32) * 256#32 + BitVec.ofNat 32 r = _
  rw [e, Nat.add_sub_cancel_left, BitVec.ofNat_add, BitVec.ofNat_mul]

/-- Words of different numbers differ. -/
theorem word_inj (p q : Fin 1024) : BitVec.ofNat 32 p.val = BitVec.ofNat 32 q.val ↔ p = q := by
  constructor
  · intro h
    have := congrArg BitVec.toNat h
    rw [BitVec.toNat_ofNat, BitVec.toNat_ofNat, Nat.mod_eq_of_lt (by omega), Nat.mod_eq_of_lt (by omega)] at this
    exact Fin.ext this
  · rintro rfl; rfl

/-- The mask: one at the first maximum, off the diagonal. -/
theorem mask_at (k j n : Fin 1024) : Scalar.select (IntOp.andi (IntOp.cmpi .eq (BitVec.ofNat 32 k.val) (BitVec.ofNat 32 j.val))
    (IntOp.cmpi .ne (BitVec.ofNat 32 k.val) (BitVec.ofNat 32 n.val))) (1 : EReal) 0 = if k = j ∧ k ≠ n then 1 else 0 := by
  have e : ∀ q : Fin 1024, (BitVec.ofNat 32 k.val == BitVec.ofNat 32 q.val) = decide (k = q) := fun q => by
    rw [Bool.eq_iff_iff, beq_iff_eq, decide_eq_true_eq, word_inj]
  have e1 : IntOp.cmpi .eq (BitVec.ofNat 32 k.val) (BitVec.ofNat 32 j.val) = BitVec.ofBool (decide (k = j)) :=
    congrArg BitVec.ofBool (e j)
  have e2 : IntOp.cmpi .ne (BitVec.ofNat 32 k.val) (BitVec.ofNat 32 n.val) = BitVec.ofBool (!decide (k = n)) :=
    congrArg (fun b => BitVec.ofBool (!b)) (e n)
  rw [e1, e2]
  by_cases h1 : k = j
  · by_cases h2 : k = n
    · rw [if_neg (fun h => h.2 h2), decide_eq_true h1, decide_eq_true h2]; rfl
    · rw [if_pos ⟨h1, h2⟩, decide_eq_true h1, decide_eq_false h2]; rfl
  · rw [if_neg (fun h => h1 h.1), decide_eq_false h1]
    generalize decide (k = n) = b
    cases b <;> rfl

set_option maxHeartbeats 4000000 in
/-- A writing point's block: one at the first maximum of the third layer's output and the noise, off the diagonal. -/
theorem outBlock_at (t : Fin cfg0.N) (ht : 8 ≤ t.val) (c4 : Body.isOut (grid0.coords t)) (x9 : Vec Ideal S2048 .f32) (x11 : Vec Ideal S1024 .f32)
    (x12 : Vec Ideal S256x1024 .f32) (x16 : Vec Ideal S1024x1024 .bf16) (x17 : Vec Ideal S2048x1024 .bf16) (x18 : Vec Ideal S1024x2048 .bf16)
    (r : Fin 256) (n k j : Fin 1024) (hn : n.val = (t.val - 8) * 256 + r.val) (A : Fin 1024 → EReal)
    (hA : ∀ x, Ideal.tanh ((∑ y : Fin 2048, Ideal.tanh ((∑ l : Fin 1024, Spec.at2 x16 n l * Spec.at2 x17 y l) + Spec.at1 x9 y) * Spec.at2 x18 x y)
      + Spec.at1 x11 x) + Spec.at2 x12 r x = A x) (hF : First A j) :
    Spec.at2 (Body.outBlock (grid0.coords t) c4 x9 x11 x12 x16 x17 x18) r k = if k = j ∧ k ≠ n then (1 : EReal) else 0 := by
  obtain ⟨et, eo⟩ := point_at t
  obtain ⟨e0, e1⟩ := eo ht
  have i0 : ∀ p, (⟨k0_off1 (grid0.coords t) 0 + r.val, p⟩ : Fin 1024) = n := fun p => Fin.ext ((congrArg (· + r.val) e0).trans hn.symm)
  have i1 : ∀ (l : Fin 1024) p, (⟨k0_off1 (grid0.coords t) 1 + l.val, p⟩ : Fin 1024) = l := fun l p => Fin.ext ((congrArg (· + l.val) e1).trans (Nat.zero_add _))
  rw [← mask_at, ← first_by_min hF, hn, ← row_word t.val r.val ht, ← et, ← ofBits_neg_inf]
  pointwise [Body.outBlock, k0_pay7, k0_pay8, k0_pay9, k0_pay10]
  simp only [i0, i1, hA]

end Cert.KernelIdeal.Val

end
-- ==== Proof.KernelNoise.lean ====
/- The noise the kernel reads. -/
module

public import proofs.«01_k».proof.Proof.Gen.KernelIdeal.Frame
public import proofs.«01_k».proof.Proof.Spec
public import Idealize.ShloMosaic.Lib.StableHlo.ReadAt
public import Idealize.ShloMosaic.Lib.Pointwise

@[expose] public section

set_option maxRecDepth 16384

noncomputable section

namespace Cert.KernelIdeal.Val

open Cert.KernelIdeal Cert.KernelIdeal.Gen
open Idealize.ShloMosaic Idealize.ShloMosaic.TcCoe Idealize.SL.Sem

/-- The last line of host operations makes Gumbel noise of uniform numbers. -/
theorem gumbel_line (X : Valuation τ sig (Elt Ideal)) (n i : Fin 1024) :
    Spec.at2 (StableHlo.after hostOps0_2 X (Proc.devRef .tc main_v28)) n i = Spec.gumbel (Spec.at2 (X (Proc.devRef .tc main_v20)) n i) := by
  unfold Spec.gumbel
  after_reads_at

/-- Three lines of operations one after the other. -/
theorem after_three (a b d : List (HloOp τ sig (Elt Ideal))) (X : Valuation τ sig (Elt Ideal)) :
    StableHlo.after (List.flatten [a, b, d]) X = StableHlo.after d (StableHlo.after (a ++ b) X) := by
  simp only [List.flatten_cons, List.flatten_nil, List.append_nil, StableHlo.after_append]

/-- The noise the kernel reads, of the uniform numbers the host draws. -/
theorem noise_at (m : (ℓ : Loc nD τ sig) → Buf (Elt Ideal) ℓ) (c : Dev nD) (n i : Fin 1024) : Spec.at2 (V m c main_v28) n i
    = Spec.gumbel (Spec.at2 (StableHlo.after (hostOps0 ++ hostOps0_1) (fun b => m (c, b)) (Proc.devRef .tc main_v20)) n i) := by
  unfold V
  rw [after_three]
  exact gumbel_line _ n i

end Cert.KernelIdeal.Val

end
-- ==== Proof.Sums.lean ====
/- The convolution's sum in the kernel's order and in the reference's order: equal, by exchanging finite sums. -/
module

public import Mathlib.Data.EReal.Operations
public import Mathlib.Data.EReal.Inv
public import Mathlib.Algebra.BigOperators.Fin

@[expose] public section

noncomputable section

namespace Cert.Sums

/-- A sum over channel and time, flattened. -/
theorem sum_flat {M : Type} [AddCommMonoid M] (G : Fin 32 → Fin 12 → M) :
    ∑ k : Fin 384, G ⟨k.val / 12, by omega⟩ ⟨k.val % 12, by omega⟩ = ∑ c : Fin 32, ∑ t : Fin 12, G c t := by
  rw [← Fintype.sum_prod_type' G]
  exact Fintype.sum_equiv (finProdFinEquiv (m := 32) (n := 12)).symm _ _ fun k => rfl

/-- Ninety-six times an extended real is the sum of its copies over time and batch. -/
theorem copies (b : EReal) : ((96 : ℝ) : EReal) * b = ∑ _t : Fin 12, ∑ _b : Fin 8, b := by
  simp only [Finset.sum_const, Finset.card_univ, Fintype.card_fin, ← mul_nsmul, EReal.nsmul_eq_mul]
  have h : ((96 : ℝ) : EReal) = ((12 : ℕ) : EReal) * ((8 : ℕ) : EReal) := by
    rw [← EReal.coe_natCast, ← EReal.coe_natCast, ← EReal.coe_mul]
    norm_num
  rw [h]
  exact mul_assoc _ _ _

/-- The kernel adds, batch by batch, the flattened products with the two halves of the weights, and ninety-six biases at
    the end; the reference adds the bias to every entry before it adds over batch and time. -/
theorem conv_eq (x y : Fin 8 → Fin 32 → Fin 12 → EReal) (w w' : Fin 32 → EReal) (b : EReal) :
    (∑ i : Fin 8, ((∑ k : Fin 384, x i ⟨k.val / 12, by omega⟩ ⟨k.val % 12, by omega⟩ * w ⟨k.val / 12, by omega⟩)
        + ∑ k : Fin 384, y i ⟨k.val / 12, by omega⟩ ⟨k.val % 12, by omega⟩ * w' ⟨k.val / 12, by omega⟩)) + ((96 : ℝ) : EReal) * b
      = ∑ t : Fin 12, ∑ i : Fin 8, ((∑ c : Fin 32, w c * x i c t) + (∑ c : Fin 32, w' c * y i c t) + b) := by
  rw [copies]
  simp only [Finset.sum_add_distrib]
  refine congrArg (· + _) ?_
  refine congrArg₂ (· + ·) ?_ ?_
  · rw [Finset.sum_comm (s := (Finset.univ : Finset (Fin 12)))]
    refine Finset.sum_congr rfl fun i _ => ?_
    rw [sum_flat fun c t => x i c t * w c, Finset.sum_comm]
    exact Finset.sum_congr rfl fun t _ => Finset.sum_congr rfl fun c _ => EReal.mul_comm _ _
  · rw [Finset.sum_comm (s := (Finset.univ : Finset (Fin 12)))]
    refine Finset.sum_congr rfl fun i _ => ?_
    rw [sum_flat fun c t => y i c t * w' c, Finset.sum_comm]
    exact Finset.sum_congr rfl fun t _ => Finset.sum_congr rfl fun c _ => EReal.mul_comm _ _

end Cert.Sums

end
-- ==== Proof.KernelValue.lean ====
/- What the idealised kernel leaves in its result. -/
module

public import proofs.«01_k».proof.Proof.KernelBlocks
public import proofs.«01_k».proof.Proof.KernelBody
public import proofs.«01_k».proof.Proof.KernelNoise
public import proofs.«01_k».proof.Proof.Sums

@[expose] public section

set_option maxRecDepth 16384

noncomputable section

namespace Cert.KernelIdeal.Val

open Cert.KernelIdeal Cert.KernelIdeal.Gen Cert.KernelIdeal.Run
open Idealize.ShloMosaic Idealize.ShloMosaic.TcCoe Idealize.SL.Sem
open Cert.Row

variable (m : (ℓ : Loc nD τ sig) → Buf (Elt Ideal) ℓ) (c : Dev nD)

/-- A batch's contribution to node `n`, channel `o`. -/
def batch (b : Fin 8) (n : Fin 1024) (o : Fin 32) : EReal :=
  (∑ k : Fin 384, Spec.at3 (V m c main_v2) b n k * Spec.at2 (V m c main_v7) k o)
    + ∑ k : Fin 384, (∑ i : Fin 1024, Spec.at2 (m (c, Proc.devRef .tc main_arg1)) i n * Spec.at3 (V m c main_v2) b i k)
      * Spec.at2 (V m c main_v12) k o

/-- What the body adds at an accumulating point. -/
theorem step_at (t : Fin cfg0.N) (h : t.val < 8) (s : Vec Ideal S1024x32 .f32) (n : Fin 1024) (o : Fin 32) :
    Spec.at2 (k0_pay5 (iblk m c 0 t) (adjB m c) (iblk m c 2 t) (iblk m c 3 t) s) n o = Spec.at2 s n o + batch m c ⟨t.val, h⟩ n o := by
  rw [pay5_at, batch]
  have ha : ∀ i j, Spec.at2 (adjB m c) i j = Spec.at2 (m (c, Proc.devRef .tc main_arg1)) i j := fun i j => by
    rw [adjB, pay2_at, blk1]
  have e0 := blk0 m c t h
  have e2 := blk2 m c t
  have e3 := blk3 m c t
  refine congrArg₂ (· + ·) rfl (congrArg₂ (· + ·) ?_ ?_)
  · exact Finset.sum_congr rfl fun k _ => congrArg₂ (· * ·) (e0 n k) (e2 k o)
  · exact Finset.sum_congr rfl fun k _ => congrArg₂ (· * ·)
      (Finset.sum_congr rfl fun i _ => congrArg₂ (· * ·) (ha i n) (e0 i k)) (e3 k o)

/-- The accumulator after point `k`: the batches up to it. -/
theorem acc_at (k : ℕ) (h : k < 8) (n : Fin 1024) (o : Fin 32) :
    Spec.at2 (acc m c k) n o = ∑ b : Fin (k + 1), batch m c ⟨b.val, by omega⟩ n o := by
  induction k with
  | zero =>
    refine (congrArg (fun s : Vec Ideal S1024x32 .f32 => Spec.at2 s n o) (acc_first m c (pt 0 (by decide)) rfl)).trans ?_
    refine (step_at m c (pt 0 (by decide)) (by decide) _ n o).trans ?_
    rw [Fin.sum_univ_one, pay1_at, zero_add]
    rfl
  | succ k ih =>
    refine (congrArg (fun s : Vec Ideal S1024x32 .f32 => Spec.at2 s n o) (acc_step m c (pt (k + 1) (by omega)) (Nat.succ_ne_zero k) h)).trans ?_
    refine (step_at m c (pt (k + 1) (by omega)) h _ n o).trans ?_
    rw [Fin.sum_univ_castSucc]
    exact congrArg (· + _) (ih (by omega))

/-- The convolution summed over batch and time, of the arguments. -/
abbrev convOf (n : Fin 1024) (o : Fin 32) : EReal :=
  Spec.conv (Spec.at4 (m (c, Proc.devRef .tc main_arg0))) (Spec.at2 (m (c, Proc.devRef .tc main_arg1)))
    (Spec.at2 (m (c, Proc.devRef .tc main_arg2))) (Spec.at1 (m (c, Proc.devRef .tc main_arg3))) n o

/-- All the batches and ninety-six biases are the convolution's sum. -/
theorem conv_at (n : Fin 1024) (o : Fin 32) : (∑ b : Fin 8, batch m c b n o)
    + ((96 : ℝ) : EReal) * Spec.at1 (m (c, Proc.devRef .tc main_arg3)) o = convOf m c n o := by
  refine Eq.trans ?_ (Sums.conv_eq (fun b ch t => Spec.at4 (m (c, Proc.devRef .tc main_arg0)) b ch n t)
    (fun b ch t => ∑ i : Fin 1024, Spec.at2 (m (c, Proc.devRef .tc main_arg1)) i n * Spec.at4 (m (c, Proc.devRef .tc main_arg0)) b ch i t)
    (fun ch => Spec.at2 (m (c, Proc.devRef .tc main_arg2)) o ⟨ch.val, by omega⟩)
    (fun ch => Spec.at2 (m (c, Proc.devRef .tc main_arg2)) o ⟨32 + ch.val, by omega⟩) (Spec.at1 (m (c, Proc.devRef .tc main_arg3)) o))
  refine congrArg (· + _) (Finset.sum_congr rfl fun b _ => ?_)
  rw [batch]
  refine congrArg₂ (· + ·) ?_ ?_
  · exact Finset.sum_congr rfl fun k _ => congrArg₂ (· * ·) (feat_at m c b n k) (own_at m c k o)
  · exact Finset.sum_congr rfl fun k _ => congrArg₂ (· * ·)
      (Finset.sum_congr rfl fun i _ => congrArg₂ (· * ·) rfl (feat_at m c b i k)) (nbr_at m c k o)

/-- The first layer's output. -/
theorem z1_entry (n k : Fin 1024) : Spec.at2 (z1 m c) n k
    = Ideal.tanh ((∑ o : Fin 32, convOf m c n o * Spec.at2 (m (c, Proc.devRef .tc main_arg4)) k o) + Spec.at1 (m (c, Proc.devRef .tc main_arg5)) k) := by
  rw [z1, pay6_at]
  refine congrArg Ideal.tanh (congrArg₂ (· + ·) (Finset.sum_congr rfl fun o _ => congrArg₂ (· * ·) ?_ (blk4 m c _ k o)) (blk5 m c _ k))
  refine Eq.trans ?_ (conv_at m c n o)
  exact congrArg₂ (· + ·) (acc_at m c 7 (by decide) n o) (congrArg (((96 : ℝ) : EReal) * ·) (blk6 m c _ o))

/-- The third layer's output at node `n`, entry `i`, of the arguments. -/
def zOf (n i : Fin 1024) : EReal :=
  Spec.layers (Spec.at2 (m (c, Proc.devRef .tc main_arg4))) (Spec.at1 (m (c, Proc.devRef .tc main_arg5)))
    (Spec.at2 (m (c, Proc.devRef .tc main_arg6))) (Spec.at1 (m (c, Proc.devRef .tc main_arg7)))
    (Spec.at2 (m (c, Proc.devRef .tc main_arg8))) (Spec.at1 (m (c, Proc.devRef .tc main_arg9))) (fun o => convOf m c n o) i

/-- The uniform numbers the host draws. -/
def uOf (n i : Fin 1024) : EReal :=
  Spec.at2 (StableHlo.after (hostOps0 ++ hostOps0_1) (fun b => m (c, b)) (Proc.devRef .tc main_v20)) n i

/-- A writing point's block: one at the first maximum of the third layer's output and the noise, off the diagonal. -/
theorem out_entry (t : Fin cfg0.N) (ht : 8 ≤ t.val) (r : Fin 256) (n k j : Fin 1024) (hn : n.val = (t.val - 8) * 256 + r.val)
    (h : First (fun x => zOf m c n x + Spec.gumbel (uOf m c n x)) j) :
    Spec.at2 (outAt m c t) r k = if k = j ∧ k ≠ n then (1 : EReal) else 0 := by
  rw [outAt, dif_pos ((isOut_iff t).mpr ht)]
  refine outBlock_at t ht _ _ _ _ _ _ _ r n k j hn _ (fun x => ?_) h
  have e1 : ∀ j k, Spec.at2 (w1B m c) j k = Spec.at2 (m (c, Proc.devRef .tc main_arg6)) j k := fun j k => by rw [w1B, pay3_at, blk7]
  have e2 : ∀ i j, Spec.at2 (w2B m c) i j = Spec.at2 (m (c, Proc.devRef .tc main_arg8)) i j := fun i j => by rw [w2B, pay4_at, blk9]
  have hr : (⟨(t.val - 8) * 256 + r.val, row_lt t ht r⟩ : Fin 1024) = n := Fin.ext hn.symm
  refine congrArg₂ (· + ·) (congrArg Ideal.tanh (congrArg₂ (· + ·) (Finset.sum_congr rfl fun y _ => congrArg₂ (· * ·)
    (congrArg Ideal.tanh (congrArg₂ (· + ·) (Finset.sum_congr rfl fun l _ => congrArg₂ (· * ·) (z1_entry m c n l) (e1 y l)) (blk8 m c t y)))
    (e2 x y)) (blk10 m c t x))) ?_
  exact (blk11 m c t ht r x).trans (by rw [hr]; exact noise_at m c n x)

/-- The result: at row `n` one at the first maximum `J n` of that row, off the diagonal. -/
def result (J : Fin 1024 → Fin 1024) : S1024x1024.Idx → EReal := fun y =>
  let n : Fin 1024 := y 0
  let k : Fin 1024 := y 1
  if k = J n ∧ k ≠ n then 1 else 0

/-- What the launch leaves in the result's array. -/
theorem final_eq (J : Fin 1024 → Fin 1024) (h : ∀ n, First (fun x => zOf m c n x + Spec.gumbel (uOf m c n x)) (J n)) :
    (dats m 0 c).arrAt 12 (cfgs 0).N = result J := by
  refine (dats m 0 c).arrAt_eq_of_covers 12 _ (by decide +kernel) fun t hf y => ?_
  blk_simp
  rw [after_out]
  have ht : 8 ≤ t.val := by
    by_contra hlt
    rw [noflush_before t (not_le.mp hlt)] at hf
    exact Bool.false_ne_true hf
  obtain ⟨r, k, rfl⟩ : ∃ (r : Fin 256) (k : Fin 1024), y = ix2 r k := ⟨y 0, y 1, by ext a; fin_cases a <;> rfl⟩
  have e := (idx t).2.2.2.2.2.2.2.2.2.2.2.2 ht
  have hy : (win0_12.blk t).view.emb (ix2 r k) = ix2 ⟨(t.val - 8) * 256 + r.val, row_lt t ht r⟩ k := by blk_ext [e]
  rw [hy]
  exact out_entry m c t ht r _ k _ rfl (h _)

end Cert.KernelIdeal.Val

end
-- ==== Proof.RefArgmax.lean ====
/- The reference's search for a row's largest entry ends at its first maximum. -/
module

public import proofs.«01_k».proof.Proof.RefRun
public import proofs.«01_k».proof.Proof.Reals
public import Idealize.ShloMosaic.Lib.StableHlo.ReadAt
public import Idealize.ShloMosaic.Lib.Pointwise

@[expose] public section

set_option maxRecDepth 16384

noncomputable section

namespace Cert.ReferenceIdeal.Ref

open Cert.ReferenceIdeal.Gen
open Idealize.ShloMosaic Idealize.ShloMosaic.TcCoe Idealize.SL.Sem
open Cert.Row Cert.Reals

/-- The reference's search keeps one of its two pairs, no worse than the other. -/
theorem reducer_best (a b : EReal × BitVec 32) :
    (reducer_argmax_f32_i32 (F := Ideal) a b = a ∨ reducer_argmax_f32_i32 (F := Ideal) a b = b)
      ∧ Best (reducer_argmax_f32_i32 (F := Ideal) a b) a ∧ Best (reducer_argmax_f32_i32 (F := Ideal) a b) b := by
  obtain ⟨a, i⟩ := a
  obtain ⟨b, j⟩ := b
  have key : reducer_argmax_f32_i32 (F := Ideal) (a, i) (b, j)
      = if b < a ∨ (a = b ∧ i.toInt < j.toInt) then (a, i) else (b, j) := by
    simp only [reducer_argmax_f32_i32, Ideal.cmpf_def, Ideal.cmp, IntOp.cmpi]
    rcases lt_trichotomy b a with h | h | h
    · simp [h, h.ne', Scalar.select, IntOp.ori, IntOp.andi]
    · subst h
      by_cases hij : i.toInt < j.toInt
      · simp [Scalar.select, IntOp.ori, IntOp.andi, hij, BitVec.slt_iff_toInt_lt.mpr hij]
      · have : i.slt j = false := by
          rw [Bool.eq_false_iff]; exact fun h => hij (BitVec.slt_iff_toInt_lt.mp h)
        simp [Scalar.select, IntOp.ori, IntOp.andi, hij, this]
    · simp [h.not_gt, h.ne, Scalar.select, IntOp.ori, IntOp.andi]
  rw [key]
  split
  · rename_i h
    refine ⟨Or.inl rfl, Or.inr ⟨rfl, le_rfl⟩, ?_⟩
    rcases h with h | ⟨h, h'⟩
    · exact Or.inl h
    · exact Or.inr ⟨h.symm, h'.le⟩
  · rename_i h
    refine ⟨Or.inr rfl, ?_, Or.inr ⟨rfl, le_rfl⟩⟩
    rw [not_or, not_and, not_lt] at h
    rcases lt_or_eq_of_le h.1 with h' | h'
    · exact Or.inl h'
    · exact Or.inr ⟨h', not_lt.mp (h.2 h')⟩

/-- The reference's search over a row of entries none of which is negative infinity ends at the row's first maximum. -/
theorem argmax_at (y : S1024x1024.Idx → EReal) (n : Fin 1024) (hy : ∀ i, y (ix2 n i) ≠ ⊥) {j : Fin 1024} (h : First (fun i => y (ix2 n i)) j) :
    (Host.argReduce (F := Ideal) (φ := .f32) reducer_argmax_f32_i32 y (iotaInDim S1024x1024 32 1)
      (constant S_ FTy.f32 4286578688#32) (constantI S_ 32 0#32) reducesTo_S1024x1024_S1024_d1 h_S_ (ix1 n)).2 = BitVec.ofNat 32 j.val := by
  rw [Ideal.argReduce_eq_reduce2, Host.reduce2_eq_foldl_fiber]
  have e0 : (constant S_ FTy.f32 4286578688#32 : FVec Ideal S_ .f32) (Shape.Idx.first h_S_) = (⊥ : EReal) := ofBits_neg_inf
  rw [e0]
  refine first_by_fold _ reducer_best (y := fun i => y (ix2 n i)) hy h _ (fun p => ?_) _
  unfold Host.argReduceFiber
  rw [List.mem_map]
  constructor
  · rintro ⟨k, hk, rfl⟩
    rw [List.mem_filter, decide_eq_true_eq] at hk
    obtain ⟨i, hi⟩ := (reducesTo_S1024x1024_S1024_d1.fiber_r2_a1 _ _).mp hk.2
    refine ⟨i, ?_⟩
    rw [← hi]
    rfl
  · rintro ⟨i, rfl⟩
    refine ⟨S1024x1024.rowMajor (ix2 n i), ?_, ?_⟩
    · rw [List.mem_filter, decide_eq_true_eq, Equiv.symm_apply_apply]
      exact ⟨List.mem_finRange _, (reducesTo_S1024x1024_S1024_d1.fiber_r2_a1 _ _).mpr ⟨i, rfl⟩⟩
    · rw [Equiv.symm_apply_apply]
      rfl

/-- Two column numbers as words are equal exactly when the columns are. -/
theorem cmpi_col (p q : Fin 1024) : IntOp.cmpi .eq (BitVec.ofNat 32 p.val) (BitVec.ofNat 32 q.val) = BitVec.ofBool (decide (p = q)) := by
  have : (BitVec.ofNat 32 p.val == BitVec.ofNat 32 q.val) = decide (p = q) := by
    rw [Bool.eq_iff_iff, beq_iff_eq, decide_eq_true_eq]
    refine ⟨fun e => Fin.ext ?_, fun e => e ▸ rfl⟩
    have := congrArg BitVec.toNat e
    simp only [BitVec.toNat_ofNat] at this
    omega
  exact congrArg BitVec.ofBool this

/-- A one-hot entry, less a real and plus it again, is itself; on the diagonal zero is put in its place. -/
theorem straight_through (n i j : Fin 1024) (y : ℝ) :
    Scalar.select (IntOp.cmpi CmpIPredicate.eq (IntOp.addi (BitVec.ofNat 32 n.val) 0#32) (BitVec.ofNat 32 i.val)) (0 : EReal)
      ((FloatOps.uitofp (F := Ideal) FTy.f32 (IntOp.cmpi CmpIPredicate.eq (BitVec.ofNat 32 j.val) (BitVec.ofNat 32 i.val)) : EReal)
        - (y : EReal) + (y : EReal)) = if i = j ∧ i ≠ n then (1 : EReal) else 0 := by
  have h0 : IntOp.addi (BitVec.ofNat 32 n.val) 0#32 = BitVec.ofNat 32 n.val := BitVec.add_zero _
  rw [h0, cmpi_col, cmpi_col]
  have hu : (FloatOps.uitofp (F := Ideal) FTy.f32 (BitVec.ofBool (decide (j = i))) : EReal)
      = (((if i = j then 1 else 0 : ℝ)) : EReal) := by
    show (((BitVec.ofBool (decide (j = i))).toNat : ℝ) : EReal) = _
    by_cases h : i = j
    · simp [h]
    · simp [h, Ne.symm h]
  rw [hu, ← EReal.coe_sub, ← EReal.coe_add, sub_add_cancel]
  by_cases hn : n = i
  · subst hn; simp [Scalar.select]
  · by_cases hi : i = j
    · subst hi; simp [Scalar.select, hn, Ne.symm hn]
    · simp [Scalar.select, hn, hi]

end Cert.ReferenceIdeal.Ref

end
-- ==== Proof.RefValue.lean ====
/- What the reference's operations leave, read at an index. -/
module

public import proofs.«01_k».proof.Proof.RefRun
public import proofs.«01_k».proof.Proof.Spec
public import proofs.«01_k».proof.Proof.RefArgmax
public import Idealize.ShloMosaic.Lib.StableHlo.ReadAt
public import Idealize.ShloMosaic.Lib.Pointwise

@[expose] public section

set_option maxRecDepth 16384

noncomputable section

namespace Cert.ReferenceIdeal.Ref

open Cert.ReferenceIdeal.Gen
open Idealize.ShloMosaic Idealize.ShloMosaic.TcCoe Idealize.SL.Sem
open Cert.Row Cert.Reals

/-- The third layer's output at node `n`, entry `i`, of the reference's arguments in the contents `V`. -/
def zOf (V : Valuation τ sig (Elt Ideal)) (n i : Fin 1024) : EReal :=
  Spec.layers (Spec.at2 (V (Proc.devRef .tc main_arg4))) (Spec.at1 (V (Proc.devRef .tc main_arg5)))
    (Spec.at2 (V (Proc.devRef .tc main_arg6))) (Spec.at1 (V (Proc.devRef .tc main_arg7)))
    (Spec.at2 (V (Proc.devRef .tc main_arg8))) (Spec.at1 (V (Proc.devRef .tc main_arg9)))
    (fun o => Spec.conv (Spec.at4 (V (Proc.devRef .tc main_arg0))) (Spec.at2 (V (Proc.devRef .tc main_arg1)))
      (Spec.at2 (V (Proc.devRef .tc main_arg2))) (Spec.at1 (V (Proc.devRef .tc main_arg3))) n o) i

set_option maxHeartbeats 4000000 in
/-- A node's neighbours' sum. -/
theorem neighbour_at (V : Valuation τ sig (Elt Ideal)) (b : Fin 8) (c : Fin 32) (n : Fin 1024) (t : Fin 12) :
    Spec.at4 (StableHlo.after neighbourOps V (Proc.devRef .tc main_v1)) b c n t
      = ∑ m : Fin 1024, Spec.at2 (V (Proc.devRef .tc main_arg1)) m n * Spec.at4 (V (Proc.devRef .tc main_arg0)) b c m t := by
  after_reads_at

/-- The neighbours' sum writes no argument. -/
theorem neighbour_args (V : Valuation τ sig (Elt Ideal)) :
    StableHlo.after neighbourOps V (Proc.devRef .tc main_arg0) = V (Proc.devRef .tc main_arg0)
    ∧ StableHlo.after neighbourOps V (Proc.devRef .tc main_arg2) = V (Proc.devRef .tc main_arg2)
    ∧ StableHlo.after neighbourOps V (Proc.devRef .tc main_arg3) = V (Proc.devRef .tc main_arg3)
    ∧ StableHlo.after neighbourOps V (Proc.devRef .tc main_arg4) = V (Proc.devRef .tc main_arg4)
    ∧ StableHlo.after neighbourOps V (Proc.devRef .tc main_arg5) = V (Proc.devRef .tc main_arg5)
    ∧ StableHlo.after neighbourOps V (Proc.devRef .tc main_arg6) = V (Proc.devRef .tc main_arg6)
    ∧ StableHlo.after neighbourOps V (Proc.devRef .tc main_arg7) = V (Proc.devRef .tc main_arg7)
    ∧ StableHlo.after neighbourOps V (Proc.devRef .tc main_arg8) = V (Proc.devRef .tc main_arg8)
    ∧ StableHlo.after neighbourOps V (Proc.devRef .tc main_arg9) = V (Proc.devRef .tc main_arg9) := by
  refine ⟨?_, ?_, ?_, ?_, ?_, ?_, ?_, ?_, ?_⟩ <;> after_reads_simp

set_option maxHeartbeats 4000000 in
/-- The three layers after the neighbours' sum. -/
theorem layers_at (V : Valuation τ sig (Elt Ideal)) (n i : Fin 1024) :
    Spec.at2 (StableHlo.after layersOps (StableHlo.after neighbourOps V) (Proc.devRef .tc main_v28)) n i
      = zOf V n i := by
  obtain ⟨h0, h2, h3, h4, h5, h6, h7, h8, h9⟩ := neighbour_args V
  have hn := neighbour_at V
  generalize StableHlo.after neighbourOps V = W at h0 h2 h3 h4 h5 h6 h7 h8 h9 hn ⊢
  after_reads_at
  simp only [StableHlo.upto_zero]
  rw [h0, h2, h3, h4, h5, h6, h7, h8, h9]
  simp only [hn]
  rfl

set_option maxHeartbeats 4000000 in
/-- The logarithm of the softmax, of real entries: the entries less one real number a row. -/
theorem soft_at (V : Valuation τ sig (Elt Ideal)) (n : Fin 1024) (z : Fin 1024 → ℝ)
    (hz : ∀ i, Spec.at2 (V (Proc.devRef .tc main_v28)) n i = ((z i : ℝ) : EReal)) :
    ∃ c : ℝ, ∀ i, Spec.at2 (StableHlo.after softOps V (Proc.devRef .tc main_v29)) n i
      = ((z i - c : ℝ) : EReal) := by
  obtain ⟨c, hc⟩ := log_softmax z
  refine ⟨c, fun i => ?_⟩
  after_reads_at
  rw [← hc i, ofBits_neg_inf]
  simp only [hz]

set_option maxHeartbeats 4000000 in
/-- Drawing the noise leaves the logits. -/
theorem draw_keeps (V : Valuation τ sig (Elt Ideal)) :
    StableHlo.after (keyOps ++ (wordOps ++ unitOps)) V (Proc.devRef .tc main_v29) = V (Proc.devRef .tc main_v29) := by
  after_reads_simp

set_option maxHeartbeats 4000000 in
/-- The softmax of twice the logits and the noise, of real entries: real entries, in the strict order of logit and noise together. -/
theorem gumbel_at (V : Valuation τ sig (Elt Ideal)) (n : Fin 1024) (l g : Fin 1024 → ℝ)
    (hl : ∀ i, Spec.at2 (V (Proc.devRef .tc main_v29)) n i = ((l i : ℝ) : EReal))
    (hg : ∀ i, Spec.gumbel (Spec.at2 (V (Proc.devRef .tc main_v37)) n i) = ((g i : ℝ) : EReal)) :
    ∃ y : Fin 1024 → ℝ, (∀ a b, y a < y b ↔ l a + g a < l b + g b) ∧ ∀ i,
      Spec.at2 (StableHlo.after gumbelOps V (Proc.devRef .tc main_v59)) n i = ((y i : ℝ) : EReal) := by
  obtain ⟨y, hy, e⟩ := softmax fun i => (l i + g i) / (1 / 2)
  refine ⟨y, fun a b => (hy a b).trans (div_lt_div_iff_of_pos_right (by norm_num)), fun i => ?_⟩
  have hd : ∀ x, Ideal.div (Spec.at2 (V (Proc.devRef .tc main_v29)) n x
      + -Ideal.log (-Ideal.log (Spec.at2 (V (Proc.devRef .tc main_v37)) n x
          + Ideal.ofBits .f32 786163455#32) + Ideal.ofBits .f32 786163455#32)) (Ideal.ofBits .f32 1056964608#32)
      = (((l x + g x) / (1 / 2) : ℝ) : EReal) := fun x => by
    have := hg x
    unfold Spec.gumbel at this
    rw [this, hl, ofBits_half, ← EReal.coe_add, div_coe _ (by norm_num)]
  after_reads_at
  rw [← e i, ofBits_neg_inf]
  simp only [hd]

set_option maxHeartbeats 4000000 in
/-- The straight-through rows: one at the first maximum of the softmax's row unless that is on the diagonal, zero elsewhere. -/
theorem tail_at (V : Valuation τ sig (Elt Ideal)) (n i : Fin 1024) (y : Fin 1024 → ℝ)
    (hy : ∀ i, Spec.at2 (V (Proc.devRef .tc main_v59)) n i = ((y i : ℝ) : EReal))
    {j : Fin 1024} (h : First (fun i => ((y i : ℝ) : EReal)) j) :
    Spec.at2 (StableHlo.after (argmaxOps ++ (onehotOps ++ (gapOps ++ whereOps))) V (Proc.devRef .tc main_v69)) n i = if i = j ∧ i ≠ n then (1 : EReal) else 0 := by
  simp only [Spec.at2] at hy ⊢
  have ha := argmax_at (V (Proc.devRef .tc main_v59)) n (fun i => by rw [hy]; exact EReal.coe_ne_bot _) (j := j)
    (by simpa only [hy] using h)
  after_reads_at
  rw [ha, hy]
  exact straight_through n i j (y i)

end Cert.ReferenceIdeal.Ref

end
-- ==== Proof.Noise.lean ====
/- The noise: the two programs draw the same random words, which denote numbers of the unit interval bounded away from one. -/
module

public import proofs.«01_k».proof.Proof.RefRun
public import proofs.«01_k».proof.Proof.Gen.KernelIdeal.Launch
public import proofs.«01_k».proof.Proof.Reals
public import proofs.«01_k».proof.Proof.Spec
public import Idealize.ShloMosaic.Lib.StableHlo.ReadAt
public import Idealize.ShloMosaic.Lib.Pointwise

@[expose] public section

set_option maxRecDepth 16384

noncomputable section

namespace Cert.Noise

open Idealize.ShloMosaic Idealize.ShloMosaic.TcCoe Idealize.SL.Sem
open Cert.ReferenceIdeal.Ref (keyOps wordOps unitOps)

variable {F : FTy → Type} [FloatOps F]

set_option maxHeartbeats 4000000 in
/-- The uniform noise is drawn by the same operations in both programs, from nothing but constants. -/
theorem uniform_eq (V : Valuation Cert.ReferenceIdeal.τ Cert.ReferenceIdeal.sig (Elt F))
    (W : Valuation Cert.KernelIdeal.τ Cert.KernelIdeal.sig (Elt F)) :
    (StableHlo.after (keyOps ++ (wordOps ++ unitOps)) V (Proc.devRef .tc Cert.ReferenceIdeal.main_v37) :
        (⟨Cert.ReferenceIdeal.S1024x1024, .f32⟩ : BufTy).Contents (Elt F))
      = (StableHlo.after (Cert.KernelIdeal.Gen.hostOps0 ++ Cert.KernelIdeal.Gen.hostOps0_1) W (Proc.devRef .tc Cert.KernelIdeal.main_v20) :
        (⟨Cert.ReferenceIdeal.S1024x1024, .f32⟩ : BufTy).Contents (Elt F)) := by
  after_reads_simp
  try simp -implicitDefEqProofs only [StableHlo.TRef.toBuf, StableHlo.TRef.ofBuf, cast_cast, cast_eq]
  rfl

set_option maxHeartbeats 4000000 in
/-- The noise's lower bound is zero. -/
theorem lo_at (V : Valuation Cert.ReferenceIdeal.τ Cert.ReferenceIdeal.sig (Elt Ideal)) :
    Spec.at2 (StableHlo.after (keyOps ++ wordOps) V (Proc.devRef .tc Cert.ReferenceIdeal.main_call1_v2)) 0 0 = 0 := by
  after_reads_at
  simp only [id]
  pointwise

set_option maxHeartbeats 4000000 in
/-- The noise's upper bound is one. -/
theorem hi_at (V : Valuation Cert.ReferenceIdeal.τ Cert.ReferenceIdeal.sig (Elt Ideal)) :
    Spec.at2 (StableHlo.after (keyOps ++ wordOps) V (Proc.devRef .tc Cert.ReferenceIdeal.main_call1_v3)) 0 0 = 1 := by
  after_reads_at
  simp only [id]
  pointwise

set_option maxHeartbeats 4000000 in
/-- A random word's number, between bounds of zero and one: a real of the unit interval bounded away from one. -/
theorem unit_at (V : Valuation Cert.ReferenceIdeal.τ Cert.ReferenceIdeal.sig (Elt Ideal))
    (h0 : Spec.at2 (V (Proc.devRef .tc Cert.ReferenceIdeal.main_call1_v2)) 0 0 = 0)
    (h1 : Spec.at2 (V (Proc.devRef .tc Cert.ReferenceIdeal.main_call1_v3)) 0 0 = 1) (n i : Fin 1024) :
    ∃ u : ℝ, 0 ≤ u ∧ u ≤ 1 - 1 / 2 ^ 23 ∧
      Spec.at2 (StableHlo.after unitOps V (Proc.devRef .tc Cert.ReferenceIdeal.main_v37)) n i = (u : EReal) := by
  obtain ⟨r, hr1, hr2, hr⟩ := Reals.ofBits_word
    ((V (Proc.devRef .tc Cert.ReferenceIdeal.main_call1_v20) : Cert.ReferenceIdeal.S1024x1024.Idx → BitVec 32) (ix2 n i))
  refine ⟨r - 1, by linarith, by linarith, ?_⟩
  simp only [Spec.at2] at h0 h1 ⊢
  after_reads_at
  rw [h0, h1, hr, sub_zero, mul_one, add_zero, ← EReal.coe_one, ← EReal.coe_sub]
  exact max_eq_right (by exact_mod_cast (by linarith : (0 : ℝ) ≤ r - 1))

/-- The Gumbel noise is a real everywhere, whatever the buffers held. -/
theorem gumbel_uniform (V : Valuation Cert.ReferenceIdeal.τ Cert.ReferenceIdeal.sig (Elt Ideal)) (n i : Fin 1024) :
    ∃ g : ℝ, Spec.gumbel (Spec.at2 (StableHlo.after (keyOps ++ (wordOps ++ unitOps)) V (Proc.devRef .tc Cert.ReferenceIdeal.main_v37)) n i)
      = (g : EReal) := by
  rw [← List.append_assoc, StableHlo.after_append]
  obtain ⟨u, hu0, hu1, hu⟩ := unit_at _ (lo_at V) (hi_at V) n i
  obtain ⟨g, hg⟩ := Reals.gumbel_real hu0 hu1
  exact ⟨g, by rw [hu]; exact hg⟩

end Cert.Noise

end
-- ==== Proof.RefFinal.lean ====
/- The reference's result: row by row, one at the first maximum of the third layer's output and the noise, off the diagonal. -/
module

public import proofs.«01_k».proof.Proof.RefValue
public import proofs.«01_k».proof.Proof.Noise

@[expose] public section

set_option maxRecDepth 16384

noncomputable section

namespace Cert.ReferenceIdeal.Ref

open Cert.ReferenceIdeal.Gen
open Idealize.ShloMosaic Idealize.ShloMosaic.TcCoe Idealize.SL.Sem
open Cert.Row Cert.Reals

/-- Six lines of operations one after the other. -/
theorem after_six (a b s d g t : List (HloOp τ sig (Elt Ideal))) (V : Valuation τ sig (Elt Ideal)) :
    StableHlo.after (a ++ (b ++ (s ++ (d ++ (g ++ t))))) V
      = StableHlo.after t (StableHlo.after g (StableHlo.after d (StableHlo.after s (StableHlo.after b (StableHlo.after a V))))) := by
  simp only [StableHlo.after_append]

/-- The operations in six lines: neighbours, layers, softmax, noise, softmax with noise, straight-through rows. -/
theorem ops_six : (ops : List (HloOp τ sig (Elt Ideal))) = neighbourOps ++ (layersOps ++ (softOps ++ ((keyOps ++ (wordOps ++ unitOps))
    ++ (gumbelOps ++ (argmaxOps ++ (onehotOps ++ (gapOps ++ whereOps))))))) := by
  unfold ops
  rw [List.append_assoc keyOps (wordOps ++ unitOps), List.append_assoc wordOps unitOps]

/-- The third layer's output is real. -/
theorem zOf_real (V : Valuation τ sig (Elt Ideal)) (n i : Fin 1024) : ∃ z : ℝ, zOf V n i = (z : EReal) := by
  unfold zOf Spec.layers
  exact tanh_real _

/-- The reference's result at row `n`, entry `i`, over uniform numbers `u` of that row. -/
theorem result_at (V : Valuation τ sig (Elt Ideal)) (n i : Fin 1024) (u : Fin 1024 → EReal)
    (hu : ∀ (W : Valuation τ sig (Elt Ideal)) (x : Fin 1024),
      Spec.at2 (StableHlo.after (keyOps ++ (wordOps ++ unitOps)) W (Proc.devRef .tc main_v37)) n x = u x)
    {j : Fin 1024} (h : First (fun x => zOf V n x + Spec.gumbel (u x)) j) :
    Spec.at2 (StableHlo.after ops V (Proc.devRef .tc main_v69)) n i = if i = j ∧ i ≠ n then (1 : EReal) else 0 := by
  rw [ops_six, after_six]
  choose z hz using fun i => zOf_real V n i
  have hz2 := fun i => (layers_at V n i).trans (hz i)
  generalize StableHlo.after layersOps (StableHlo.after neighbourOps V) = V2 at hz2 ⊢
  obtain ⟨c, hc⟩ := soft_at V2 n z hz2
  generalize StableHlo.after softOps V2 = V3 at hc ⊢
  choose g hg using fun i => Noise.gumbel_uniform V3 n i
  have hl : ∀ i, Spec.at2 (StableHlo.after (keyOps ++ (wordOps ++ unitOps)) V3 (Proc.devRef .tc main_v29)) n i = ((z i - c : ℝ) : EReal) := by
    intro i
    rw [draw_keeps]
    exact hc i
  have hgu : ∀ i, Spec.gumbel (u i) = ((g i : ℝ) : EReal) := fun i => by rw [← hu V3 i]; exact hg i
  clear hu
  generalize StableHlo.after (keyOps ++ (wordOps ++ unitOps)) V3 = V4 at hl hg ⊢
  obtain ⟨y, hy, e⟩ := gumbel_at V4 n (fun i => z i - c) g hl hg
  refine tail_at _ n i y e (h.of_lt_iff fun a b => ?_)
  rw [hz, hz, hgu, hgu, ← EReal.coe_add, ← EReal.coe_add, EReal.coe_lt_coe_iff, EReal.coe_lt_coe_iff, hy]
  constructor <;> intro h <;> linarith

end Cert.ReferenceIdeal.Ref

end
-- ==== Proof.Algebraic.lean ====
/- The idealised kernel and the reference end with equal results. -/
module

public import proofs.«01_k».proof.Defs
public import proofs.«01_k».proof.Proof.Gen.KernelIdeal
public import proofs.«01_k».proof.Proof.Gen.ReferenceIdeal
public import proofs.«01_k».proof.Proof.KernelValue
public import proofs.«01_k».proof.Proof.RefFinal
public import proofs.«01_k».proof.Proof.RefFrame

@[expose] public section

set_option maxRecDepth 16384

noncomputable section

namespace Cert.Equal

open Idealize.ShloMosaic Idealize.ShloMosaic.TcCoe Idealize.SL.Sem
open Cert.Row

/-- The idealised kernel's run: the result's rows, and the arguments unchanged. -/
theorem kernel_run (m : (ℓ : Loc Cert.KernelIdeal.nD Cert.KernelIdeal.τ Cert.KernelIdeal.sig) → Buf (Elt Ideal) ℓ)
    (g : Dev Cert.KernelIdeal.nD → PrngReg) (J : Dev Cert.KernelIdeal.nD → Fin 1024 → Fin 1024)
    (h : ∀ c n, First (fun x => Cert.KernelIdeal.Val.zOf m c n x + Spec.gumbel (Cert.KernelIdeal.Val.uOf m c n x)) (J c n)) :
    θ_run (Cert.KernelIdeal.defs (F := Ideal)) (onTc (τ := Cert.KernelIdeal.τ) (Cert.KernelIdeal.main (F := Ideal))) ⟨m, fun _ => 0, g⟩
      (fun r => (∀ c : Dev Cert.KernelIdeal.nD, r.2.mem ((c.tc : Thread Cert.KernelIdeal.nD Cert.KernelIdeal.τ).loc Cert.KernelIdeal.main_v29)
        = Cert.KernelIdeal.Val.result (J c))) :=
  (θ_run _ _ _).mono (fun _ hr c => ((hr c).1 12).trans (Cert.KernelIdeal.Val.final_eq m c (J c) (h c))) (Cert.KernelIdeal.Run.run_main m g)

/-- The third layer's output is the same function of the arguments in both programs. -/
theorem zOf_eq (m : (ℓ : Loc Cert.KernelIdeal.nD Cert.KernelIdeal.τ Cert.KernelIdeal.sig) → Buf (Elt Ideal) ℓ) (c : Dev Cert.KernelIdeal.nD)
    (V : Valuation Cert.ReferenceIdeal.τ Cert.ReferenceIdeal.sig (Elt Ideal))
    (h0 : V (Proc.devRef .tc Cert.ReferenceIdeal.main_arg0) = m (c, Proc.devRef .tc Cert.KernelIdeal.main_arg0))
    (h1 : V (Proc.devRef .tc Cert.ReferenceIdeal.main_arg1) = m (c, Proc.devRef .tc Cert.KernelIdeal.main_arg1))
    (h2 : V (Proc.devRef .tc Cert.ReferenceIdeal.main_arg2) = m (c, Proc.devRef .tc Cert.KernelIdeal.main_arg2))
    (h3 : V (Proc.devRef .tc Cert.ReferenceIdeal.main_arg3) = m (c, Proc.devRef .tc Cert.KernelIdeal.main_arg3))
    (h4 : V (Proc.devRef .tc Cert.ReferenceIdeal.main_arg4) = m (c, Proc.devRef .tc Cert.KernelIdeal.main_arg4))
    (h5 : V (Proc.devRef .tc Cert.ReferenceIdeal.main_arg5) = m (c, Proc.devRef .tc Cert.KernelIdeal.main_arg5))
    (h6 : V (Proc.devRef .tc Cert.ReferenceIdeal.main_arg6) = m (c, Proc.devRef .tc Cert.KernelIdeal.main_arg6))
    (h7 : V (Proc.devRef .tc Cert.ReferenceIdeal.main_arg7) = m (c, Proc.devRef .tc Cert.KernelIdeal.main_arg7))
    (h8 : V (Proc.devRef .tc Cert.ReferenceIdeal.main_arg8) = m (c, Proc.devRef .tc Cert.KernelIdeal.main_arg8))
    (h9 : V (Proc.devRef .tc Cert.ReferenceIdeal.main_arg9) = m (c, Proc.devRef .tc Cert.KernelIdeal.main_arg9)) (n i : Fin 1024) :
    Cert.ReferenceIdeal.Ref.zOf V n i = Cert.KernelIdeal.Val.zOf m c n i := by
  unfold Cert.ReferenceIdeal.Ref.zOf Cert.KernelIdeal.Val.zOf
  rw [h0, h1, h2, h3, h4, h5, h6, h7, h8, h9]

/-- The reference leaves the same rows. -/
theorem reference_eq (m : (ℓ : Loc Cert.KernelIdeal.nD Cert.KernelIdeal.τ Cert.KernelIdeal.sig) → Buf (Elt Ideal) ℓ) (c : Dev Cert.KernelIdeal.nD)
    (V : Valuation Cert.ReferenceIdeal.τ Cert.ReferenceIdeal.sig (Elt Ideal)) (J : Fin 1024 → Fin 1024)
    (hz : ∀ n i, Cert.ReferenceIdeal.Ref.zOf V n i = Cert.KernelIdeal.Val.zOf m c n i)
    (h : ∀ n, First (fun x => Cert.KernelIdeal.Val.zOf m c n x + Spec.gumbel (Cert.KernelIdeal.Val.uOf m c n x)) (J n)) :
    (StableHlo.after Cert.ReferenceIdeal.Ref.ops V (Proc.devRef .tc Cert.ReferenceIdeal.main_v69) : Cert.KernelIdeal.S1024x1024.Idx → EReal)
      = Cert.KernelIdeal.Val.result J := by
  funext y
  obtain ⟨n, i, rfl⟩ : ∃ (n i : Fin 1024), y = ix2 n i := ⟨y 0, y 1, by ext a; fin_cases a <;> rfl⟩
  exact Cert.ReferenceIdeal.Ref.result_at V n i (Cert.KernelIdeal.Val.uOf m c n)
    (fun W x => congrFun (Noise.uniform_eq W fun b => m (c, b)) (ix2 n x)) (j := J n) (by simpa only [hz] using h n)

/-- From memories agreeing on the arguments, both run and end with equal results and unchanged arguments. -/
theorem algebraic : Cert.algebraic_KernelIdeal_ReferenceIdeal := by
  intro m g m' g' _ ha
  choose J hJ using fun (c : Dev Cert.KernelIdeal.nD) (n : Fin 1024) =>
    exists_first fun x => Cert.KernelIdeal.Val.zOf m c n x + Spec.gumbel (Cert.KernelIdeal.Val.uOf m c n x)
  refine ⟨fun c => Cert.KernelIdeal.Val.result (J c), ?_, ?_⟩
  · exact (θ_run _ _ _).mono (fun r h c => ⟨h.1 c, h.2.1 c⟩) (θ_run_and (kernel_run m g J hJ) (Cert.KernelIdeal.Run.frame m g))
  · refine (θ_run _ _ _).mono (fun r h c => ⟨(h c).1.trans ?_, (h c).2⟩) (Cert.ReferenceIdeal.Ref.run m' g')
    obtain ⟨h0, h1, h2, h3, h4, h5, h6, h7, h8, h9⟩ := ha c
    exact reference_eq m c _ (J c) (zOf_eq m c _ h0 h1 h2 h3 h4 h5 h6 h7 h8 h9) (hJ c)

end Cert.Equal

end
-- ==== Proof.lean ====
/- The proof of the certificate: the frames of the three programs, the idealisation, and equal results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelFrame
public import proofs.«01_k».proof.Proof.KernelRun
public import proofs.«01_k».proof.Proof.RefFrame
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- All the claims. -/
theorem claim : Cert.Claim := ⟨Cert.Kernel.Gen.facts, Cert.KernelIdeal.Gen.facts, Cert.ReferenceIdeal.Gen.facts,
  fun m g _ => Cert.Kernel.Run.frame m g, fun m g _ => Cert.KernelIdeal.Run.frame m g,
  fun m g _ => Cert.ReferenceIdeal.Ref.frame m g, trivial, Cert.Equal.algebraic⟩

end Cert.Proof

end
